-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![1024, 4096]⟩ ⟨2, ![4096, 4096]⟩ 0 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![4096, 512]⟩ ⟨2, ![4096, 2048]⟩ 1 4 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)) →
    ∃ (v0 : Buf (Elt Ideal) (((0 : Dev Cert.ReferenceIdeal.nD).tc : Thread Cert.ReferenceIdeal.nD Cert.ReferenceIdeal.τ).loc Cert.ReferenceIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![4096, 512]⟩ ⟨2, ![4096, 2048]⟩ 1 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v4) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1024x4096 : Shape := ⟨2, ![1024, 4096]⟩
abbrev S4096x512 : Shape := ⟨2, ![4096, 512]⟩
abbrev S1 : Shape := ⟨1, ![1]⟩
abbrev S9 : Shape := ⟨1, ![9]⟩
abbrev S5 : Shape := ⟨1, ![5]⟩
abbrev S2x9 : Shape := ⟨2, ![2, 9]⟩
abbrev S_ : Shape := ⟨0, ![]⟩
abbrev S128x4096 : Shape := ⟨2, ![128, 4096]⟩
abbrev S1x1 : Shape := ⟨2, ![1, 1]⟩
abbrev S1024x512 : Shape := ⟨2, ![1024, 512]⟩
abbrev S512x4096 : Shape := ⟨2, ![512, 4096]⟩
abbrev S512x512 : Shape := ⟨2, ![512, 512]⟩

abbrev nBuf : Space → Nat
  | .hbm => 5
  | .vmem => 8
  | .smem => 2
  | _ => 0

abbrev bufTy : (tb : Table) → Fin (tcTables nBuf tb) → BufTy
  | .hbm, ⟨0, _⟩ => ⟨S1024x4096, .f32⟩
  | .hbm, ⟨1, _⟩ => ⟨S4096x512, .f32⟩
  | .hbm, ⟨2, _⟩ => ⟨S1, .f32⟩
  | .hbm, ⟨3, _⟩ => ⟨S1, .f32⟩
  | .hbm, ⟨4, _⟩ => ⟨S4096x512, .f32⟩
  | .local _ .vmem, ⟨0, _⟩ => ⟨S1024x4096, .f32⟩
  | .local _ .vmem, ⟨1, _⟩ => ⟨S4096x512, .f32⟩
  | .local _ .vmem, ⟨2, _⟩ => ⟨S4096x512, .f32⟩
  | .local _ .vmem, ⟨3, _⟩ => ⟨S1024x4096, .fp8e4m3⟩
  | .local _ .vmem, ⟨4, _⟩ => ⟨S1024x4096, .fp8e4m3⟩
  | .local _ .vmem, ⟨5, _⟩ => ⟨S1024x4096, .fp8e4m3⟩
  | .local _ .vmem, ⟨6, _⟩ => ⟨S1024x4096, .fp8e4m3⟩
  | .local _ .vmem, ⟨7, _⟩ => ⟨S4096x512, .fp8e5m2⟩
  | .local _ .smem, ⟨0, _⟩ => ⟨S1, .f32⟩
  | .local _ .smem, ⟨1, _⟩ => ⟨S1, .f32⟩
  | _, _ => ⟨S1024x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .smem, ⟨0, _⟩ => true
  | .smem, ⟨1, _⟩ => true
  | _, _ => false

abbrev semScoped : Fin 1 → Bool
  | ⟨0, _⟩ => false
  | _ => false

abbrev dmaSemScoped : Fin 52 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | _ => false

abbrev sig : RefSig :=
  (ofTc nBuf bufTy 1 52 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩
abbrev cc0_scratch3 : Ref sig .tc := ⟨.vmem, 3, rfl⟩
abbrev cc0_scratch4 : Ref sig .tc := ⟨.vmem, 4, rfl⟩
abbrev cc0_scratch5 : Ref sig .tc := ⟨.vmem, 5, rfl⟩
abbrev cc0_scratch6 : Ref sig .tc := ⟨.vmem, 6, rfl⟩
abbrev cc0_scratch7 : Ref sig .tc := ⟨.vmem, 7, rfl⟩
abbrev cc0_stg0_0 : Ref sig .tc := ⟨.smem, 0, rfl⟩
abbrev cc0_stg1_0 : Ref sig .tc := ⟨.smem, 1, rfl⟩
abbrev cc0_sem0_0 : DmaSem sig := 0
abbrev cc0_sem1_0 : DmaSem sig := 1
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_7 : BitVec 32 := 1#32
  let v11 : BitVec 32 := Scalar.muli v5 c1_i32_7
  let v12 : BitVec 32 := Scalar.addi c0_i32 v11
  v12.toNat
def k0_dev2 (d0 : Dev nD) : Nat :=
  let c0_i32_10 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_9 : BitVec 32 := 1#32
  let v13 : BitVec 32 := Scalar.muli v7 c1_i32_9
  let v14 : BitVec 32 := Scalar.addi c0_i32_10 v13
  v14.toNat
def k0_dev3 (d0 : Dev nD) : Nat :=
  let c0_i32_54 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_53 : BitVec 32 := 1#32
  let v58 : BitVec 32 := Scalar.muli v7 c1_i32_53
  let v59 : BitVec 32 := Scalar.addi c0_i32_54 v58
  v59.toNat
def k0_dev4 (d0 : Dev nD) : Nat :=
  let c0_i32_72 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_71 : BitVec 32 := 1#32
  let v75 : BitVec 32 := Scalar.muli v5 c1_i32_71
  let v76 : BitVec 32 := Scalar.addi c0_i32_72 v75
  v76.toNat
def k0_dev5 (d0 : Dev nD) : Nat :=
  let c0_i32_90 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_89 : BitVec 32 := 1#32
  let v92 : BitVec 32 := Scalar.muli v7 c1_i32_89
  let v93 : BitVec 32 := Scalar.addi c0_i32_90 v92
  v93.toNat
def k0_dev6 (d0 : Dev nD) : Nat :=
  let c0_i32_108 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_107 : BitVec 32 := 1#32
  let v109 : BitVec 32 := Scalar.muli v5 c1_i32_107
  let v110 : BitVec 32 := Scalar.addi c0_i32_108 v109
  v110.toNat
def k0_dev7 (d0 : Dev nD) : Nat :=
  let c0_i32_126 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_125 : BitVec 32 := 1#32
  let v126 : BitVec 32 := Scalar.muli v7 c1_i32_125
  let v127 : BitVec 32 := Scalar.addi c0_i32_126 v126
  v127.toNat
def k0_dev8 (d0 : Dev nD) : Nat :=
  let c0_i32_144 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_143 : BitVec 32 := 1#32
  let v143 : BitVec 32 := Scalar.muli v5 c1_i32_143
  let v144 : BitVec 32 := Scalar.addi c0_i32_144 v143
  v144.toNat
def k0_dev9 (d0 : Dev nD) : Nat :=
  let c0_i32_162 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_161 : BitVec 32 := 1#32
  let v160 : BitVec 32 := Scalar.muli v7 c1_i32_161
  let v161 : BitVec 32 := Scalar.addi c0_i32_162 v160
  v161.toNat
def k0_dev10 (d0 : Dev nD) : Nat :=
  let c0_i32_180 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_179 : BitVec 32 := 1#32
  let v177 : BitVec 32 := Scalar.muli v5 c1_i32_179
  let v178 : BitVec 32 := Scalar.addi c0_i32_180 v177
  v178.toNat
def k0_dev11 (d0 : Dev nD) : Nat :=
  let c0_i32_190 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_189 : BitVec 32 := 1#32
  let v185 : BitVec 32 := Scalar.muli v7 c1_i32_189
  let v186 : BitVec 32 := Scalar.addi c0_i32_190 v185
  v186.toNat
def k0_dev12 (d0 : Dev nD) : Nat :=
  let c0_i32_200 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_199 : BitVec 32 := 1#32
  let v193 : BitVec 32 := Scalar.muli v7 c1_i32_199
  let v194 : BitVec 32 := Scalar.addi c0_i32_200 v193
  v194.toNat
def k0_dev13 (d0 : Dev nD) : Nat :=
  let c0_i32_210 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_209 : BitVec 32 := 1#32
  let v201 : BitVec 32 := Scalar.muli v7 c1_i32_209
  let v202 : BitVec 32 := Scalar.addi c0_i32_210 v201
  v202.toNat
def k0_dev14 (d0 : Dev nD) : Nat :=
  let c0_i32_220 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_219 : BitVec 32 := 1#32
  let v209 : BitVec 32 := Scalar.muli v7 c1_i32_219
  let v210 : BitVec 32 := Scalar.addi c0_i32_220 v209
  v210.toNat
def k0_dev15 (d0 : Dev nD) : Nat :=
  let c0_i32_230 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_229 : BitVec 32 := 1#32
  let v217 : BitVec 32 := Scalar.muli v5 c1_i32_229
  let v218 : BitVec 32 := Scalar.addi c0_i32_230 v217
  v218.toNat
def k0_dev16 (d0 : Dev nD) : Nat :=
  let c0_i32_240 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_239 : BitVec 32 := 1#32
  let v225 : BitVec 32 := Scalar.muli v5 c1_i32_239
  let v226 : BitVec 32 := Scalar.addi c0_i32_240 v225
  v226.toNat
def k0_dev17 (d0 : Dev nD) : Nat :=
  let c0_i32_250 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_249 : BitVec 32 := 1#32
  let v233 : BitVec 32 := Scalar.muli v5 c1_i32_249
  let v234 : BitVec 32 := Scalar.addi c0_i32_250 v233
  v234.toNat
def k0_dev18 (d0 : Dev nD) : Nat :=
  let c0_i32_260 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_259 : BitVec 32 := 1#32
  let v241 : BitVec 32 := Scalar.muli v5 c1_i32_259
  let v242 : BitVec 32 := Scalar.addi c0_i32_260 v241
  v242.toNat
def k0_off1 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1024_i32 : BitVec 32 := 1024#32
  let v259 : BitVec 32 := Scalar.muli v2 c1024_i32
  let v265 : Index := Scalar.indexCast v259
  let c0_276 : Index := 0#32
  ![v265.toNat, 0]
def k0_off2 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1024_i32 : BitVec 32 := 1024#32
  let v259 : BitVec 32 := Scalar.muli v2 c1024_i32
  let c0_i32_278 : BitVec 32 := 0#32
  ![v259.toNat, 0]
def k0_dev19 (d0 : Dev nD) : Nat :=
  let c0_i32_325 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_324 : BitVec 32 := 1#32
  let v297 : BitVec 32 := Scalar.muli v7 c1_i32_324
  let v298 : BitVec 32 := Scalar.addi c0_i32_325 v297
  v298.toNat
def k0_dev20 (d0 : Dev nD) : Nat :=
  let c0_i32_375 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_374 : BitVec 32 := 1#32
  let v329 : BitVec 32 := Scalar.muli v5 c1_i32_374
  let v330 : BitVec 32 := Scalar.addi c0_i32_375 v329
  v330.toNat
def k0_off3 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1024_i32_420 : BitVec 32 := 1024#32
  let v361 : BitVec 32 := Scalar.muli v5 c1024_i32_420
  let v367 : Index := Scalar.indexCast v361
  let c0_426 : Index := 0#32
  ![v367.toNat, 0]
def k0_off4 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1024_i32_420 : BitVec 32 := 1024#32
  let v361 : BitVec 32 := Scalar.muli v5 c1024_i32_420
  let c0_i32_428 : BitVec 32 := 0#32
  ![v361.toNat, 0]
def k0_off5 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1024_i32_470 : BitVec 32 := 1024#32
  let v399 : BitVec 32 := Scalar.muli v7 c1024_i32_470
  let v405 : Index := Scalar.indexCast v399
  let c0_476 : Index := 0#32
  ![v405.toNat, 0]
def k0_off6 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1024_i32_470 : BitVec 32 := 1024#32
  let v399 : BitVec 32 := Scalar.muli v7 c1024_i32_470
  let c0_i32_478 : BitVec 32 := 0#32
  ![v399.toNat, 0]
def k0_off7 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v8 : BitVec 32 := Scalar.addi v2 c2_i32
  let c4_i32_5 : BitVec 32 := 4#32
  let v9 : BitVec 32 := Scalar.remsi v8 c4_i32_5
  let c1024_i32_490 : BitVec 32 := 1024#32
  let v419 : BitVec 32 := Scalar.muli v9 c1024_i32_490
  let v425 : Index := Scalar.indexCast v419
  let c0_496 : Index := 0#32
  ![v425.toNat, 0]
def k0_off8 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v8 : BitVec 32 := Scalar.addi v2 c2_i32
  let c4_i32_5 : BitVec 32 := 4#32
  let v9 : BitVec 32 := Scalar.remsi v8 c4_i32_5
  let c1024_i32_490 : BitVec 32 := 1024#32
  let v419 : BitVec 32 := Scalar.muli v9 c1024_i32_490
  let c0_i32_498 : BitVec 32 := 0#32
  ![v419.toNat, 0]
def k0_off9 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v8 : BitVec 32 := Scalar.addi v2 c2_i32
  let c4_i32_5 : BitVec 32 := 4#32
  let v9 : BitVec 32 := Scalar.remsi v8 c4_i32_5
  let c1024_i32_510 : BitVec 32 := 1024#32
  let v439 : BitVec 32 := Scalar.muli v9 c1024_i32_510
  let c512_i32_511 : BitVec 32 := 512#32
  let v440 : BitVec 32 := Scalar.addi v439 c512_i32_511
  let v446 : Index := Scalar.indexCast v440
  let c0_517 : Index := 0#32
  ![v446.toNat, 0]
def k0_off10 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v8 : BitVec 32 := Scalar.addi v2 c2_i32
  let c4_i32_5 : BitVec 32 := 4#32
  let v9 : BitVec 32 := Scalar.remsi v8 c4_i32_5
  let c1024_i32_510 : BitVec 32 := 1024#32
  let v439 : BitVec 32 := Scalar.muli v9 c1024_i32_510
  let c512_i32_511 : BitVec 32 := 512#32
  let v440 : BitVec 32 := Scalar.addi v439 c512_i32_511
  let c0_i32_519 : BitVec 32 := 0#32
  ![v440.toNat, 0]
abbrev stage0_0 : Fin 1 → Memref sig .tc .smem S1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .smem S1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S4096x4096 : Shape := ⟨2, ![4096, 4096]⟩
abbrev S4096x2048 : Shape := ⟨2, ![4096, 2048]⟩
abbrev S1 : Shape := ⟨1, ![1]⟩
abbrev S1x1 : Shape := ⟨2, ![1, 1]⟩

abbrev nBuf : Space → Nat
  | .hbm => 9
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x2048, .f32⟩
  | .hbm, ⟨2, _⟩ => ⟨S1, .f32⟩
  | .hbm, ⟨3, _⟩ => ⟨S1, .f32⟩
  | .hbm, ⟨4, _⟩ => ⟨S4096x2048, .f32⟩
  | .hbm, ⟨5, _⟩ => ⟨S1, .f32⟩
  | .hbm, ⟨6, _⟩ => ⟨S1x1, .f32⟩
  | .hbm, ⟨7, _⟩ => ⟨S4096x2048, .f32⟩
  | .hbm, ⟨8, _⟩ => ⟨S4096x2048, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]
-- ==== Proof.KernelIdeal.Cells.lean ====
/-
The vocabulary of the kernel's proof: the ring of four devices, the buffers and the rows of them, the eighteen
remote copies each device makes (the slots), the contents the buffers come to hold, and the shares lent to copies.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Transfers
public import Idealize.ShloMosaic.Lib.Tactic

@[expose] public section

noncomputable section

namespace Cert.KernelIdealProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resource algebra: the pipeline's cells, the kernel's own cells, the local transfers' counters -/

abbrev UB : Type := URounds (GSem nD τ sig) Bool
abbrev UU : Type := UR sig nD τ × (UB × Counters)

local notation "𝕄" => MT nD τ sig Unit (Elt F) ℕ UU ℕ

abbrev EP : Emb (UR sig nD τ) (MT nD τ sig Unit (Elt F) ℕ UU ℕ) := embL
/-- The kernel's own cells live in the left half of the right factor. -/
def ER : Emb UB (MT nD τ sig Unit (Elt F) ℕ UU ℕ) :=
  ((Emb.inl : Emb UB (UB × Counters)).trans (Emb.inr : Emb (UB × Counters) UU)).trans
    (uEmb (nD := nD) (sig := sig) (Ix := Unit) (Val := Elt F) (Name := ℕ) (U := UU) (Lvl := ℕ)).toEmb
instance ER_landsIn : (ER : Emb UB 𝕄).LandsIn (upEmb : UEmb _ 𝕄) := by unfold ER; infer_instance

variable (m : (ℓ : Loc nD τ sig) → Buf (Elt F) ℓ) (ρ : Dev nD → PrngReg)

/-- The memory at launch: any contents, every semaphore counter zero. -/
def s₀ : MemSt nD τ sig (Elt F) := ⟨m, fun _ => 0, ρ⟩

/-! ## The ring -/

set_option backward.proofsInPublic true in
/-- The next device of the ring (the kernel's right neighbour). -/
def nxt (c : Dev nD) : Dev nD := ⟨(c.val + 1) % 4, Nat.mod_lt _ (by decide)⟩
set_option backward.proofsInPublic true in
/-- The previous device (the left neighbour). -/
def prv (c : Dev nD) : Dev nD := ⟨(c.val + 3) % 4, Nat.mod_lt _ (by decide)⟩
set_option backward.proofsInPublic true in
/-- The device opposite. -/
def opp (c : Dev nD) : Dev nD := ⟨(c.val + 2) % 4, Nat.mod_lt _ (by decide)⟩

theorem prv_nxt (c : Dev nD) : prv (nxt c) = c := by revert c; decide
theorem nxt_prv (c : Dev nD) : nxt (prv c) = c := by revert c; decide
theorem prv_prv (c : Dev nD) : prv (prv c) = opp c := by revert c; decide
theorem nxt_nxt (c : Dev nD) : nxt (nxt c) = opp c := by revert c; decide
theorem opp_nxt (c : Dev nD) : opp (nxt c) = prv c := by revert c; decide
theorem opp_prv (c : Dev nD) : opp (prv c) = nxt c := by revert c; decide

def ring : Dev nD ≃ Dev nD := ⟨nxt, prv, prv_nxt, nxt_prv⟩

/-! ## The slots: nine copies to the right (0..8), nine to the left (9..17) -/

/-- Whom slot `p`'s copy of device `c` goes to. -/
def peer (p : Fin 18) (c : Dev nD) : Dev nD := if p.val < 9 then nxt c else prv c
/-- Whom slot `p`'s copy into device `c` comes from. -/
def from' (p : Fin 18) (c : Dev nD) : Dev nD := if p.val < 9 then prv c else nxt c

theorem from_peer (p : Fin 18) (c : Dev nD) : from' p (peer p c) = c := by
  unfold from' peer; split <;> simp only [prv_nxt, nxt_prv]
theorem peer_from (p : Fin 18) (c : Dev nD) : peer p (from' p c) = c := by
  unfold from' peer; split <;> simp only [prv_nxt, nxt_prv]

def peerEquiv (p : Fin 18) : Dev nD ≃ Dev nD := ⟨peer p, from' p, from_peer p, peer_from p⟩

set_option backward.proofsInPublic true in
/-- The send semaphore of a slot. -/
def sendS (p : Fin 18) : DmaSem sig := ⟨16 + p.val, by have := p.isLt; show 16 + p.val < 52; omega⟩
set_option backward.proofsInPublic true in
/-- The receive semaphore of a slot. -/
def recvS (p : Fin 18) : DmaSem sig := ⟨34 + p.val, by have := p.isLt; show 34 + p.val < 52; omega⟩
set_option backward.proofsInPublic true in
/-- The nine semaphores of the loads into VMEM. -/
def loadS (l : Fin 9) : DmaSem sig := ⟨2 + l.val, by have := l.isLt; show 2 + l.val < 52; omega⟩
set_option backward.proofsInPublic true in
/-- The five semaphores of the stores to HBM. -/
def storeS (l : Fin 5) : DmaSem sig := ⟨11 + l.val, by have := l.isLt; show 11 + l.val < 52; omega⟩
set_option backward.proofsInPublic true in
/-- The slot a send or a receive semaphore belongs to. -/
def slotOf (s : DmaSem sig) : Fin 18 := ⟨(s.val + 2) % 18, Nat.mod_lt _ (by decide)⟩

theorem slotOf_send (p : Fin 18) : slotOf (sendS p) = p := by revert p; decide
theorem slotOf_recv (p : Fin 18) : slotOf (recvS p) = p := by revert p; decide

/-- The runtime's barrier semaphore. -/
abbrev barS : Sem sig := (SemArray.scalar (sig.barrier 0 rfl) : Sems sig S_).sem

abbrev barCell (c : Dev nD) : GSem nD τ sig := ((c : Thread nD τ), .reg barS)
abbrev sendCell (c : Dev nD) (p : Fin 18) : GSem nD τ sig := ((c : Thread nD τ), .dma (sendS p))
abbrev recvCell (c : Dev nD) (p : Fin 18) : GSem nD τ sig := ((c : Thread nD τ), .dma (recvS p))

/-! ## Buffers and rows -/

abbrev xM : Memref sig .tc .hbm S1024x4096 .f32 := Memref.whole main_arg0
abbrev wM : Memref sig .tc .hbm S4096x512 .f32 := Memref.whole main_arg1
abbrev outM : Memref sig .tc .hbm S4096x512 .f32 := Memref.whole main_v1
abbrev xstM : Memref sig .tc .vmem S1024x4096 .f32 := Memref.whole cc0_scratch0
abbrev wstM : Memref sig .tc .vmem S4096x512 .f32 := Memref.whole cc0_scratch1
abbrev ostM : Memref sig .tc .vmem S4096x512 .f32 := Memref.whole cc0_scratch2
abbrev ownM : Memref sig .tc .vmem S1024x4096 .fp8e4m3 := Memref.whole cc0_scratch3
abbrev flM : Memref sig .tc .vmem S1024x4096 .fp8e4m3 := Memref.whole cc0_scratch4
abbrev frM : Memref sig .tc .vmem S1024x4096 .fp8e4m3 := Memref.whole cc0_scratch5
abbrev opM : Memref sig .tc .vmem S1024x4096 .fp8e4m3 := Memref.whole cc0_scratch6
abbrev w8M : Memref sig .tc .vmem S4096x512 .fp8e5m2 := Memref.whole cc0_scratch7

/-- Rows `a ≤ r < b` of a 1024 × 4096 array. -/
def rowsA (a b : ℕ) : Finset S1024x4096.Idx := Finset.univ.filter fun i => a ≤ (i (0 : Fin 2)).val ∧ (i (0 : Fin 2)).val < b
/-- Rows `a ≤ r < b` of a 4096 × 512 array. -/
def rowsB (a b : ℕ) : Finset S4096x512.Idx := Finset.univ.filter fun i => a ≤ (i (0 : Fin 2)).val ∧ (i (0 : Fin 2)).val < b

theorem mem_rowsA {a b : ℕ} {i : S1024x4096.Idx} : i ∈ rowsA a b ↔ a ≤ (i (0 : Fin 2)).val ∧ (i (0 : Fin 2)).val < b := by
  unfold rowsA; rw [Finset.mem_filter]; exact ⟨fun h => h.2, fun h => ⟨Finset.mem_univ _, h⟩⟩
theorem mem_rowsB {a b : ℕ} {i : S4096x512.Idx} : i ∈ rowsB a b ↔ a ≤ (i (0 : Fin 2)).val ∧ (i (0 : Fin 2)).val < b := by
  unfold rowsB; rw [Finset.mem_filter]; exact ⟨fun h => h.2, fun h => ⟨Finset.mem_univ _, h⟩⟩

theorem rowsA_all : rowsA 0 1024 = Finset.univ :=
  Finset.eq_univ_of_forall fun i => mem_rowsA.mpr ⟨Nat.zero_le _, (i (0 : Fin 2)).isLt⟩
theorem rowsB_all : rowsB 0 4096 = Finset.univ :=
  Finset.eq_univ_of_forall fun i => mem_rowsB.mpr ⟨Nat.zero_le _, (i (0 : Fin 2)).isLt⟩

theorem rowsA_disjoint {a b a' b' : ℕ} (h : b ≤ a') : Disjoint (rowsA a b) (rowsA a' b') :=
  Finset.disjoint_left.mpr fun i h1 h2 => by rw [mem_rowsA] at h1 h2; omega
theorem rowsA_union {a b d : ℕ} (h : a ≤ b) (h' : b ≤ d) : rowsA a b ∪ rowsA b d = rowsA a d :=
  Finset.ext fun i => by rw [Finset.mem_union, mem_rowsA, mem_rowsA, mem_rowsA]; omega
theorem rowsB_disjoint {a b a' b' : ℕ} (h : b ≤ a') : Disjoint (rowsB a b) (rowsB a' b') :=
  Finset.disjoint_left.mpr fun i h1 h2 => by rw [mem_rowsB] at h1 h2; omega
theorem rowsB_union {a b d : ℕ} (h : a ≤ b) (h' : b ≤ d) : rowsB a b ∪ rowsB b d = rowsB a d :=
  Finset.ext fun i => by rw [Finset.mem_union, mem_rowsB, mem_rowsB, mem_rowsB]; omega

/-- The rectangle of `n` whole rows from row `a` is those rows. -/
theorem set_unitA {a n : ℕ} {inb : ∀ x, (![a, 0] : Fin 2 → ℕ) x + (![n, 4096] : Fin 2 → ℕ) x ≤ S1024x4096.size x} :
    (Rect.unit (s := S1024x4096) ![a, 0] ![n, 4096] inb).set = rowsA a (a + n) := by
  ext i
  rw [Rect.mem_set_unit, mem_rowsA]
  refine ⟨fun h => h (0 : Fin 2), fun h => Fin.forall_fin_two.mpr ⟨h, Nat.zero_le _, ?_⟩⟩
  have := (i (1 : Fin 2)).isLt
  show (i (1 : Fin 2)).val < 0 + 4096
  rw [Nat.zero_add]; exact this
theorem set_unitB {a n : ℕ} {inb : ∀ x, (![a, 0] : Fin 2 → ℕ) x + (![n, 512] : Fin 2 → ℕ) x ≤ S4096x512.size x} :
    (Rect.unit (s := S4096x512) ![a, 0] ![n, 512] inb).set = rowsB a (a + n) := by
  ext i
  rw [Rect.mem_set_unit, mem_rowsB]
  refine ⟨fun h => h (0 : Fin 2), fun h => Fin.forall_fin_two.mpr ⟨h, Nat.zero_le _, ?_⟩⟩
  have := (i (1 : Fin 2)).isLt
  show (i (1 : Fin 2)).val < 0 + 512
  rw [Nat.zero_add]; exact this

/-! ## Contents -/

/-- Device `c`'s block of `x`, of `w`, and its copies of the two scales. -/
def xC (c : Dev nD) : S1024x4096.Idx → Elt F .f32 := m ((c : Thread nD τ).loc main_arg0)
def wC (c : Dev nD) : S4096x512.Idx → Elt F .f32 := m ((c : Thread nD τ).loc main_arg1)
/-- The scales as the body finds them staged. -/
def sxC (c : Dev nD) : (cc0_stg0_0 : Ref sig .tc).ty.Contents (Elt F) :=
  (win0_0.blk (0 : Fin 1)).view.read (Elt F) ((s₀ m ρ).mem ((c : Thread nD τ).loc main_arg2))
def swC (c : Dev nD) : (cc0_stg1_0 : Ref sig .tc).ty.Contents (Elt F) :=
  (win0_1.blk (0 : Fin 1)).view.read (Elt F) ((s₀ m ρ).mem ((c : Thread nD τ).loc main_arg3))

/-- Device `c`'s block of `x` and of `w` cast, which is what its `own` buffer and its `w8` buffer come to hold. -/
def ownC (c : Dev nD) : S1024x4096.Idx → Elt F .fp8e4m3 := truncf .fp8e4m3 (xC m c) bitsLt_fp8e4m3_f32
def w8C (c : Dev nD) : S4096x512.Idx → Elt F .fp8e5m2 := truncf .fp8e5m2 (wC m c) bitsLt_fp8e5m2_f32

/-! ## Points-to of rows of the buffers the copies touch -/

abbrev xPts (c : Dev nD) (a b : ℕ) (q : PosShare TreeShare) (f : S1024x4096.Idx → Elt F .f32) : sProp 𝕄 := ((c : Thread nD τ).loc main_arg0) ↦[rowsA a b]{q} f
abbrev xstPts (c : Dev nD) (a b : ℕ) (q : PosShare TreeShare) (f : S1024x4096.Idx → Elt F .f32) : sProp 𝕄 := ((c : Thread nD τ).loc cc0_scratch0) ↦[rowsA a b]{q} f
abbrev ownPts (c : Dev nD) (a b : ℕ) (q : PosShare TreeShare) (f : S1024x4096.Idx → Elt F .fp8e4m3) : sProp 𝕄 := ((c : Thread nD τ).loc cc0_scratch3) ↦[rowsA a b]{q} f
abbrev flPts (c : Dev nD) (a b : ℕ) (q : PosShare TreeShare) (f : S1024x4096.Idx → Elt F .fp8e4m3) : sProp 𝕄 := ((c : Thread nD τ).loc cc0_scratch4) ↦[rowsA a b]{q} f
abbrev frPts (c : Dev nD) (a b : ℕ) (q : PosShare TreeShare) (f : S1024x4096.Idx → Elt F .fp8e4m3) : sProp 𝕄 := ((c : Thread nD τ).loc cc0_scratch5) ↦[rowsA a b]{q} f
abbrev opPts (c : Dev nD) (a b : ℕ) (q : PosShare TreeShare) (f : S1024x4096.Idx → Elt F .fp8e4m3) : sProp 𝕄 := ((c : Thread nD τ).loc cc0_scratch6) ↦[rowsA a b]{q} f

/-- The share of `own` rows lent to the copy to the right, the one lent to the copy to the left, and the one kept. -/
abbrev sh0 : PosShare TreeShare := fullShare.left
abbrev sh1 : PosShare TreeShare := fullShare.right.left
abbrev shK : PosShare TreeShare := fullShare.right.right

end Cert.KernelIdealProof

end
-- ==== Proof.KernelIdeal.Sched.lean ====
/-
The schedule of the kernel's cells: what each semaphore's round is worth, what it hands over, what a device owes at
launch and in what order it pays, and the levels that show no wait can starve.
-/
module

public import proofs.«01_k».proof.Proof.KernelIdeal.Cells

@[expose] public section

noncomputable section

namespace Cert.KernelIdealProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-! ## Credits -/

/-- The credit of a 128-row copy and of a 512-row copy. -/
abbrev NA : ℕ := (flM.slice (Rect.unit (s := S1024x4096) ![0, 0] S128x4096.size inb_S1024x4096_S128x4096_0_0) (fun _ => rfl)).view.dmaCredit
abbrev NB : ℕ := (opM.slice (Rect.unit (s := S1024x4096) ![0, 0] S512x4096.size inb_S1024x4096_S512x4096_0_0) (fun _ => rfl)).view.dmaCredit
theorem NA_pos : 0 < NA := View.dmaCredit_pos _ (by decide)
theorem NB_pos : 0 < NB := View.dmaCredit_pos _ (by decide)

/-- The credit of slot `p`'s copy: slots 8 and 17 relay half a buffer. -/
def credit (p : Fin 18) : ℕ := if p.val % 9 = 8 then NB else NA
theorem credit_pos (p : Fin 18) : 0 < credit p := by unfold credit; split; exacts [NB_pos, NA_pos]
theorem credit_A (p : Fin 18) (h : p.val % 9 ≠ 8) : credit p = NA := if_neg h
theorem credit_B (p : Fin 18) (h : p.val % 9 = 8) : credit p = NB := if_pos h

/-! ## Payloads -/

/-- What the two signals hand device `c`: the right neighbour's landing rows for the copies to the right, the left
    neighbour's for the copies to the left. -/
def barPay (c : Dev nD) (d : Bool) : sProp 𝕄 :=
  if d then iprop((∃ f, frPts (F := F) (prv c) 0 1024 fullShare f) ∗ ∃ f, opPts (F := F) (prv c) 512 1024 fullShare f)
  else iprop((∃ f, flPts (F := F) (nxt c) 0 1024 fullShare f) ∗ ∃ f, opPts (F := F) (nxt c) 0 512 fullShare f)

/-- What slot `p`'s copy into device `c` hands it: the rows landed. -/
def recvPay (c : Dev nD) (p : Fin 18) : sProp 𝕄 :=
  if p.val < 8 then flPts c (128 * p.val) (128 * p.val + 128) fullShare (ownC m (prv c))
  else if p.val = 8 then opPts c 0 512 fullShare (ownC m (opp c))
  else if p.val < 17 then frPts c (128 * (p.val - 9)) (128 * (p.val - 9) + 128) fullShare (ownC m (nxt c))
  else opPts c 512 1024 fullShare (ownC m (opp c))

/-- What the completion of device `c`'s slot-`p` copy hands back: the share of the rows it read. -/
def sendPay (c : Dev nD) (p : Fin 18) : sProp 𝕄 :=
  if p.val < 8 then ownPts c (128 * p.val) (128 * p.val + 128) sh0 (ownC m c)
  else if p.val = 8 then flPts c 0 512 fullShare.left (ownC m (prv c))
  else if p.val < 17 then ownPts c (128 * (p.val - 9)) (128 * (p.val - 9) + 128) sh1 (ownC m c)
  else frPts c 512 1024 fullShare.left (ownC m (nxt c))

instance barPay_storable (c : Dev nD) (d : Bool) : BI.Storable (upEmb : UEmb _ 𝕄) (barPay (F := F) c d) := by
  unfold barPay; split <;> infer_instance
instance recvPay_storable (c : Dev nD) (p : Fin 18) : BI.Storable (upEmb : UEmb _ 𝕄) (recvPay m c p) := by
  unfold recvPay; (repeat' split) <;> infer_instance
instance sendPay_storable (c : Dev nD) (p : Fin 18) : BI.Storable (upEmb : UEmb _ 𝕄) (sendPay m c p) := by
  unfold sendPay; (repeat' split) <;> infer_instance

/-! ## The schedule -/

/-- One round per cell: the barrier's two duties of a unit, one duty of the copy's credit on a send or receive cell. -/
def sched : Rounds.Schedule (GSem nD τ sig) Bool 𝕄 where
  duties g r := if r = 0 ∧ g.1.2 = .tc then (match g.2 with | .reg _ => Finset.univ | .dma s => if 16 ≤ s.val then {false} else ∅) else ∅
  unitless _ := False
  amount g _ _ := match g.2 with | .reg _ => 1 | .dma s => credit (slotOf s)
  payload g _ d := match g.2 with
    | .reg _ => barPay g.1.1 d
    | .dma s => if s.val < 34 then sendPay m g.1.1 (slotOf s) else recvPay m g.1.1 (slotOf s)
  amount_pos g _ _ _ := by
    rcases g with ⟨t, s | s⟩
    · exact Nat.one_pos
    · exact credit_pos _

instance sched_storable (g : GSem nD τ sig) (r : ℕ) (d : Bool) : BI.Storable (upEmb : UEmb _ 𝕄) ((sched m).payload g r d) := by
  rcases g with ⟨t, s | s⟩
  · exact barPay_storable _ _
  · show BI.Storable upEmb (if s.val < 34 then sendPay m t.1 (slotOf s) else recvPay m t.1 (slotOf s))
    split <;> infer_instance

section Sched
variable (c : Dev nD) (p : Fin 18)

theorem duties_bar : (sched m).duties (barCell c) 0 = Finset.univ := by
  dsimp only [sched]; exact if_pos ⟨rfl, rfl⟩
theorem duties_send : (sched m).duties (sendCell c p) 0 = {false} :=
  by dsimp only [sched]; exact (if_pos ⟨rfl, rfl⟩).trans (if_pos (show 16 ≤ 16 + p.val by omega))
theorem duties_recv : (sched m).duties (recvCell c p) 0 = {false} :=
  by dsimp only [sched]; exact (if_pos ⟨rfl, rfl⟩).trans (if_pos (show 16 ≤ 34 + p.val by omega))
theorem duties_later (g : GSem nD τ sig) : ∀ r, 1 ≤ r → (sched m).duties g r = ∅ :=
  fun r hr => by dsimp only [sched]; exact if_neg fun h => by omega

theorem amount_bar (d : Bool) : (sched m).amount (barCell c) 0 d = 1 := rfl
theorem amount_send (d : Bool) : (sched m).amount (sendCell c p) 0 d = credit p := congrArg credit (slotOf_send p)
theorem amount_recv (d : Bool) : (sched m).amount (recvCell c p) 0 d = credit p := congrArg credit (slotOf_recv p)

theorem expect_bar : (sched m).expect (barCell c) 0 = 2 := by
  unfold Schedule.expect Schedule.amountOf
  rw [duties_bar, Finset.sum_congr rfl fun d _ => amount_bar m c d, Finset.sum_const, Finset.card_univ, Fintype.card_bool, smul_eq_mul]
theorem expect_send : (sched m).expect (sendCell c p) 0 = credit p := by
  unfold Schedule.expect Schedule.amountOf; rw [duties_send, Finset.sum_singleton, amount_send]
theorem expect_recv : (sched m).expect (recvCell c p) 0 = credit p := by
  unfold Schedule.expect Schedule.amountOf; rw [duties_recv, Finset.sum_singleton, amount_recv]

theorem payload_bar (d : Bool) : (sched m).payload (barCell c) 0 d = barPay c d := rfl
theorem payload_send (d : Bool) : (sched m).payload (sendCell c p) 0 d = sendPay m c p := by
  show (if 16 + p.val < 34 then sendPay m c (slotOf (sendS p)) else recvPay m c (slotOf (sendS p))) = _
  rw [if_pos (by have := p.isLt; omega), slotOf_send]
theorem payload_recv (d : Bool) : (sched m).payload (recvCell c p) 0 d = recvPay m c p := by
  show (if 34 + p.val < 34 then sendPay m c (slotOf (recvS p)) else recvPay m c (slotOf (recvS p))) = _
  rw [if_neg (by omega), slotOf_recv]

theorem rest_bar : bigSep ((sched m).duties (barCell c) 0 \ ∅) (fun d => (sched m).payload (barCell c) 0 d)
    = iprop(barPay c false ∗ barPay c true) := by
  rw [Finset.sdiff_empty, duties_bar, bigSep_univ_eq_bigSepL [false, true] (by decide) (by decide), bigSepL_cons_cons, bigSepL_singleton]
  rfl
theorem rest_send : bigSep ((sched m).duties (sendCell c p) 0 \ ∅) (fun d => (sched m).payload (sendCell c p) 0 d) = sendPay m c p := by
  rw [Finset.sdiff_empty, duties_send, bigSep_singleton, payload_send]
theorem rest_recv : bigSep ((sched m).duties (recvCell c p) 0 \ ∅) (fun d => (sched m).payload (recvCell c p) 0 d) = recvPay m c p := by
  rw [Finset.sdiff_empty, duties_recv, bigSep_singleton, payload_recv]

end Sched

/-! ## What a device owes, in the order it pays -/

/-- The order in which a device issues (and at the end awaits) its eighteen copies. -/
abbrev order : List (Fin 18) := [0, 13, 1, 14, 2, 15, 3, 16, 4, 5, 6, 7, 9, 10, 11, 12, 8, 17]

/-- What device `c` owes while the copies of `l` remain to be issued. -/
def oweL (c : Dev nD) : List (Fin 18) → CellTallies nD τ sig Unit
  | [] => 0
  | p :: l => oweL c l + tallyAt (recvCell (peer p c) p) () (credit p)

/-- At launch: every copy, and a unit to both neighbours' barriers, the left one's paid first. -/
def O₁ (c : Dev nD) : CellTallies nD τ sig Unit := oweL c order + tallyAt (barCell (nxt c)) () 1
def O₀ (c : Dev nD) : CellTallies nD τ sig Unit := O₁ c + tallyAt (barCell (prv c)) () 1

def L (g : GSem nD τ sig) : Finset Unit := if g.1.2 = .tc then {()} else ∅
theorem L_of_ne (g : GSem nD τ sig) (h : g.1.2 ≠ .tc) : L g = ∅ := if_neg h
theorem L_tc (c : Dev nD) (sm : SemLoc sig) : L ((c : Thread nD τ), sm) = {()} := if_pos rfl

/-- Levels: the barriers 1, the neighbours' copies 2, the relayed copies 3, everything local 0. -/
def lvS (sm : SemLoc sig) : ℕ := match sm with
  | .reg _ => 1
  | .dma s => if s.val < 34 then 0 else if s.val = 42 ∨ s.val = 51 then 3 else 2
def lv (g : GSem nD τ sig) (_ : Unit) : ℕ := lvS g.2

theorem oweL_pos {c : Dev nD} {l : List (Fin 18)} {g : GSem nD τ sig} {u : Unit} (h : 0 < oweL c l g u) :
    ∃ p ∈ l, g = recvCell (peer p c) p := by
  induction l with
  | nil => exact absurd h (Nat.lt_irrefl 0)
  | cons p l ih =>
    unfold oweL at h
    rw [Pi.add_apply, Finsupp.add_apply, tallyAt_apply] at h
    by_cases hg : g = recvCell (peer p c) p ∧ u = ()
    · exact ⟨p, List.mem_cons_self, hg.1⟩
    · rw [if_neg hg, Nat.add_zero] at h
      obtain ⟨p', hp', e⟩ := ih h
      exact ⟨p', List.mem_cons_of_mem _ hp', e⟩

theorem O₀_pos {c : Dev nD} {g : GSem nD τ sig} {u : Unit} (h : 0 < O₀ c g u) :
    (∃ p, g = recvCell (peer p c) p) ∨ ∃ d, g = barCell d := by
  unfold O₀ O₁ at h
  rw [Pi.add_apply, Finsupp.add_apply, Pi.add_apply, Finsupp.add_apply, tallyAt_apply, tallyAt_apply] at h
  by_cases h1 : g = barCell (prv c) ∧ u = ()
  · exact .inr ⟨_, h1.1⟩
  by_cases h2 : g = barCell (nxt c) ∧ u = ()
  · exact .inr ⟨_, h2.1⟩
  rw [if_neg h1, if_neg h2] at h
  obtain ⟨p, -, e⟩ := oweL_pos (c := c) (l := order) (g := g) (u := u) h
  exact .inl ⟨p, e⟩

theorem lv_recv (p : Fin 18) : 2 ≤ lvS (.dma (recvS p)) := by revert p; decide
theorem lv_recv_relay (p : Fin 18) (h : p.val % 9 = 8) : lvS (.dma (recvS p)) = 3 := by revert p; decide
theorem lv_recv_near (p : Fin 18) (h : p.val % 9 ≠ 8) : lvS (.dma (recvS p)) = 2 := by revert p; decide
theorem lv_send (p : Fin 18) : lvS (.dma (sendS p)) = 0 := by revert p; decide

/-- A wait on `sm` may not starve if everything owed lies on a cell of a higher level. -/
theorem mayWait_of (c : Dev nD) (sm : SemLoc sig) (O : CellTallies nD τ sig Unit)
    (h : ∀ g u, 0 < O g u → g.1.2 = .tc ∧ lvS sm < lvS g.2) :
    (levAts L lv : sProp 𝕄) ⊢ MayWait (c : Thread nD τ) sm () O :=
  MayOwe.of_cut (L := L) (lev := lv) (lvS sm) (fun p hp => by rw [Finset.mem_singleton.mp hp, L_tc]; exact Finset.mem_singleton_self _)
    (fun g u hg => by unfold L; rw [if_pos (h g u hg).1]; exact Finset.mem_singleton_self _)
    (fun p hp => by rw [Finset.mem_singleton.mp hp]; exact le_refl _)
    (fun g u hg => (h g u hg).2)

/-- A local wait (level 0) may be made at launch already. -/
theorem mayWait_O₀ (c : Dev nD) (sm : SemLoc sig) (hs : lvS sm = 0) : (levAts L lv : sProp 𝕄) ⊢ MayWait (c : Thread nD τ) sm () (O₀ c) :=
  mayWait_of c sm _ fun g u hg => by
    rcases O₀_pos hg with ⟨p, rfl⟩ | ⟨d, rfl⟩
    · exact ⟨rfl, by rw [hs]; exact Nat.lt_of_lt_of_le (by decide) (lv_recv p)⟩
    · exact ⟨rfl, by rw [hs]; exact Nat.one_pos⟩
/-- A wait of level at most 1 may be made while copies are owed; -/
theorem mayWait_low (c : Dev nD) (sm : SemLoc sig) (hs : lvS sm ≤ 1) (l : List (Fin 18)) :
    (levAts L lv : sProp 𝕄) ⊢ MayWait (c : Thread nD τ) sm () (oweL c l) :=
  mayWait_of c sm _ fun g u hg => by
    obtain ⟨p, -, rfl⟩ := oweL_pos hg
    exact ⟨rfl, Nat.lt_of_le_of_lt hs (lv_recv p)⟩
/-- one on a neighbour's copy while only relayed copies are owed. -/
theorem mayWait_near (c : Dev nD) (sm : SemLoc sig) (hs : lvS sm ≤ 2) (l : List (Fin 18)) (hl : ∀ p ∈ l, p.val % 9 = 8) :
    (levAts L lv : sProp 𝕄) ⊢ MayWait (c : Thread nD τ) sm () (oweL c l) :=
  mayWait_of c sm _ fun g u hg => by
    obtain ⟨p, hp, rfl⟩ := oweL_pos hg
    exact ⟨rfl, Nat.lt_of_le_of_lt hs (by rw [lv_recv_relay p (hl p hp)]; decide)⟩

end Cert.KernelIdealProof

end
-- ==== Proof.KernelIdeal.State.lean ====
/-
The state of the kernel's run on one device: the cells' invariants, and, in lists, the copies still to be issued, in
flight, still to be received, and done.
-/
module

public import proofs.«01_k».proof.Proof.KernelIdeal.Sched

@[expose] public section

noncomputable section

namespace Cert.KernelIdealProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

abbrev 𝒱₀ : Variants := Variants.none

/-! ## The cells of a device: its barrier, its send and its receive semaphores -/

abbrev CK : Type := Option (Bool × Fin 18)

/-- The semaphore of a cell: none the barrier's, `(false, p)` slot `p`'s send, `(true, p)` its receive semaphore. -/
def ksem : CK → SemLoc sig
  | none => .reg barS
  | some (false, p) => .dma (sendS p)
  | some (true, p) => .dma (recvS p)
abbrev kcell (x : Dev nD × CK) : GSem nD τ sig := ((x.1 : Thread nD τ), ksem x.2)

/-- Every cell's invariant, under the names `N`, and that every cell has reached its round 0. -/
def records (N : Dev nD × CK → ℕ) : sProp 𝕄 :=
  iprop((bigSep Finset.univ fun x : Dev nD × CK => cellInv ER (sched m) (N x) (kcell x))
    ∗ bigSep Finset.univ fun x : Dev nD × CK => reached ER (kcell x) 0)
instance records_persistent (N : Dev nD × CK → ℕ) : BI.Persistent (records m N) := by unfold records; infer_instance

theorem inv_at (N : Dev nD × CK → ℕ) (x : Dev nD × CK) :
    (bigSep Finset.univ fun x : Dev nD × CK => (cellInv ER (sched m) (N x) (kcell x) : sProp 𝕄)) ⊢ cellInv ER (sched m) (N x) (kcell x) :=
  bigSep_elim (Finset.mem_univ x)
theorem reached_at (x : Dev nD × CK) :
    (bigSep Finset.univ fun x : Dev nD × CK => (reached ER (kcell x) 0 : sProp 𝕄)) ⊢ reached ER (kcell x) 0 :=
  bigSep_elim (Finset.mem_univ x)
theorem records_inv (N : Dev nD × CK → ℕ) (x : Dev nD × CK) : records m N ⊢ cellInv ER (sched m) (N x) (kcell x) := by
  unfold records
  iintro ⟨H, -⟩
  iapply (inv_at m N x); iexact H
theorem records_reached (N : Dev nD × CK → ℕ) (x : Dev nD × CK) : records m N ⊢ reached ER (kcell x) 0 := by
  unfold records
  iintro ⟨-, H⟩
  iapply (reached_at (F := F) x); iexact H

/-- The persistent facts of a run: the cells' invariants and the levels. -/
def ctx (N : Dev nD × CK → ℕ) : sProp 𝕄 := iprop(records m N ∗ levAts L lv)
instance ctx_persistent (N : Dev nD × CK → ℕ) : BI.Persistent (ctx m N) := by unfold ctx; infer_instance

/-! ## Lists of slots -/

/-- `Φ` at every slot of a list. -/
def seqL (Φ : Fin 18 → sProp 𝕄) : List (Fin 18) → sProp 𝕄
  | [] => iprop(emp)
  | p :: l => iprop(Φ p ∗ seqL Φ l)

theorem seqL_cons (Φ : Fin 18 → sProp 𝕄) (p : Fin 18) (l : List (Fin 18)) : seqL Φ (p :: l) = iprop(Φ p ∗ seqL Φ l) := rfl
theorem seqL_nil (Φ : Fin 18 → sProp 𝕄) : seqL Φ [] = iprop(emp) := rfl
theorem seqL_eq (Φ : Fin 18 → sProp 𝕄) (l : List (Fin 18)) (hl : l.Nodup) : seqL Φ l = bigSep l.toFinset Φ := by
  induction l with
  | nil => rw [List.toFinset_nil, bigSep_empty]; rfl
  | cons p l ih =>
    rw [List.nodup_cons] at hl
    rw [seqL_cons, List.toFinset_cons, bigSep_insert (by rw [List.mem_toFinset]; exact hl.1), ih hl.2]
    rfl
theorem seqL_reorder (Φ : Fin 18 → sProp 𝕄) {l l' : List (Fin 18)} (hl : l.Nodup) (hl' : l'.Nodup) (h : l.toFinset = l'.toFinset) : seqL Φ l = seqL Φ l' := by
  rw [seqL_eq Φ l hl, seqL_eq Φ l' hl', h]

/-! ## The parts of the state -/

/-- Device `c` owes `O`, whatever it has waited on. -/
def owesE (c : Dev nD) (O : CellTallies nD τ sig Unit) : sProp 𝕄 := iprop(∃ W, owes (c : Thread nD τ) O W)

/-- The rows slot `p`'s copy lands in, on the device it goes to. -/
def land (c : Dev nD) (p : Fin 18) : sProp 𝕄 :=
  if p.val < 8 then iprop(∃ f, flPts (F := F) (peer p c) (128 * p.val) (128 * p.val + 128) fullShare f)
  else if p.val = 8 then iprop(∃ f, opPts (F := F) (peer p c) 0 512 fullShare f)
  else if p.val < 17 then iprop(∃ f, frPts (F := F) (peer p c) (128 * (p.val - 9)) (128 * (p.val - 9) + 128) fullShare f)
  else iprop(∃ f, opPts (F := F) (peer p c) 512 1024 fullShare f)

/-- The tokens slot `p`'s copy pays with, and the position at its send cell. -/
def sendTok (c : Dev nD) (p : Fin 18) : sProp 𝕄 :=
  iprop(dutyTok ER (sendCell c p) 0 false ∗ dutyTok ER (recvCell (peer p c) p) 0 false ∗ atPos ER (sendCell c p) 0 ∅ 0)
/-- A copy not yet issued. -/
def sendRes (c : Dev nD) (p : Fin 18) : sProp 𝕄 := iprop(sendTok c p ∗ land (F := F) c p)
/-- A copy issued: the credit its send cell is waited on with. -/
def back (c : Dev nD) (p : Fin 18) : sProp 𝕄 := iprop(atPos ER (sendCell c p) 0 ∅ 0 ∗ cred (tallyAt (sendCell c p) () (credit p)))
/-- A copy seen complete: its send counter, and the share of the source back. -/
def doneS (c : Dev nD) (p : Fin 18) : sProp 𝕄 := iprop(semVal (sendCell c p) 0 ∗ sendPay m c p)
/-- A copy not yet received. -/
def recvRes (c : Dev nD) (p : Fin 18) : sProp 𝕄 := iprop(atPos ER (recvCell c p) 0 ∅ 0 ∗ cred (tallyAt (recvCell c p) () (credit p)))
/-- A copy received. -/
def doneR (c : Dev nD) (p : Fin 18) : sProp 𝕄 := semVal (recvCell c p) 0

/-- The state of the copies: to issue, in flight, to receive, received, complete. -/
def mid (c : Dev nD) (lo lb lr lz ls : List (Fin 18)) : sProp 𝕄 :=
  iprop(owesE (F := F) c (oweL c lo) ∗ seqL (sendRes (F := F) c) lo ∗ seqL (back (F := F) c) lb ∗ seqL (recvRes (F := F) c) lr ∗ seqL (doneR (F := F) c) lz ∗ seqL (doneS m c) ls)

end Cert.KernelIdealProof

end
-- ==== Proof.KernelIdeal.Steps.lean ====
/-
One rule for each kind of effect on a remote copy: issuing it, awaiting its landing, awaiting its completion.
-/
module

public import proofs.«01_k».proof.Proof.KernelIdeal.State

@[expose] public section

noncomputable section

namespace Cert.KernelIdealProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

variable (N : Dev nD × CK → ℕ)

/-! ## Slices and copies -/

theorem slice_set (b : Ref sig .tc) (r : Rect b.ty.shape) (h) : ((Memref.whole b).slice r h).view.set = r.set := View.set_slice_whole b r

/-! ## A copy to a neighbour issued -/

/-- A copy issued, whatever buffers it is between: the tokens of its two cells go, its send credit comes. -/
theorem send_gen (c n : Dev nD) (p : Fin 18) (hn : n = peer p c) {s : Shape} {e : EltTy} {src : Memref sig .tc .vmem s e}
    {dst : Memref sig (Dev.tc n : Thread nD τ).2.kind .vmem s e} {s₁ s₂ : DmaSem sig} (h₁ : s₁ = sendS p) (h₂ : s₂ = recvS p)
    {hsc : dst.view.ref.isScScratch = false} {hsrc : src.view.WordExact} {hdst : dst.view.WordExact}
    {hsem : DmaTarget.Typed .vmem (.dma s₂) (.remote (Dev.tc n : Thread nD τ) dst (.dma s₁) hsc)}
    {α : Type} {Q : α → sProp 𝕄} {k : PUnit → Prog (TpuEff nD τ sig (Elt F) Λ₀ .tc) α} {q : PosShare TreeShare}
    {fs : Buf (Elt F) (src.view.loc (c : Thread nD τ))} {fd : Buf (Elt F) (dst.view.loc (Dev.tc n : Thread nD τ))} {lo : List (Fin 18)}
    (hN : dst.view.amount (.dma s₂) = credit p)
    (hpay₁ : (src.view.loc (c : Thread nD τ) ↦[src.view.set]{q} fs) ⊢ sendPay m c p)
    (hpay₂ : (dst.view.loc (Dev.tc n : Thread nD τ) ↦[dst.view.set]{fullShare} (dst.view.write (Elt F) fd (src.view.read (Elt F) fs) Finset.univ)) ⊢ recvPay m n p) :
    iprop(ctx m N ∗ (src.view.loc (c : Thread nD τ) ↦[src.view.set]{q} fs) ∗ (dst.view.loc (Dev.tc n : Thread nD τ) ↦[dst.view.set]{fullShare} fd)
        ∗ sendTok (F := F) c p ∗ owesE (F := F) c (oweL c (p :: lo)))
      ⊢ iprop(((back (F := F) c p ∗ owesE (F := F) c (oweL c lo)) -∗ wp frame (wpE (defs₀ (F := F)) 𝒱₀ (c : Thread nD τ) none) Set.univ (k ⟨⟩) Q)
          -∗ wp frame (wpE (defs₀ (F := F)) 𝒱₀ (c : Thread nD τ) none) Set.univ (.op (.enqueueDma src (.remote (Dev.tc n : Thread nD τ) dst (.dma s₁) hsc) (.dma s₂) hsrc hdst hsem) k) Q) := by
  subst hn h₁ h₂
  unfold ctx sendTok owesE back
  iintro ⟨⟨#HR, -⟩, Hs, Hd, ⟨HtS, HtR, HaS⟩, %W, HO⟩ Hk
  iapply (Rounds.wp_send_pointsTo 𝒱₀ ER (sched m) (c : Thread nD τ) none (κ₁ := N (c, some (false, p))) (κ₂ := N (peer p c, some (true, p)))
    (r₁ := 0) (r₂ := 0) (d₁ := false) (d₂ := false) (fd := fd)
    (by rw [duties_send]; exact Finset.mem_singleton_self _) (by rw [duties_recv]; exact Finset.mem_singleton_self _)
    () () (credit p) hN (amount_send m c p false) (amount_recv m (peer p c) p false) (oweL c lo) rfl (W := W)
    (by rw [payload_send]; exact hpay₁) (by rw [payload_recv]; exact hpay₂)) $$ [Hs Hd HtS HtR HO]
  · isplitr; · iapply (records_inv m N (c, some (false, p))); iexact HR
    isplitr; · iapply (records_inv m N (peer p c, some (true, p))); iexact HR
    isplitl [Hs]; · iexact Hs
    isplitl [Hd]; · iexact Hd
    isplitl [HO]; · iexact HO
    isplitl [HtS]; · iexact HtS
    isplitr; · iapply (records_reached m N (c, some (false, p))); iexact HR
    isplitl [HtR]; · iexact HtR
    iapply (records_reached m N (peer p c, some (true, p))); iexact HR
  iintro ⟨Hc, HO⟩
  iapply Hk
  isplitl [HaS Hc]
  · isplitl [HaS] <;> iassumption
  iexists W; iexact HO

/-! ## Waits -/

/-- The wait for slot `p`'s copy to land: its rows, and its cell closed. -/
theorem recv_gen (c : Dev nD) (p : Fin 18) {s : Shape} {e : EltTy} {s' : Shape} {e' : EltTy} {src : Memref sig .tc .vmem s' e'} {dst : Memref sig .tc .vmem s e}
    {s₂ : DmaSem sig} (h₂ : s₂ = recvS p) {hsrc : src.view.WordExact} {hdst : dst.view.WordExact}
    {α : Type} {Q : α → sProp 𝕄} {k : PUnit → Prog (TpuEff nD τ sig (Elt F) Λ₀ .tc) α} {lo : List (Fin 18)}
    (hN : dst.view.dmaCredit = credit p) (hl : (levAts L lv : sProp 𝕄) ⊢ MayWait (c : Thread nD τ) (.dma (recvS p)) () (oweL c lo)) :
    iprop(ctx m N ∗ recvRes (F := F) c p ∗ owesE (F := F) c (oweL c lo))
      ⊢ iprop(((recvPay m c p ∗ doneR (F := F) c p ∗ owesE (F := F) c (oweL c lo)) -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 s₂ src dst hsrc hdst) k) Q) := by
  subst h₂
  unfold ctx recvRes owesE doneR
  rw [← hN]
  iintro ⟨⟨#HR, #Hlev⟩, ⟨Ha, Hc⟩, %W, HO⟩ Hk
  iapply (Rounds.wp_wait_rest_token 𝒱₀ ER (sched m) (c : Thread nD τ) none (κ := N (c, some (true, p)))
      (wpE_waitDma2_eq 𝒱₀ (c : Thread nD τ) none Set.univ) (Set.mem_univ _) () (O := oweL c lo) (W := W) (R := 0) (m := 0) (T := ∅)
      (by rw [Nat.zero_add, expect_recv]; exact hN)) $$ [Hc HO Ha]
  · isplitr; · iapply (records_inv m N (c, some (true, p))); iexact HR
    isplitl [Hc]; · iexact Hc
    isplitl [HO]; · iexact HO
    isplitr; · iapply hl; iexact Hlev
    iexact Ha
  iintro ⟨HO, Ha, -, Hpay⟩
  ihave Hpay := (Entails.of_eq (rest_recv m c p)) $$ Hpay
  ihave HI := (records_inv m N (c, some (true, p))) $$ HR
  imod (Rounds.cell_close ER (sched m) (Set.mem_univ (N (c, some (true, p)))) (fun h => h) (R := 0 + 1) (duties_later m (recvCell c p))) $$ [Ha HI] with Hz
  · isplitl [HI]; · iexact HI
    iexact Ha
  iapply Hk
  isplitl [Hpay]; · iexact Hpay
  isplitl [Hz]; · iexact Hz
  iexists _; iexact HO

/-- The wait for slot `p`'s copy to complete: the share it read, and its cell closed. -/
theorem sent_gen (c : Dev nD) (p : Fin 18) {s : Shape} {e : EltTy} {s' : Shape} {e' : EltTy} {src : Memref sig .tc .vmem s' e'} {dst : Memref sig .tc .vmem s e}
    {s₂ : DmaSem sig} (h₂ : s₂ = sendS p) {hsrc : src.view.WordExact} {hdst : dst.view.WordExact}
    {α : Type} {Q : α → sProp 𝕄} {k : PUnit → Prog (TpuEff nD τ sig (Elt F) Λ₀ .tc) α}
    (hN : dst.view.dmaCredit = credit p) :
    iprop(ctx m N ∗ back (F := F) c p ∗ owesE (F := F) c 0)
      ⊢ iprop(((doneS m c p ∗ owesE (F := F) c 0) -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 s₂ src dst hsrc hdst) k) Q) := by
  subst h₂
  unfold ctx back owesE doneS
  rw [← hN]
  iintro ⟨⟨#HR, #Hlev⟩, ⟨Ha, Hc⟩, %W, HO⟩ Hk
  iapply (Rounds.wp_wait_rest_token 𝒱₀ ER (sched m) (c : Thread nD τ) none (κ := N (c, some (false, p)))
      (wpE_waitDma2_eq 𝒱₀ (c : Thread nD τ) none Set.univ) (Set.mem_univ _) () (O := 0) (W := W) (R := 0) (m := 0) (T := ∅)
      (by rw [Nat.zero_add, expect_send]; exact hN)) $$ [Hc HO Ha]
  · isplitr; · iapply (records_inv m N (c, some (false, p))); iexact HR
    isplitl [Hc]; · iexact Hc
    isplitl [HO]; · iexact HO
    isplitr; · rw [MayWait_zero]; iempintro
    iexact Ha
  iintro ⟨HO, Ha, -, Hpay⟩
  ihave Hpay := (Entails.of_eq (rest_send m c p)) $$ Hpay
  ihave HI := (records_inv m N (c, some (false, p))) $$ HR
  imod (Rounds.cell_close ER (sched m) (Set.mem_univ (N (c, some (false, p)))) (fun h => h) (R := 0 + 1) (duties_later m (sendCell c p))) $$ [Ha HI] with Hz
  · isplitl [HI]; · iexact HI
    iexact Ha
  iapply Hk
  isplitl [Hpay Hz]
  · isplitl [Hz] <;> iassumption
  iexists _; iexact HO

end Cert.KernelIdealProof

end
-- ==== Proof.KernelIdeal.Moves.lean ====
/-
The remote copies as the kernel makes them: rows of `own` to either neighbour, half of what a neighbour sent on to the
other one, and the waits, over the state of the run.
-/
module

public import proofs.«01_k».proof.Proof.KernelIdeal.Steps

@[expose] public section

noncomputable section

namespace Cert.KernelIdealProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

variable (N : Dev nD × CK → ℕ)

theorem prv_peer (p : Fin 18) (c : Dev nD) (h : p.val < 9) : prv (peer p c) = c := by unfold peer; rw [if_pos h, prv_nxt]
theorem nxt_peer (p : Fin 18) (c : Dev nD) (h : ¬ p.val < 9) : nxt (peer p c) = c := by unfold peer; rw [if_neg h, nxt_prv]

/-! ## What a copy leaves -/

theorem copy_fl {r : Rect S1024x4096} {h : ∀ a, r.stride a = 1} {h' : ∀ a, r.stride a = 1} (f g : S1024x4096.Idx → Elt F .fp8e4m3) (i : S1024x4096.Idx) (hi : i ∈ r.set) :
    (flM.slice r h).view.write (Elt F) g ((ownM.slice r h').view.read (Elt F) f) Finset.univ i = f i := by
  obtain ⟨x, -, rfl⟩ := Finset.mem_map.mp ((Rect.map_emb_univ r).symm ▸ hi)
  exact View.write_emb_of_mem (v := (flM.slice r h).view) g _ (Finset.mem_univ x)

theorem copy_fr {r : Rect S1024x4096} {h : ∀ a, r.stride a = 1} {h' : ∀ a, r.stride a = 1} (f g : S1024x4096.Idx → Elt F .fp8e4m3) (i : S1024x4096.Idx) (hi : i ∈ r.set) :
    (frM.slice r h).view.write (Elt F) g ((ownM.slice r h').view.read (Elt F) f) Finset.univ i = f i := by
  obtain ⟨x, -, rfl⟩ := Finset.mem_map.mp ((Rect.map_emb_univ r).symm ▸ hi)
  exact View.write_emb_of_mem (v := (frM.slice r h).view) g _ (Finset.mem_univ x)

theorem copy_opL {r : Rect S1024x4096} {h : ∀ a, r.stride a = 1} {h' : ∀ a, r.stride a = 1} (f g : S1024x4096.Idx → Elt F .fp8e4m3) (i : S1024x4096.Idx) (hi : i ∈ r.set) :
    (opM.slice r h).view.write (Elt F) g ((flM.slice r h').view.read (Elt F) f) Finset.univ i = f i := by
  obtain ⟨x, -, rfl⟩ := Finset.mem_map.mp ((Rect.map_emb_univ r).symm ▸ hi)
  exact View.write_emb_of_mem (v := (opM.slice r h).view) g _ (Finset.mem_univ x)

theorem copy_opH {r : Rect S1024x4096} {h : ∀ a, r.stride a = 1} {h' : ∀ a, r.stride a = 1} (f g : S1024x4096.Idx → Elt F .fp8e4m3) (i : S1024x4096.Idx) (hi : i ∈ r.set) :
    (opM.slice r h).view.write (Elt F) g ((frM.slice r h').view.read (Elt F) f) Finset.univ i = f i := by
  obtain ⟨x, -, rfl⟩ := Finset.mem_map.mp ((Rect.map_emb_univ r).symm ▸ hi)
  exact View.write_emb_of_mem (v := (opM.slice r h).view) g _ (Finset.mem_univ x)

/-! ## The eighteen copies issued -/

/-- Rows of `own` to the right neighbour. -/
theorem send_right (c n : Dev nD) (p : Fin 18) (hp : p.val < 8) (hn : n = peer p c) {o : Fin 2 → ℕ} (ho : o = ![128 * p.val, 0]) {s₁ s₂ : DmaSem sig} (h₁ : s₁ = sendS p) (h₂ : s₂ = recvS p)
    {inb : ∀ a, o a + S128x4096.size a ≤ S1024x4096.size a} {inb' : ∀ a, o a + S128x4096.size a ≤ S1024x4096.size a}
    {hr : ∀ a, (Rect.unit (s := S1024x4096) o S128x4096.size inb).stride a = 1} {hr' : ∀ a, (Rect.unit (s := S1024x4096) o S128x4096.size inb').stride a = 1}
    {hsc : (flM.slice (Rect.unit (s := S1024x4096) o S128x4096.size inb') hr' : Memref sig (Dev.tc n : Thread nD τ).2.kind .vmem S128x4096 .fp8e4m3).view.ref.isScScratch = false}
    {hsrc : (ownM.slice (Rect.unit (s := S1024x4096) o S128x4096.size inb) hr).view.WordExact} {hdst : (flM.slice (Rect.unit (s := S1024x4096) o S128x4096.size inb') hr').view.WordExact}
    {hsem : DmaTarget.Typed .vmem (.dma s₂) (.remote (Dev.tc n : Thread nD τ) (flM.slice (Rect.unit (s := S1024x4096) o S128x4096.size inb') hr') (.dma s₁) hsc)}
    {α : Type} {Q : α → sProp 𝕄} {k : PUnit → Prog (TpuEff nD τ sig (Elt F) Λ₀ .tc) α} {lo lb lr lz ls : List (Fin 18)} :
    iprop(ctx m N ∗ mid m c (p :: lo) lb lr lz ls ∗ ownPts c (128 * p.val) (128 * p.val + 128) sh0 (ownC m c))
      ⊢ iprop((mid m c lo (p :: lb) lr lz ls -∗ wp frame (wpE (defs₀ (F := F)) 𝒱₀ (c : Thread nD τ) none) Set.univ (k ⟨⟩) Q)
          -∗ wp frame (wpE (defs₀ (F := F)) 𝒱₀ (c : Thread nD τ) none) Set.univ (.op (.enqueueDma (ownM.slice (Rect.unit (s := S1024x4096) o S128x4096.size inb) hr) (.remote (Dev.tc n : Thread nD τ) (flM.slice (Rect.unit (s := S1024x4096) o S128x4096.size inb') hr') (.dma s₁) hsc) (.dma s₂) hsrc hdst hsem) k) Q) := by
  subst ho hn
  unfold mid
  rw [seqL_cons, seqL_cons]
  unfold sendRes
  iintro ⟨#Hctx, ⟨HO, ⟨⟨Htok, Hl⟩, Hlo⟩, Hlb, Hrest⟩, Hsrc⟩ Hk
  ihave Hl := (Entails.of_eq (show land (F := F) c p = iprop(∃ f, flPts (F := F) (peer p c) (128 * p.val) (128 * p.val + 128) fullShare f) from by unfold land; rw [if_pos hp])) $$ Hl
  icases Hl with ⟨%fd, Hl⟩
  iapply (send_gen m N c (peer p c) p rfl (src := ownM.slice (Rect.unit (s := S1024x4096) ![128 * p.val, 0] S128x4096.size inb) hr)
    (dst := flM.slice (Rect.unit (s := S1024x4096) ![128 * p.val, 0] S128x4096.size inb') hr') h₁ h₂ (fs := ownC m c) (fd := fd) (q := sh0)
    (by exact Eq.trans rfl (credit_A p (by omega)).symm) (by rw [slice_set, set_unitA]; unfold sendPay; rw [if_pos hp]) (by
      rw [slice_set]
      refine (Entails.of_eq (pointsTo_congr fun i hi => copy_fl _ _ i hi)).trans ?_
      rw [set_unitA]; unfold recvPay; rw [if_pos hp]; rw [prv_peer p c (by omega)])) $$ [Hsrc Hl Htok HO]
  · isplitr; · iexact Hctx
    isplitl [Hsrc]; · rw [slice_set, set_unitA]; iexact Hsrc
    isplitl [Hl]; · rw [slice_set, set_unitA]; iexact Hl
    isplitl [Htok] <;> iassumption
  iintro ⟨Hb, HO⟩
  iapply Hk
  isplitl [HO]; · iexact HO
  isplitl [Hlo]; · iexact Hlo
  isplitl [Hb Hlb]
  · isplitl [Hb] <;> iassumption
  iexact Hrest

/-- Rows of `own` to the left neighbour. -/
theorem send_left (c n : Dev nD) (p : Fin 18) (hp : 9 ≤ p.val) (hp' : p.val < 17) (hn : n = peer p c) {o : Fin 2 → ℕ} (ho : o = ![128 * (p.val - 9), 0]) {s₁ s₂ : DmaSem sig} (h₁ : s₁ = sendS p) (h₂ : s₂ = recvS p)
    {inb : ∀ a, o a + S128x4096.size a ≤ S1024x4096.size a} {inb' : ∀ a, o a + S128x4096.size a ≤ S1024x4096.size a}
    {hr : ∀ a, (Rect.unit (s := S1024x4096) o S128x4096.size inb).stride a = 1} {hr' : ∀ a, (Rect.unit (s := S1024x4096) o S128x4096.size inb').stride a = 1}
    {hsc : (frM.slice (Rect.unit (s := S1024x4096) o S128x4096.size inb') hr' : Memref sig (Dev.tc n : Thread nD τ).2.kind .vmem S128x4096 .fp8e4m3).view.ref.isScScratch = false}
    {hsrc : (ownM.slice (Rect.unit (s := S1024x4096) o S128x4096.size inb) hr).view.WordExact} {hdst : (frM.slice (Rect.unit (s := S1024x4096) o S128x4096.size inb') hr').view.WordExact}
    {hsem : DmaTarget.Typed .vmem (.dma s₂) (.remote (Dev.tc n : Thread nD τ) (frM.slice (Rect.unit (s := S1024x4096) o S128x4096.size inb') hr') (.dma s₁) hsc)}
    {α : Type} {Q : α → sProp 𝕄} {k : PUnit → Prog (TpuEff nD τ sig (Elt F) Λ₀ .tc) α} {lo lb lr lz ls : List (Fin 18)} :
    iprop(ctx m N ∗ mid m c (p :: lo) lb lr lz ls ∗ ownPts c (128 * (p.val - 9)) (128 * (p.val - 9) + 128) sh1 (ownC m c))
      ⊢ iprop((mid m c lo (p :: lb) lr lz ls -∗ wp frame (wpE (defs₀ (F := F)) 𝒱₀ (c : Thread nD τ) none) Set.univ (k ⟨⟩) Q)
          -∗ wp frame (wpE (defs₀ (F := F)) 𝒱₀ (c : Thread nD τ) none) Set.univ (.op (.enqueueDma (ownM.slice (Rect.unit (s := S1024x4096) o S128x4096.size inb) hr) (.remote (Dev.tc n : Thread nD τ) (frM.slice (Rect.unit (s := S1024x4096) o S128x4096.size inb') hr') (.dma s₁) hsc) (.dma s₂) hsrc hdst hsem) k) Q) := by
  subst ho hn
  unfold mid
  rw [seqL_cons, seqL_cons]
  unfold sendRes
  iintro ⟨#Hctx, ⟨HO, ⟨⟨Htok, Hl⟩, Hlo⟩, Hlb, Hrest⟩, Hsrc⟩ Hk
  ihave Hl := (Entails.of_eq (show land (F := F) c p = iprop(∃ f, frPts (F := F) (peer p c) (128 * (p.val - 9)) (128 * (p.val - 9) + 128) fullShare f) from by unfold land; rw [if_neg (by omega), if_neg (by omega), if_pos hp'])) $$ Hl
  icases Hl with ⟨%fd, Hl⟩
  iapply (send_gen m N c (peer p c) p rfl (src := ownM.slice (Rect.unit (s := S1024x4096) ![128 * (p.val - 9), 0] S128x4096.size inb) hr)
    (dst := frM.slice (Rect.unit (s := S1024x4096) ![128 * (p.val - 9), 0] S128x4096.size inb') hr') h₁ h₂ (fs := ownC m c) (fd := fd) (q := sh1)
    (by exact Eq.trans rfl (credit_A p (by omega)).symm) (by rw [slice_set, set_unitA]; unfold sendPay; rw [if_neg (by omega), if_neg (by omega), if_pos hp']) (by
      rw [slice_set]
      refine (Entails.of_eq (pointsTo_congr fun i hi => copy_fr _ _ i hi)).trans ?_
      rw [set_unitA]; unfold recvPay; rw [if_neg (by omega), if_neg (by omega), if_pos hp']; rw [nxt_peer p c (by omega)])) $$ [Hsrc Hl Htok HO]
  · isplitr; · iexact Hctx
    isplitl [Hsrc]; · rw [slice_set, set_unitA]; iexact Hsrc
    isplitl [Hl]; · rw [slice_set, set_unitA]; iexact Hl
    isplitl [Htok] <;> iassumption
  iintro ⟨Hb, HO⟩
  iapply Hk
  isplitl [HO]; · iexact HO
  isplitl [Hlo]; · iexact Hlo
  isplitl [Hb Hlb]
  · isplitl [Hb] <;> iassumption
  iexact Hrest

/-- The first half of what the left neighbour sent, to the right neighbour. -/
theorem send_relayR (c n : Dev nD) (p : Fin 18) (hp : p = 8) (hn : n = peer p c) {o : Fin 2 → ℕ} (ho : o = ![0, 0]) {s₁ s₂ : DmaSem sig} (h₁ : s₁ = sendS p) (h₂ : s₂ = recvS p)
    {inb : ∀ a, o a + S512x4096.size a ≤ S1024x4096.size a} {inb' : ∀ a, o a + S512x4096.size a ≤ S1024x4096.size a}
    {hr : ∀ a, (Rect.unit (s := S1024x4096) o S512x4096.size inb).stride a = 1} {hr' : ∀ a, (Rect.unit (s := S1024x4096) o S512x4096.size inb').stride a = 1}
    {hsc : (opM.slice (Rect.unit (s := S1024x4096) o S512x4096.size inb') hr' : Memref sig (Dev.tc n : Thread nD τ).2.kind .vmem S512x4096 .fp8e4m3).view.ref.isScScratch = false}
    {hsrc : (flM.slice (Rect.unit (s := S1024x4096) o S512x4096.size inb) hr).view.WordExact} {hdst : (opM.slice (Rect.unit (s := S1024x4096) o S512x4096.size inb') hr').view.WordExact}
    {hsem : DmaTarget.Typed .vmem (.dma s₂) (.remote (Dev.tc n : Thread nD τ) (opM.slice (Rect.unit (s := S1024x4096) o S512x4096.size inb') hr') (.dma s₁) hsc)}
    {α : Type} {Q : α → sProp 𝕄} {k : PUnit → Prog (TpuEff nD τ sig (Elt F) Λ₀ .tc) α} {lo lb lr lz ls : List (Fin 18)} :
    iprop(ctx m N ∗ mid m c (p :: lo) lb lr lz ls ∗ flPts c 0 512 fullShare.left (ownC m (prv c)))
      ⊢ iprop((mid m c lo (p :: lb) lr lz ls -∗ wp frame (wpE (defs₀ (F := F)) 𝒱₀ (c : Thread nD τ) none) Set.univ (k ⟨⟩) Q)
          -∗ wp frame (wpE (defs₀ (F := F)) 𝒱₀ (c : Thread nD τ) none) Set.univ (.op (.enqueueDma (flM.slice (Rect.unit (s := S1024x4096) o S512x4096.size inb) hr) (.remote (Dev.tc n : Thread nD τ) (opM.slice (Rect.unit (s := S1024x4096) o S512x4096.size inb') hr') (.dma s₁) hsc) (.dma s₂) hsrc hdst hsem) k) Q) := by
  subst ho hn
  unfold mid
  rw [seqL_cons, seqL_cons]
  unfold sendRes
  iintro ⟨#Hctx, ⟨HO, ⟨⟨Htok, Hl⟩, Hlo⟩, Hlb, Hrest⟩, Hsrc⟩ Hk
  ihave Hl := (Entails.of_eq (show land (F := F) c p = iprop(∃ f, opPts (F := F) (peer p c) 0 512 fullShare f) from by unfold land; rw [if_neg (by subst hp; decide), if_pos (by subst hp; decide)])) $$ Hl
  icases Hl with ⟨%fd, Hl⟩
  iapply (send_gen m N c (peer p c) p rfl (src := flM.slice (Rect.unit (s := S1024x4096) ![0, 0] S512x4096.size inb) hr)
    (dst := opM.slice (Rect.unit (s := S1024x4096) ![0, 0] S512x4096.size inb') hr') h₁ h₂ (fs := ownC m (prv c)) (fd := fd) (q := fullShare.left)
    (by exact Eq.trans rfl (credit_B p (by subst hp; decide)).symm) (by rw [slice_set, set_unitA]; unfold sendPay; rw [if_neg (by subst hp; decide), if_pos (by subst hp; decide)]) (by
      rw [slice_set]
      refine (Entails.of_eq (pointsTo_congr fun i hi => copy_opL _ _ i hi)).trans ?_
      rw [set_unitA]; unfold recvPay; rw [if_neg (by subst hp; decide), if_pos (by subst hp; decide)]; subst hp; rw [← prv_prv, prv_peer _ c (by decide)])) $$ [Hsrc Hl Htok HO]
  · isplitr; · iexact Hctx
    isplitl [Hsrc]; · rw [slice_set, set_unitA]; iexact Hsrc
    isplitl [Hl]; · rw [slice_set, set_unitA]; iexact Hl
    isplitl [Htok] <;> iassumption
  iintro ⟨Hb, HO⟩
  iapply Hk
  isplitl [HO]; · iexact HO
  isplitl [Hlo]; · iexact Hlo
  isplitl [Hb Hlb]
  · isplitl [Hb] <;> iassumption
  iexact Hrest

/-- The second half of what the right neighbour sent, to the left neighbour. -/
theorem send_relayL (c n : Dev nD) (p : Fin 18) (hp : p = 17) (hn : n = peer p c) {o : Fin 2 → ℕ} (ho : o = ![512, 0]) {s₁ s₂ : DmaSem sig} (h₁ : s₁ = sendS p) (h₂ : s₂ = recvS p)
    {inb : ∀ a, o a + S512x4096.size a ≤ S1024x4096.size a} {inb' : ∀ a, o a + S512x4096.size a ≤ S1024x4096.size a}
    {hr : ∀ a, (Rect.unit (s := S1024x4096) o S512x4096.size inb).stride a = 1} {hr' : ∀ a, (Rect.unit (s := S1024x4096) o S512x4096.size inb').stride a = 1}
    {hsc : (opM.slice (Rect.unit (s := S1024x4096) o S512x4096.size inb') hr' : Memref sig (Dev.tc n : Thread nD τ).2.kind .vmem S512x4096 .fp8e4m3).view.ref.isScScratch = false}
    {hsrc : (frM.slice (Rect.unit (s := S1024x4096) o S512x4096.size inb) hr).view.WordExact} {hdst : (opM.slice (Rect.unit (s := S1024x4096) o S512x4096.size inb') hr').view.WordExact}
    {hsem : DmaTarget.Typed .vmem (.dma s₂) (.remote (Dev.tc n : Thread nD τ) (opM.slice (Rect.unit (s := S1024x4096) o S512x4096.size inb') hr') (.dma s₁) hsc)}
    {α : Type} {Q : α → sProp 𝕄} {k : PUnit → Prog (TpuEff nD τ sig (Elt F) Λ₀ .tc) α} {lo lb lr lz ls : List (Fin 18)} :
    iprop(ctx m N ∗ mid m c (p :: lo) lb lr lz ls ∗ frPts c 512 1024 fullShare.left (ownC m (nxt c)))
      ⊢ iprop((mid m c lo (p :: lb) lr lz ls -∗ wp frame (wpE (defs₀ (F := F)) 𝒱₀ (c : Thread nD τ) none) Set.univ (k ⟨⟩) Q)
          -∗ wp frame (wpE (defs₀ (F := F)) 𝒱₀ (c : Thread nD τ) none) Set.univ (.op (.enqueueDma (frM.slice (Rect.unit (s := S1024x4096) o S512x4096.size inb) hr) (.remote (Dev.tc n : Thread nD τ) (opM.slice (Rect.unit (s := S1024x4096) o S512x4096.size inb') hr') (.dma s₁) hsc) (.dma s₂) hsrc hdst hsem) k) Q) := by
  subst ho hn
  unfold mid
  rw [seqL_cons, seqL_cons]
  unfold sendRes
  iintro ⟨#Hctx, ⟨HO, ⟨⟨Htok, Hl⟩, Hlo⟩, Hlb, Hrest⟩, Hsrc⟩ Hk
  ihave Hl := (Entails.of_eq (show land (F := F) c p = iprop(∃ f, opPts (F := F) (peer p c) 512 1024 fullShare f) from by unfold land; rw [if_neg (by subst hp; decide), if_neg (by subst hp; decide), if_neg (by subst hp; decide)])) $$ Hl
  icases Hl with ⟨%fd, Hl⟩
  iapply (send_gen m N c (peer p c) p rfl (src := frM.slice (Rect.unit (s := S1024x4096) ![512, 0] S512x4096.size inb) hr)
    (dst := opM.slice (Rect.unit (s := S1024x4096) ![512, 0] S512x4096.size inb') hr') h₁ h₂ (fs := ownC m (nxt c)) (fd := fd) (q := fullShare.left)
    (by exact Eq.trans rfl (credit_B p (by subst hp; decide)).symm) (by rw [slice_set, set_unitA]; unfold sendPay; rw [if_neg (by subst hp; decide), if_neg (by subst hp; decide), if_neg (by subst hp; decide)]) (by
      rw [slice_set]
      refine (Entails.of_eq (pointsTo_congr fun i hi => copy_opH _ _ i hi)).trans ?_
      rw [set_unitA]; unfold recvPay; rw [if_neg (by subst hp; decide), if_neg (by subst hp; decide), if_neg (by subst hp; decide)]; subst hp; rw [← nxt_nxt, nxt_peer _ c (by decide)])) $$ [Hsrc Hl Htok HO]
  · isplitr; · iexact Hctx
    isplitl [Hsrc]; · rw [slice_set, set_unitA]; iexact Hsrc
    isplitl [Hl]; · rw [slice_set, set_unitA]; iexact Hl
    isplitl [Htok] <;> iassumption
  iintro ⟨Hb, HO⟩
  iapply Hk
  isplitl [HO]; · iexact HO
  isplitl [Hlo]; · iexact Hlo
  isplitl [Hb Hlb]
  · isplitl [Hb] <;> iassumption
  iexact Hrest

/-- A landing awaited. -/
theorem recv (c : Dev nD) (p : Fin 18) {s : Shape} {e : EltTy} {s' : Shape} {e' : EltTy} {src : Memref sig .tc .vmem s' e'} {dst : Memref sig .tc .vmem s e}
    {s₂ : DmaSem sig} (h₂ : s₂ = recvS p) {hsrc : src.view.WordExact} {hdst : dst.view.WordExact}
    {α : Type} {Q : α → sProp 𝕄} {k : PUnit → Prog (TpuEff nD τ sig (Elt F) Λ₀ .tc) α} {lo lb lr lz ls : List (Fin 18)}
    (hN : dst.view.dmaCredit = credit p) (hl : (levAts L lv : sProp 𝕄) ⊢ MayWait (c : Thread nD τ) (.dma (recvS p)) () (oweL c lo)) :
    iprop(ctx m N ∗ mid m c lo lb (p :: lr) lz ls)
      ⊢ iprop(((recvPay m c p ∗ mid m c lo lb lr (p :: lz) ls) -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 s₂ src dst hsrc hdst) k) Q) := by
  unfold mid
  rw [seqL_cons, seqL_cons]
  iintro ⟨#Hctx, HO, Hlo, Hlb, ⟨Hr, Hlr⟩, Hlz, Hls⟩ Hk
  iapply (recv_gen m N c p h₂ (lo := lo) hN hl) $$ [Hr HO]
  · isplitr; · iexact Hctx
    isplitl [Hr] <;> iassumption
  iintro ⟨Hp, Hz, HO⟩
  iapply Hk
  isplitl [Hp]; · iexact Hp
  isplitl [HO]; · iexact HO
  isplitl [Hlo]; · iexact Hlo
  isplitl [Hlb]; · iexact Hlb
  isplitl [Hlr]; · iexact Hlr
  isplitl [Hz Hlz]
  · isplitl [Hz] <;> iassumption
  iexact Hls

/-- A completion awaited, nothing owed any more. -/
theorem sent (c : Dev nD) (p : Fin 18) {s : Shape} {e : EltTy} {s' : Shape} {e' : EltTy} {src : Memref sig .tc .vmem s' e'} {dst : Memref sig .tc .vmem s e}
    {s₂ : DmaSem sig} (h₂ : s₂ = sendS p) {hsrc : src.view.WordExact} {hdst : dst.view.WordExact}
    {α : Type} {Q : α → sProp 𝕄} {k : PUnit → Prog (TpuEff nD τ sig (Elt F) Λ₀ .tc) α} {lo lb lr lz ls : List (Fin 18)}
    (hN : dst.view.dmaCredit = credit p) :
    iprop(ctx m N ∗ mid m c [] (p :: lb) lr lz ls)
      ⊢ iprop(((mid m c [] lb lr lz (p :: ls)) -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 s₂ src dst hsrc hdst) k) Q) := by
  unfold mid
  rw [seqL_cons, seqL_cons]
  iintro ⟨#Hctx, HO, Hlo, ⟨Hb, Hlb⟩, Hlr, Hlz, Hls⟩ Hk
  iapply (sent_gen m N c p h₂ hN) $$ [Hb HO]
  · isplitr; · iexact Hctx
    isplitl [Hb]; · iexact Hb
    iexact HO
  iintro ⟨Hp, HO⟩
  iapply Hk
  isplitl [HO]; · iexact HO
  isplitl [Hlo]; · iexact Hlo
  isplitl [Hlb]; · iexact Hlb
  isplitl [Hlr]; · iexact Hlr
  isplitl [Hlz]; · iexact Hlz
  isplitl [Hp] <;> iassumption

end Cert.KernelIdealProof

end
-- ==== Proof.KernelIdeal.Result.lean ====
/-
What each device computes: its result in block rows, each block row the product of one device's block of `x` with the
device's own block of `w`.
-/
module

public import proofs.«01_k».proof.Proof.KernelIdeal.Cells
public import Idealize.ShloMosaic.Lib.Pointwise.Index
public import Idealize.ShloMosaic.Lib.Pipeline.ValueKit.Geometry

@[expose] public section

noncomputable section

namespace Cert.KernelIdealProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-! ## What each device computes -/

/-- The product of the two scales, as device `c` reads them. -/
def sv (c : Dev nD) : F .f32 :=
  k0_pay10 (((Memref.whole cc0_stg0_0 : Memref sig .tc .smem S1 .f32).access (Rect.unit (s := S1) ![0] S1.size inb_S1_S1_0)).read (Elt F) (sxC m ρ c) (Shape.Idx.first (numel1_S1.symm ▸ Nat.one_pos)))
    (((Memref.whole cc0_stg1_0 : Memref sig .tc .smem S1 .f32).access (Rect.unit (s := S1) ![0] S1.size inb_S1_S1_0)).read (Elt F) (swC m ρ c) (Shape.Idx.first (numel1_S1.symm ▸ Nat.one_pos)))

/-- The first and the second half of a block of `x` cast, as loaded from the `opp` buffer. -/
def lowC (d : Dev nD) : S512x4096.Idx → Elt F .fp8e4m3 :=
  opM.view.readAt (Elt F) (Rect.unit (s := S1024x4096) ![0, 0] S512x4096.size inb_S1024x4096_S512x4096_0_0).toLoadRect (ownC m d)
def highC (d : Dev nD) : S512x4096.Idx → Elt F .fp8e4m3 :=
  opM.view.readAt (Elt F) (Rect.unit (s := S1024x4096) ![512, 0] S512x4096.size inb_S1024x4096_S512x4096_512_0).toLoadRect (ownC m d)

/-- The product of a whole block of `x` with device `c`'s block of `w`, scaled; and of half a block. -/
def bigV (c d : Dev nD) : S1024x512.Idx → Elt F .f32 := k0_pay12 (sv m ρ c) (ownC m d) (w8C m c)
def lowV (c : Dev nD) : S512x512.Idx → Elt F .f32 := k0_pay16 (sv m ρ c) (lowC m (opp c)) (w8C m c)
def highV (c : Dev nD) : S512x512.Idx → Elt F .f32 := k0_pay16 (sv m ρ c) (highC m (opp c)) (w8C m c)

/-- Device `c`'s result: block row `d` is the product of device `d`'s block of `x` with its own block of `w`; the
    opposite device's in two halves. -/
def outC (c : Dev nD) (i : S4096x512.Idx) : Elt F .f32 :=
  if (i (0 : Fin 2)).val / 1024 = (opp c).val then
    (if (i (0 : Fin 2)).val % 1024 < 512
      then lowV m ρ c (ix2 (n0 := 512) (n1 := 512) ⟨(i (0 : Fin 2)).val % 512, Nat.mod_lt _ (by decide)⟩ (i (1 : Fin 2)))
      else highV m ρ c (ix2 (n0 := 512) (n1 := 512) ⟨(i (0 : Fin 2)).val % 512, Nat.mod_lt _ (by decide)⟩ (i (1 : Fin 2))))
  else bigV m ρ c ⟨(i (0 : Fin 2)).val / 1024, Nat.div_lt_of_lt_mul (i (0 : Fin 2)).isLt⟩
    (ix2 (n0 := 1024) (n1 := 512) ⟨(i (0 : Fin 2)).val % 1024, Nat.mod_lt _ (by decide)⟩ (i (1 : Fin 2)))

theorem ix2_of_val {n0 n1 : ℕ} (x : (⟨2, ![n0, n1]⟩ : Shape).Idx) (a : Fin n0) (b : Fin n1) (ha : a.val = (x (0 : Fin 2)).val) (hb : b.val = (x (1 : Fin 2)).val) :
    ix2 a b = x := by
  rw [eq_ix2 x]
  exact (ix2_inj _ _ _ _).mpr ⟨Fin.ext ha, Fin.ext hb⟩

theorem outC_big (c d : Dev nD) (hd : d ≠ opp c) {o : Fin 2 → ℕ} (ho : o = ![1024 * d.val, 0]) {inb : ∀ a, o a + S1024x512.size a ≤ S4096x512.size a}
    (x : S1024x512.Idx) : outC m ρ c ((Rect.unit (s := S4096x512) o S1024x512.size inb).emb x) = bigV m ρ c d x := by
  subst ho
  have h0 : ((Rect.unit (s := S4096x512) ![1024 * d.val, 0] S1024x512.size inb).emb x (0 : Fin 2)).val = 1024 * d.val + (x (0 : Fin 2)).val :=
    ValueKit.rect_emb_unit_val (s := S4096x512) ![1024 * d.val, 0] S1024x512.size inb x 0
  have h1 : ((Rect.unit (s := S4096x512) ![1024 * d.val, 0] S1024x512.size inb).emb x (1 : Fin 2)).val = 0 + (x (1 : Fin 2)).val :=
    ValueKit.rect_emb_unit_val (s := S4096x512) ![1024 * d.val, 0] S1024x512.size inb x 1
  have hx : (x (0 : Fin 2)).val < 1024 := (x (0 : Fin 2)).isLt
  have hq : ((Rect.unit (s := S4096x512) ![1024 * d.val, 0] S1024x512.size inb).emb x (0 : Fin 2)).val / 1024 = d.val := by rw [h0]; omega
  have hm : ((Rect.unit (s := S4096x512) ![1024 * d.val, 0] S1024x512.size inb).emb x (0 : Fin 2)).val % 1024 = (x (0 : Fin 2)).val := by rw [h0]; omega
  unfold outC
  rw [if_neg (fun h => hd (Fin.ext (hq.symm.trans h)))]
  congr 1
  · exact Fin.ext hq
  · exact ix2_of_val x _ _ hm (h1.trans (Nat.zero_add _))

theorem outC_low (c : Dev nD) {o : Fin 2 → ℕ} (ho : o = ![1024 * (opp c).val, 0]) {inb : ∀ a, o a + S512x512.size a ≤ S4096x512.size a}
    (x : S512x512.Idx) : outC m ρ c ((Rect.unit (s := S4096x512) o S512x512.size inb).emb x) = lowV m ρ c x := by
  subst ho
  have h0 : ((Rect.unit (s := S4096x512) ![1024 * (opp c).val, 0] S512x512.size inb).emb x (0 : Fin 2)).val = 1024 * (opp c).val + (x (0 : Fin 2)).val :=
    ValueKit.rect_emb_unit_val (s := S4096x512) ![1024 * (opp c).val, 0] S512x512.size inb x 0
  have h1 : ((Rect.unit (s := S4096x512) ![1024 * (opp c).val, 0] S512x512.size inb).emb x (1 : Fin 2)).val = 0 + (x (1 : Fin 2)).val :=
    ValueKit.rect_emb_unit_val (s := S4096x512) ![1024 * (opp c).val, 0] S512x512.size inb x 1
  have hx : (x (0 : Fin 2)).val < 512 := (x (0 : Fin 2)).isLt
  unfold outC
  rw [if_pos (by rw [h0]; omega), if_pos (by rw [h0]; omega)]
  congr 1
  exact ix2_of_val x _ _ (by show _ % 512 = _; rw [h0]; omega) (h1.trans (Nat.zero_add _))

theorem outC_high (c : Dev nD) {o : Fin 2 → ℕ} (ho : o = ![1024 * (opp c).val + 512, 0]) {inb : ∀ a, o a + S512x512.size a ≤ S4096x512.size a}
    (x : S512x512.Idx) : outC m ρ c ((Rect.unit (s := S4096x512) o S512x512.size inb).emb x) = highV m ρ c x := by
  subst ho
  have h0 : ((Rect.unit (s := S4096x512) ![1024 * (opp c).val + 512, 0] S512x512.size inb).emb x (0 : Fin 2)).val = 1024 * (opp c).val + 512 + (x (0 : Fin 2)).val :=
    ValueKit.rect_emb_unit_val (s := S4096x512) ![1024 * (opp c).val + 512, 0] S512x512.size inb x 0
  have h1 : ((Rect.unit (s := S4096x512) ![1024 * (opp c).val + 512, 0] S512x512.size inb).emb x (1 : Fin 2)).val = 0 + (x (1 : Fin 2)).val :=
    ValueKit.rect_emb_unit_val (s := S4096x512) ![1024 * (opp c).val + 512, 0] S512x512.size inb x 1
  have hx : (x (0 : Fin 2)).val < 512 := (x (0 : Fin 2)).isLt
  unfold outC
  rw [if_pos (by rw [h0]; omega), if_neg (by rw [h0]; omega)]
  congr 1
  exact ix2_of_val x _ _ (by show _ % 512 = _; rw [h0]; omega) (h1.trans (Nat.zero_add _))

end Cert.KernelIdealProof

end
-- ==== Proof.KernelIdeal.Local.lean ====
/-
The local effects: loading `x` and `w`, casting rows, storing rows of the result and copying them out.
-/
module

public import proofs.«01_k».proof.Proof.KernelIdeal.Moves
public import proofs.«01_k».proof.Proof.KernelIdeal.Result
public import Idealize.ShloMosaic.Lib.Pointwise.Reshape

@[expose] public section

noncomputable section

namespace Cert.KernelIdealProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

variable (N : Dev nD × CK → ℕ)

/-! ## Splitting rows and shares -/

theorem pts_split {ℓ : Loc nD τ sig} {A B C : Finset (Idx ℓ)} (h : A ∪ B = C) (hd : Disjoint A B) {q : PosShare TreeShare} (f : Buf (Elt F) ℓ) :
    (ℓ ↦[C]{q} f : sProp 𝕄) ⊣⊢ iprop((ℓ ↦[A]{q} f) ∗ ℓ ↦[B]{q} f) := by
  subst h; exact pointsTo_union hd
theorem pts_join {ℓ : Loc nD τ sig} {A B C : Finset (Idx ℓ)} (h : A ∪ B = C) (hd : Disjoint A B) {q : PosShare TreeShare} (f : Buf (Elt F) ℓ) :
    iprop((ℓ ↦[A]{q} f) ∗ ℓ ↦[B]{q} f) ⊢ (ℓ ↦[C]{q} f : sProp 𝕄) := (pts_split h hd f).2

/-- A full points-to is its three shares. -/
theorem pts_shares {ℓ : Loc nD τ sig} {A : Finset (Idx ℓ)} (f : Buf (Elt F) ℓ) :
    (ℓ ↦[A]{fullShare} f : sProp 𝕄) ⊣⊢ iprop((ℓ ↦[A]{sh0} f) ∗ (ℓ ↦[A]{sh1} f) ∗ ℓ ↦[A]{shK} f) := by
  constructor
  · iintro H
    ihave H := (pointsTo_share (PosShare.mem_left_op_right fullShare)).1 $$ H
    icases H with ⟨H0, H⟩
    ihave H := (pointsTo_share (PosShare.mem_left_op_right fullShare.right)).1 $$ H
    icases H with ⟨H1, HK⟩
    isplitl [H0]; · iexact H0
    isplitl [H1] <;> iassumption
  · iintro ⟨H0, H1, HK⟩
    iapply (pointsTo_share (PosShare.mem_left_op_right fullShare)).2
    isplitl [H0]; · iexact H0
    iapply (pointsTo_share (PosShare.mem_left_op_right fullShare.right)).2
    isplitl [H1] <;> iassumption

/-! ## Loading `x` and `w` into VMEM -/

/-- The credit of a 128-row load, of the load of `w`, and of a 1024-row and a 512-row store. -/
abbrev NX : ℕ := (xstM.slice (Rect.unit (s := S1024x4096) ![0, 0] S128x4096.size inb_S1024x4096_S128x4096_0_0) (fun _ => rfl)).view.dmaCredit
abbrev NW : ℕ := wstM.view.dmaCredit
theorem NX_pos : 0 < NX := View.dmaCredit_pos _ (by decide)
theorem NW_pos : 0 < NW := View.dmaCredit_pos _ (by decide)

/-- The load of 128 rows of `x` in flight, and of `w`. -/
def flx (c : Dev nD) (l : Fin 9) : sProp 𝕄 :=
  Transfers.Flight (countersEmb (U := UU)) (c : Thread nD τ) (.dma (loadS l)) () NX
    iprop(xstPts c (128 * l.val) (128 * l.val + 128) fullShare (xC m c) ∗ xPts c (128 * l.val) (128 * l.val + 128) fullShare (xC m c))
abbrev wPts (c : Dev nD) (f : S4096x512.Idx → Elt F .f32) : sProp 𝕄 := ((c : Thread nD τ).loc main_arg1) ↦{fullShare} f
abbrev wstPts (c : Dev nD) (f : S4096x512.Idx → Elt F .f32) : sProp 𝕄 := ((c : Thread nD τ).loc cc0_scratch1) ↦{fullShare} f
abbrev w8Pts (c : Dev nD) (f : S4096x512.Idx → Elt F .fp8e5m2) : sProp 𝕄 := ((c : Thread nD τ).loc cc0_scratch7) ↦{fullShare} f
def flw (c : Dev nD) : sProp 𝕄 :=
  Transfers.Flight (countersEmb (U := UU)) (c : Thread nD τ) (.dma (loadS 8)) () NW iprop(wstPts c (wC m c) ∗ wPts c (wC m c))

theorem copy_xst {r : Rect S1024x4096} {h : ∀ a, r.stride a = 1} {h' : ∀ a, r.stride a = 1} (f g : S1024x4096.Idx → Elt F .f32) (i : S1024x4096.Idx) (hi : i ∈ r.set) :
    (xstM.slice r h).view.write (Elt F) g ((xM.slice r h').view.read (Elt F) f) Finset.univ i = f i := by
  obtain ⟨x, -, rfl⟩ := Finset.mem_map.mp ((Rect.map_emb_univ r).symm ▸ hi)
  exact View.write_emb_of_mem (v := (xstM.slice r h).view) g _ (Finset.mem_univ x)

theorem load_x (c : Dev nD) (l : Fin 9) {o : Fin 2 → ℕ} (ho : o = ![128 * l.val, 0]) {s : DmaSem sig} (hs : s = loadS l)
    {inb : ∀ a, o a + S128x4096.size a ≤ S1024x4096.size a} {inb' : ∀ a, o a + S128x4096.size a ≤ S1024x4096.size a}
    {hr : ∀ a, (Rect.unit (s := S1024x4096) o S128x4096.size inb).stride a = 1} {hr' : ∀ a, (Rect.unit (s := S1024x4096) o S128x4096.size inb').stride a = 1}
    {hsrc : (xM.slice (Rect.unit (s := S1024x4096) o S128x4096.size inb) hr).view.WordExact} {hdst : (xstM.slice (Rect.unit (s := S1024x4096) o S128x4096.size inb') hr').view.WordExact}
    {hsem : DmaTarget.Typed (nD := nD) .hbm (.dma s) (.here (p := .tc) (xstM.slice (Rect.unit (s := S1024x4096) o S128x4096.size inb') hr'))} {α : Type} {Q : α → sProp 𝕄} {k : PUnit → Prog (TpuEff nD τ sig (Elt F) Λ₀ .tc) α} :
    iprop(xPts c (128 * l.val) (128 * l.val + 128) fullShare (xC m c) ∗ (∃ f, xstPts (F := F) c (128 * l.val) (128 * l.val + 128) fullShare f) ∗ semVal ((c : Thread nD τ), .dma (loadS l)) 0)
      ⊢ iprop((flx m c l -∗ wp frame (wpE (defs₀ (F := F)) 𝒱₀ (c : Thread nD τ) none) Set.univ (k ⟨⟩) Q)
          -∗ wp frame (wpE (defs₀ (F := F)) 𝒱₀ (c : Thread nD τ) none) Set.univ (.op (.enqueueDma (xM.slice (Rect.unit (s := S1024x4096) o S128x4096.size inb) hr) (.here (p := .tc) (xstM.slice (Rect.unit (s := S1024x4096) o S128x4096.size inb') hr')) (.dma s) hsrc hdst hsem) k) Q) := by
  subst ho hs
  iintro ⟨Hx, ⟨%f, Hd⟩, Hv⟩ Hk
  iapply (Transfers.wp_dmaLocal (countersEmb (U := UU)) 𝒱₀ (c : Thread nD τ) none () NX rfl NX_pos (fs := xC m c) (fd := f) (q := fullShare) (subset_refl _)) $$ [Hx Hd Hv]
  · isplitl [Hx]; · rw [slice_set, set_unitA]; iexact Hx
    isplitl [Hd]; · rw [slice_set, set_unitA]; iexact Hd
    iexact Hv
  iintro HF
  iapply Hk
  unfold flx
  iapply (Transfers.Flight_mono (countersEmb (U := UU)) (c : Thread nD τ) ?_) $$ HF
  rw [slice_set, slice_set]
  refine (sep_mono_left (Entails.of_eq (pointsTo_congr fun i hi => copy_xst (xC m c) _ i hi))).trans ?_
  rw [set_unitA]

theorem load_w (c : Dev nD) {s : DmaSem sig} (hs : s = loadS 8)
    {hsrc : wM.view.WordExact} {hdst : wstM.view.WordExact} {hsem : DmaTarget.Typed (nD := nD) .hbm (.dma s) (.here (p := .tc) wstM)} {α : Type} {Q : α → sProp 𝕄} {k : PUnit → Prog (TpuEff nD τ sig (Elt F) Λ₀ .tc) α} :
    iprop(wPts c (wC m c) ∗ (∃ f, wstPts (F := F) c f) ∗ semVal ((c : Thread nD τ), .dma (loadS 8)) 0)
      ⊢ iprop((flw m c -∗ wp frame (wpE (defs₀ (F := F)) 𝒱₀ (c : Thread nD τ) none) Set.univ (k ⟨⟩) Q) -∗ wp frame (wpE (defs₀ (F := F)) 𝒱₀ (c : Thread nD τ) none) Set.univ (.op (.enqueueDma wM (.here (p := .tc) wstM) (.dma s) hsrc hdst hsem) k) Q) := by
  subst hs
  iintro ⟨Hx, ⟨%f, Hd⟩, Hv⟩ Hk
  iapply (Transfers.wp_dmaLocal (countersEmb (U := UU)) 𝒱₀ (c : Thread nD τ) none () NW rfl NW_pos (fs := wC m c) (fd := f) (q := fullShare) (subset_refl _)) $$ [Hx Hd Hv]
  · isplitl [Hx]; · rw [View.set_whole]; iexact Hx
    isplitl [Hd]; · rw [View.set_whole]; iexact Hd
    iexact Hv
  iintro HF
  iapply Hk
  unfold flw
  iapply (Transfers.Flight_mono (countersEmb (U := UU)) (c : Thread nD τ) ?_) $$ HF
  rw [View.set_whole, View.set_whole]
  refine sep_mono_left (Entails.of_eq (pointsTo_congr fun i _ => ?_))
  exact congrFun (View.write_whole_univ cc0_scratch1 f (wC m c)) i

/-- The wait for a local transfer, whatever is owed on cells above. -/
theorem wait_local (c : Dev nD) {s : Shape} {e : EltTy} {sp sp' : Space} {s' : Shape} {e' : EltTy} {src : Memref sig .tc sp' s' e'} {dst : Memref sig .tc sp s e}
    {s₂ : DmaSem sig} {hsrc : src.view.WordExact} {hdst : dst.view.WordExact} {α : Type} {Q : α → sProp 𝕄} {k : PUnit → Prog (TpuEff nD τ sig (Elt F) Λ₀ .tc) α} {D : sProp 𝕄} {Nn : ℕ}
    (hN : dst.view.dmaCredit = Nn) (hlv : lvS (.dma s₂) = 0) {lo lb lr lz ls : List (Fin 18)} :
    iprop(ctx m N ∗ Transfers.Flight (countersEmb (U := UU)) (c : Thread nD τ) (.dma s₂) () Nn D ∗ mid m c lo lb lr lz ls)
      ⊢ iprop(((D ∗ semVal ((c : Thread nD τ), .dma s₂) 0 ∗ mid m c lo lb lr lz ls) -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 s₂ src dst hsrc hdst) k) Q) := by
  unfold ctx mid owesE
  iintro ⟨⟨-, #Hlev⟩, HF, ⟨%W, HO⟩, Hrest⟩ Hk
  iapply (Transfers.wp_waitLocalO (countersEmb (U := UU)) 𝒱₀ (c : Thread nD τ) none () hN (O := oweL c lo) (W := W)) $$ [HF HO]
  · isplitl [HF]; · iexact HF
    isplitl [HO]; · iexact HO
    iapply (mayWait_low c (.dma s₂) (by rw [hlv]; decide) lo); iexact Hlev
  iintro ⟨HD, Hv, HO⟩
  iapply Hk
  isplitl [HD]; · iexact HD
  isplitl [Hv]; · iexact Hv
  isplitl [HO]; · iexists _; iexact HO
  iexact Hrest

/-! ## Casting 128 rows -/

theorem load_set {b : Ref sig .tc} (r : Rect b.ty.shape) : (Memref.whole b).view.setOn r.toLoadRect.set = r.set :=
  Finset.map_refl.trans rfl
theorem load_setA {a n : ℕ} (inb : ∀ x, (![a, 0] : Fin 2 → ℕ) x + (![n, 4096] : Fin 2 → ℕ) x ≤ S1024x4096.size x) :
    xstM.view.setOn (Rect.unit (s := S1024x4096) ![a, 0] ![n, 4096] inb).toLoadRect.set ⊆ rowsA a (a + n) :=
  subset_of_eq ((load_set (b := cc0_scratch0) _).trans set_unitA)
theorem load_setA' {a n : ℕ} (inb : ∀ x, (![a, 0] : Fin 2 → ℕ) x + (![n, 4096] : Fin 2 → ℕ) x ≤ S1024x4096.size x) :
    ownM.view.setOn (Rect.unit (s := S1024x4096) ![a, 0] ![n, 4096] inb).toLoadRect.set ⊆ rowsA a (a + n) :=
  subset_of_eq ((load_set (b := cc0_scratch3) _).trans set_unitA)
theorem load_setB {a n : ℕ} (inb : ∀ x, (![a, 0] : Fin 2 → ℕ) x + (![n, 512] : Fin 2 → ℕ) x ≤ S4096x512.size x) :
    ostM.view.setOn (Rect.unit (s := S4096x512) ![a, 0] ![n, 512] inb).toLoadRect.set ⊆ rowsB a (a + n) :=
  subset_of_eq ((load_set (b := cc0_scratch2) _).trans set_unitB)

theorem cast_rows (c : Dev nD) {o : Fin 2 → ℕ} {a : ℕ} (ho : o = ![a, 0])
    {inb inb' inb'' : ∀ a, o a + S128x4096.size a ≤ S1024x4096.size a}
    {hl : xstM.view.LoadsAt (Rect.unit (s := S1024x4096) o S128x4096.size inb).toLoadRect} {hl' : ownM.view.LoadsAt (Rect.unit (s := S1024x4096) o S128x4096.size inb').toLoadRect}
    {hx : (ownM.access (Rect.unit (s := S1024x4096) o S128x4096.size inb'')).Stores Finset.univ}
    {hm : (Finset.univ : Finset (Rect.unit (s := S1024x4096) o S128x4096.size inb'').shape.Idx) = Finset.univ ∨ ∀ a, (Rect.unit (s := S1024x4096) o S128x4096.size inb'').stride a = 1}
    {pay : (S128x4096.Idx → Elt F .f32) → S128x4096.Idx → Elt F .fp8e4m3} (hpay : ∀ v, pay v = k0_pay1 v) {α : Type} {Q : α → sProp 𝕄} {k : PUnit → Prog (TpuEff nD τ sig (Elt F) Λ₀ .tc) α} :
    iprop(xstPts c a (a + 128) fullShare (xC m c) ∗ (∃ f, ownPts (F := F) c a (a + 128) fullShare f))
      ⊢ iprop(((xstPts c a (a + 128) fullShare (xC m c) ∗ ownPts c a (a + 128) sh0 (ownC m c) ∗ ownPts c a (a + 128) sh1 (ownC m c) ∗ ownPts c a (a + 128) shK (ownC m c)) -∗ wp frame (wpE (defs₀ (F := F)) 𝒱₀ (c : Thread nD τ) none) Set.univ (k ⟨⟩) Q)
          -∗ wp frame (wpE (defs₀ (F := F)) 𝒱₀ (c : Thread nD τ) none) Set.univ (.op (.load xstM (Rect.unit (s := S1024x4096) o S128x4096.size inb).toLoadRect hl) fun v =>
              .op (.load ownM (Rect.unit (s := S1024x4096) o S128x4096.size inb').toLoadRect hl') fun _ =>
              .op (.store ownM (Rect.unit (s := S1024x4096) o S128x4096.size inb'') (pay v) Finset.univ hx hm) k) Q) := by
  subst ho
  iintro ⟨Hx, %f, Ho⟩ Hk
  iapply (wp_load 𝒱₀ (c : Thread nD τ) none Set.univ (m := xstM) (S := rowsA a (a + 128)) (load_setA _)) $$ Hx
  iintro Hx
  iapply (wp_load 𝒱₀ (c : Thread nD τ) none Set.univ (m := ownM) (S := rowsA a (a + 128)) (load_setA' _)) $$ Ho
  iintro Ho
  iapply (wp_store 𝒱₀ (c : Thread nD τ) none Set.univ (m := ownM) (r := Rect.unit (s := S1024x4096) ![a, 0] S128x4096.size inb'') (S := rowsA a (a + 128)) (by
    show (ownM.access (Rect.unit (s := S1024x4096) ![a, 0] S128x4096.size inb'')).set ⊆ _
    rw [View.set_slice_whole, set_unitA])) $$ Ho
  iintro Ho
  ihave Ho := (Entails.of_eq (pointsTo_congr (ℓ := (c : Thread nD τ).loc cc0_scratch3) (g := ownC m c) (fun i hi => by
    rw [← set_unitA (inb := inb'')] at hi
    obtain ⟨x, -, rfl⟩ := Finset.mem_map.mp ((Rect.map_emb_univ (Rect.unit (s := S1024x4096) ![a, 0] S128x4096.size inb'')).symm ▸ hi)
    refine (View.write_emb_of_mem (v := ownM.access (Rect.unit (s := S1024x4096) ![a, 0] S128x4096.size inb'')) f _ (Finset.mem_univ x)).trans ?_
    rw [hpay]; unfold k0_pay1; rw [shapeCast_id]; rfl))) $$ Ho
  ihave Ho := (pts_shares (F := F) _).1 $$ Ho
  icases Ho with ⟨H0, H1, HK⟩
  iapply Hk
  isplitl [Hx]; · iexact Hx
  isplitl [H0]; · iexact H0
  isplitl [H1] <;> iassumption

/-! ## Storing rows of the result -/

theorem copy_out {r : Rect S4096x512} {h : ∀ a, r.stride a = 1} {h' : ∀ a, r.stride a = 1} (f g : S4096x512.Idx → Elt F .f32) (i : S4096x512.Idx) (hi : i ∈ r.set) :
    (outM.slice r h).view.write (Elt F) g ((ostM.slice r h').view.read (Elt F) f) Finset.univ i = f i := by
  obtain ⟨x, -, rfl⟩ := Finset.mem_map.mp ((Rect.map_emb_univ r).symm ▸ hi)
  exact View.write_emb_of_mem (v := (outM.slice r h).view) g _ (Finset.mem_univ x)

abbrev ostPts (c : Dev nD) (a b : ℕ) (f : S4096x512.Idx → Elt F .f32) : sProp 𝕄 := ((c : Thread nD τ).loc cc0_scratch2) ↦[rowsB a b]{fullShare} f
abbrev outPts (c : Dev nD) (a b : ℕ) (f : S4096x512.Idx → Elt F .f32) : sProp 𝕄 := ((c : Thread nD τ).loc main_v1) ↦[rowsB a b]{fullShare} f

theorem inb_ok1024 : ∀ x, (![0, 0] : Fin 2 → ℕ) x + S1024x512.size x ≤ S4096x512.size x := by decide
abbrev NO1024 : ℕ := (outM.slice (Rect.unit (s := S4096x512) ![0, 0] S1024x512.size inb_ok1024) (fun _ => rfl)).view.dmaCredit
theorem NO1024_pos : 0 < NO1024 := View.dmaCredit_pos _ (by decide)

/-- 1024 rows of the result on their way to HBM. -/
def flo1024 (c : Dev nD) (j : Fin 5) (a : ℕ) : sProp 𝕄 :=
  Transfers.Flight (countersEmb (U := UU)) (c : Thread nD τ) (.dma (storeS j)) () NO1024
    iprop(outPts c a (a + 1024) (outC m ρ c) ∗ ostPts c a (a + 1024) (outC m ρ c))

/-- 1024 rows of the result stored in VMEM and their copy to HBM issued. -/
theorem store_out1024 (c : Dev nD) (j : Fin 5) {o o' : Fin 2 → ℕ} {a : ℕ} (ho : o = ![a, 0]) (ho' : o' = ![a, 0]) {s : DmaSem sig} (hs : s = storeS j)
    {v : S1024x512.Idx → Elt F .f32}
    {inb inb' : ∀ a, o a + S1024x512.size a ≤ S4096x512.size a} {inb3 inb4 : ∀ a, o' a + S1024x512.size a ≤ S4096x512.size a}
    {hl : ostM.view.LoadsAt (Rect.unit (s := S4096x512) o S1024x512.size inb).toLoadRect}
    {hx : (ostM.access (Rect.unit (s := S4096x512) o S1024x512.size inb')).Stores Finset.univ}
    {hm : (Finset.univ : Finset (Rect.unit (s := S4096x512) o S1024x512.size inb').shape.Idx) = Finset.univ ∨ ∀ a, (Rect.unit (s := S4096x512) o S1024x512.size inb').stride a = 1}
    {hr : ∀ a, (Rect.unit (s := S4096x512) o' S1024x512.size inb3).stride a = 1} {hr' : ∀ a, (Rect.unit (s := S4096x512) o' S1024x512.size inb4).stride a = 1}
    {hsrc : (ostM.slice (Rect.unit (s := S4096x512) o' S1024x512.size inb3) hr).view.WordExact} {hdst : (outM.slice (Rect.unit (s := S4096x512) o' S1024x512.size inb4) hr').view.WordExact}
    {hsem : DmaTarget.Typed (nD := nD) .vmem (.dma s) (.here (p := .tc) (outM.slice (Rect.unit (s := S4096x512) o' S1024x512.size inb4) hr'))} {α : Type} {Q : α → sProp 𝕄} {k : PUnit → Prog (TpuEff nD τ sig (Elt F) Λ₀ .tc) α}
    (hv : ∀ (inb : ∀ x, (![a, 0] : Fin 2 → ℕ) x + S1024x512.size x ≤ S4096x512.size x) (x : S1024x512.Idx), outC m ρ c ((Rect.unit (s := S4096x512) ![a, 0] S1024x512.size inb).emb x) = v x) :
    iprop((∃ f, ostPts (F := F) c a (a + 1024) f) ∗ (∃ f, outPts (F := F) c a (a + 1024) f) ∗ semVal ((c : Thread nD τ), .dma (storeS j)) 0)
      ⊢ iprop((flo1024 m ρ c j a -∗ wp frame (wpE (defs₀ (F := F)) 𝒱₀ (c : Thread nD τ) none) Set.univ (k ⟨⟩) Q)
          -∗ wp frame (wpE (defs₀ (F := F)) 𝒱₀ (c : Thread nD τ) none) Set.univ (.op (.load ostM (Rect.unit (s := S4096x512) o S1024x512.size inb).toLoadRect hl) fun _ =>
              .op (.store ostM (Rect.unit (s := S4096x512) o S1024x512.size inb') v Finset.univ hx hm) fun _ =>
              .op (.enqueueDma (ostM.slice (Rect.unit (s := S4096x512) o' S1024x512.size inb3) hr) (.here (p := .tc) (outM.slice (Rect.unit (s := S4096x512) o' S1024x512.size inb4) hr')) (.dma s) hsrc hdst hsem) k) Q) := by
  subst ho ho' hs
  iintro ⟨⟨%f, Ho⟩, ⟨%g, Hd⟩, Hv⟩ Hk
  iapply (wp_load 𝒱₀ (c : Thread nD τ) none Set.univ (m := ostM) (S := rowsB a (a + 1024)) (load_setB _)) $$ Ho
  iintro Ho
  iapply (wp_store 𝒱₀ (c : Thread nD τ) none Set.univ (m := ostM) (r := Rect.unit (s := S4096x512) ![a, 0] S1024x512.size inb') (S := rowsB a (a + 1024)) (by
    show (ostM.access (Rect.unit (s := S4096x512) ![a, 0] S1024x512.size inb')).set ⊆ _
    rw [View.set_slice_whole, set_unitB])) $$ Ho
  iintro Ho
  ihave Ho := (Entails.of_eq (pointsTo_congr (ℓ := (c : Thread nD τ).loc cc0_scratch2) (g := outC m ρ c) (fun i hi => by
    rw [← set_unitB (inb := inb')] at hi
    obtain ⟨x, -, rfl⟩ := Finset.mem_map.mp ((Rect.map_emb_univ (Rect.unit (s := S4096x512) ![a, 0] S1024x512.size inb')).symm ▸ hi)
    exact (View.write_emb_of_mem (v := ostM.access (Rect.unit (s := S4096x512) ![a, 0] S1024x512.size inb')) f _ (Finset.mem_univ x)).trans (hv inb' x).symm))) $$ Ho
  iapply (Transfers.wp_dmaLocal (countersEmb (U := UU)) 𝒱₀ (c : Thread nD τ) none () NO1024 rfl NO1024_pos (fs := outC m ρ c) (fd := g) (q := fullShare) (subset_refl _)) $$ [Ho Hd Hv]
  · isplitl [Ho]; · rw [slice_set, set_unitB]; iexact Ho
    isplitl [Hd]; · rw [slice_set, set_unitB]; iexact Hd
    iexact Hv
  iintro HF
  iapply Hk
  unfold flo1024
  iapply (Transfers.Flight_mono (countersEmb (U := UU)) (c : Thread nD τ) ?_) $$ HF
  rw [slice_set, slice_set]
  refine (sep_mono_left (Entails.of_eq (pointsTo_congr fun i hi => copy_out (outC m ρ c) _ i hi))).trans ?_
  rw [set_unitB]

theorem inb_ok512 : ∀ x, (![0, 0] : Fin 2 → ℕ) x + S512x512.size x ≤ S4096x512.size x := by decide
abbrev NO512 : ℕ := (outM.slice (Rect.unit (s := S4096x512) ![0, 0] S512x512.size inb_ok512) (fun _ => rfl)).view.dmaCredit
theorem NO512_pos : 0 < NO512 := View.dmaCredit_pos _ (by decide)

/-- 512 rows of the result on their way to HBM. -/
def flo512 (c : Dev nD) (j : Fin 5) (a : ℕ) : sProp 𝕄 :=
  Transfers.Flight (countersEmb (U := UU)) (c : Thread nD τ) (.dma (storeS j)) () NO512
    iprop(outPts c a (a + 512) (outC m ρ c) ∗ ostPts c a (a + 512) (outC m ρ c))

/-- 512 rows of the result stored in VMEM and their copy to HBM issued. -/
theorem store_out512 (c : Dev nD) (j : Fin 5) {o o' : Fin 2 → ℕ} {a : ℕ} (ho : o = ![a, 0]) (ho' : o' = ![a, 0]) {s : DmaSem sig} (hs : s = storeS j)
    {v : S512x512.Idx → Elt F .f32}
    {inb inb' : ∀ a, o a + S512x512.size a ≤ S4096x512.size a} {inb3 inb4 : ∀ a, o' a + S512x512.size a ≤ S4096x512.size a}
    {hl : ostM.view.LoadsAt (Rect.unit (s := S4096x512) o S512x512.size inb).toLoadRect}
    {hx : (ostM.access (Rect.unit (s := S4096x512) o S512x512.size inb')).Stores Finset.univ}
    {hm : (Finset.univ : Finset (Rect.unit (s := S4096x512) o S512x512.size inb').shape.Idx) = Finset.univ ∨ ∀ a, (Rect.unit (s := S4096x512) o S512x512.size inb').stride a = 1}
    {hr : ∀ a, (Rect.unit (s := S4096x512) o' S512x512.size inb3).stride a = 1} {hr' : ∀ a, (Rect.unit (s := S4096x512) o' S512x512.size inb4).stride a = 1}
    {hsrc : (ostM.slice (Rect.unit (s := S4096x512) o' S512x512.size inb3) hr).view.WordExact} {hdst : (outM.slice (Rect.unit (s := S4096x512) o' S512x512.size inb4) hr').view.WordExact}
    {hsem : DmaTarget.Typed (nD := nD) .vmem (.dma s) (.here (p := .tc) (outM.slice (Rect.unit (s := S4096x512) o' S512x512.size inb4) hr'))} {α : Type} {Q : α → sProp 𝕄} {k : PUnit → Prog (TpuEff nD τ sig (Elt F) Λ₀ .tc) α}
    (hv : ∀ (inb : ∀ x, (![a, 0] : Fin 2 → ℕ) x + S512x512.size x ≤ S4096x512.size x) (x : S512x512.Idx), outC m ρ c ((Rect.unit (s := S4096x512) ![a, 0] S512x512.size inb).emb x) = v x) :
    iprop((∃ f, ostPts (F := F) c a (a + 512) f) ∗ (∃ f, outPts (F := F) c a (a + 512) f) ∗ semVal ((c : Thread nD τ), .dma (storeS j)) 0)
      ⊢ iprop((flo512 m ρ c j a -∗ wp frame (wpE (defs₀ (F := F)) 𝒱₀ (c : Thread nD τ) none) Set.univ (k ⟨⟩) Q)
          -∗ wp frame (wpE (defs₀ (F := F)) 𝒱₀ (c : Thread nD τ) none) Set.univ (.op (.load ostM (Rect.unit (s := S4096x512) o S512x512.size inb).toLoadRect hl) fun _ =>
              .op (.store ostM (Rect.unit (s := S4096x512) o S512x512.size inb') v Finset.univ hx hm) fun _ =>
              .op (.enqueueDma (ostM.slice (Rect.unit (s := S4096x512) o' S512x512.size inb3) hr) (.here (p := .tc) (outM.slice (Rect.unit (s := S4096x512) o' S512x512.size inb4) hr')) (.dma s) hsrc hdst hsem) k) Q) := by
  subst ho ho' hs
  iintro ⟨⟨%f, Ho⟩, ⟨%g, Hd⟩, Hv⟩ Hk
  iapply (wp_load 𝒱₀ (c : Thread nD τ) none Set.univ (m := ostM) (S := rowsB a (a + 512)) (load_setB _)) $$ Ho
  iintro Ho
  iapply (wp_store 𝒱₀ (c : Thread nD τ) none Set.univ (m := ostM) (r := Rect.unit (s := S4096x512) ![a, 0] S512x512.size inb') (S := rowsB a (a + 512)) (by
    show (ostM.access (Rect.unit (s := S4096x512) ![a, 0] S512x512.size inb')).set ⊆ _
    rw [View.set_slice_whole, set_unitB])) $$ Ho
  iintro Ho
  ihave Ho := (Entails.of_eq (pointsTo_congr (ℓ := (c : Thread nD τ).loc cc0_scratch2) (g := outC m ρ c) (fun i hi => by
    rw [← set_unitB (inb := inb')] at hi
    obtain ⟨x, -, rfl⟩ := Finset.mem_map.mp ((Rect.map_emb_univ (Rect.unit (s := S4096x512) ![a, 0] S512x512.size inb')).symm ▸ hi)
    exact (View.write_emb_of_mem (v := ostM.access (Rect.unit (s := S4096x512) ![a, 0] S512x512.size inb')) f _ (Finset.mem_univ x)).trans (hv inb' x).symm))) $$ Ho
  iapply (Transfers.wp_dmaLocal (countersEmb (U := UU)) 𝒱₀ (c : Thread nD τ) none () NO512 rfl NO512_pos (fs := outC m ρ c) (fd := g) (q := fullShare) (subset_refl _)) $$ [Ho Hd Hv]
  · isplitl [Ho]; · rw [slice_set, set_unitB]; iexact Ho
    isplitl [Hd]; · rw [slice_set, set_unitB]; iexact Hd
    iexact Hv
  iintro HF
  iapply Hk
  unfold flo512
  iapply (Transfers.Flight_mono (countersEmb (U := UU)) (c : Thread nD τ) ?_) $$ HF
  rw [slice_set, slice_set]
  refine (sep_mono_left (Entails.of_eq (pointsTo_congr fun i hi => copy_out (outC m ρ c) _ i hi))).trans ?_
  rw [set_unitB]

end Cert.KernelIdealProof

end
-- ==== Proof.KernelIdeal.Chunks.lean ====
/-
A chunk of 128 rows: its load awaited and its rows cast.
-/
module

public import proofs.«01_k».proof.Proof.KernelIdeal.Local

@[expose] public section

noncomputable section

namespace Cert.KernelIdealProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

variable (N : Dev nD × CK → ℕ)

abbrev sxM : Memref sig .tc .smem S1 .f32 := Memref.whole cc0_stg0_0
abbrev swM : Memref sig .tc .smem S1 .f32 := Memref.whole cc0_stg1_0

theorem lv_load (l : Fin 9) : lvS (.dma (loadS l)) = 0 := by revert l; decide
theorem lv_store (j : Fin 5) : lvS (.dma (storeS j)) = 0 := by revert j; decide

/-! ## The eight chunks of 128 rows -/

/-- Chunk `q` before its load is issued, and after it has been cast. -/
def ldE (c : Dev nD) (l : Fin 9) : sProp 𝕄 :=
  iprop(xPts c (128 * l.val) (128 * l.val + 128) fullShare (xC m c) ∗ (∃ f, xstPts (F := F) c (128 * l.val) (128 * l.val + 128) fullShare f) ∗ semVal ((c : Thread nD τ), .dma (loadS l)) 0)
def ldD (c : Dev nD) (l : Fin 9) : sProp 𝕄 :=
  iprop(xPts c (128 * l.val) (128 * l.val + 128) fullShare (xC m c) ∗ xstPts c (128 * l.val) (128 * l.val + 128) fullShare (xC m c) ∗ semVal ((c : Thread nD τ), .dma (loadS l)) 0)
/-- Its rows of `own` before the cast, and the three shares of them after it. -/
def ownE (c : Dev nD) (q : ℕ) : sProp 𝕄 := iprop(∃ f, ownPts (F := F) c (128 * q) (128 * q + 128) fullShare f)
abbrev own0 (c : Dev nD) (q : ℕ) : sProp 𝕄 := ownPts c (128 * q) (128 * q + 128) sh0 (ownC m c)
abbrev own1 (c : Dev nD) (q : ℕ) : sProp 𝕄 := ownPts c (128 * q) (128 * q + 128) sh1 (ownC m c)
abbrev ownK (c : Dev nD) (q : ℕ) : sProp 𝕄 := ownPts c (128 * q) (128 * q + 128) shK (ownC m c)

/-- One chunk: its load awaited, its rows cast. -/
theorem chunk (c : Dev nD) (l : Fin 9) (hl8 : l.val < 8) {s' : Shape} {e : EltTy} {sp : Space} {src : Memref sig .tc sp s' e}
    {s₂ : DmaSem sig} (h₂ : s₂ = loadS l) {o : Fin 2 → ℕ} (ho : o = ![128 * l.val, 0])
    {inbd : ∀ a, o a + S128x4096.size a ≤ S1024x4096.size a} {hr : ∀ a, (Rect.unit (s := S1024x4096) o S128x4096.size inbd).stride a = 1}
    {hsrc : src.view.WordExact} {hdst : (xstM.slice (Rect.unit (s := S1024x4096) o S128x4096.size inbd) hr).view.WordExact}
    {inb inb' inb'' : ∀ a, o a + S128x4096.size a ≤ S1024x4096.size a}
    {hl : xstM.view.LoadsAt (Rect.unit (s := S1024x4096) o S128x4096.size inb).toLoadRect} {hl' : ownM.view.LoadsAt (Rect.unit (s := S1024x4096) o S128x4096.size inb').toLoadRect}
    {hx : (ownM.access (Rect.unit (s := S1024x4096) o S128x4096.size inb'')).Stores Finset.univ}
    {hm : (Finset.univ : Finset (Rect.unit (s := S1024x4096) o S128x4096.size inb'').shape.Idx) = Finset.univ ∨ ∀ a, (Rect.unit (s := S1024x4096) o S128x4096.size inb'').stride a = 1}
    {pay : (S128x4096.Idx → Elt F .f32) → S128x4096.Idx → Elt F .fp8e4m3} (hpay : ∀ v, pay v = k0_pay1 v) {α : Type} {Q : α → sProp 𝕄} {k : PUnit → Prog (TpuEff nD τ sig (Elt F) Λ₀ .tc) α} {lo lb lr lz ls : List (Fin 18)} :
    iprop(ctx m N ∗ mid m c lo lb lr lz ls ∗ flx m c l ∗ ownE (F := F) c l.val)
      ⊢ iprop(((mid m c lo lb lr lz ls ∗ ldD m c l ∗ own0 m c l.val ∗ own1 m c l.val ∗ ownK m c l.val) -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 s₂ src (xstM.slice (Rect.unit (s := S1024x4096) o S128x4096.size inbd) hr) hsrc hdst) fun _ =>
              .op (.load xstM (Rect.unit (s := S1024x4096) o S128x4096.size inb).toLoadRect hl) fun v =>
              .op (.load ownM (Rect.unit (s := S1024x4096) o S128x4096.size inb').toLoadRect hl') fun _ =>
              .op (.store ownM (Rect.unit (s := S1024x4096) o S128x4096.size inb'') (pay v) Finset.univ hx hm) k) Q) := by
  unfold flx ownE ldD
  subst h₂
  iintro ⟨#Hc, Hm, Hf, He⟩ Hk
  iapply (wait_local m N c (src := src) (dst := xstM.slice (Rect.unit (s := S1024x4096) o S128x4096.size inbd) hr) (Nn := NX) rfl (lv_load l)) $$ [Hf Hm]
  · isplitr; · iexact Hc
    isplitl [Hf]; · iexact Hf
    iexact Hm
  iintro ⟨⟨Hs, Hx⟩, Hv, Hm⟩
  iapply (cast_rows m c ho hpay) $$ [Hs He]
  · isplitl [Hs] <;> iassumption
  iintro ⟨Hs, H0, H1, HK⟩
  iapply Hk
  isplitl [Hm]; · iexact Hm
  isplitl [Hx Hs Hv]
  · isplitl [Hx]; · iexact Hx
    isplitl [Hs] <;> iassumption
  isplitl [H0]; · iexact H0
  isplitl [H1] <;> iassumption

end Cert.KernelIdealProof

end
-- ==== Proof.KernelIdeal.Rows.lean ====
/-
Chunks of rows joined and split, and what the landings make available.
-/
module

public import proofs.«01_k».proof.Proof.KernelIdeal.Chunks

@[expose] public section

noncomputable section

namespace Cert.KernelIdealProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-! ## Consecutive rows joined and split -/

theorem rowsA_mem {a b d : ℕ} (h : a ≤ b) (h' : b ≤ d) (i : S1024x4096.Idx) : i ∈ rowsA a d ↔ i ∈ rowsA a b ∨ i ∈ rowsA b d := by
  rw [mem_rowsA, mem_rowsA, mem_rowsA]; omega
theorem rowsA_apart (a b d : ℕ) (i : S1024x4096.Idx) (h : i ∈ rowsA a b) (h' : i ∈ rowsA b d) : False := by
  rw [mem_rowsA] at h h'; omega
theorem rowsB_mem {a b d : ℕ} (h : a ≤ b) (h' : b ≤ d) (i : S4096x512.Idx) : i ∈ rowsB a d ↔ i ∈ rowsB a b ∨ i ∈ rowsB b d := by
  rw [mem_rowsB, mem_rowsB, mem_rowsB]; omega
theorem rowsB_apart (a b d : ℕ) (i : S4096x512.Idx) (h : i ∈ rowsB a b) (h' : i ∈ rowsB b d) : False := by
  rw [mem_rowsB] at h h'; omega

theorem pts_splitR {ℓ : Loc nD τ sig} {A B C : Finset (Idx ℓ)} (h : ∀ i, i ∈ C ↔ i ∈ A ∨ i ∈ B) (hd : ∀ i, i ∈ A → i ∈ B → False) {q : PosShare TreeShare} (f : Buf (Elt F) ℓ) :
    (ℓ ↦[C]{q} f : sProp 𝕄) ⊢ iprop((ℓ ↦[A]{q} f) ∗ ℓ ↦[B]{q} f) :=
  (pts_split (Finset.ext fun i => by rw [Finset.mem_union, h i]) (Finset.disjoint_left.mpr fun i h1 h2 => hd i h1 h2) f).1
theorem pts_joinR {ℓ : Loc nD τ sig} {A B C : Finset (Idx ℓ)} (h : ∀ i, i ∈ C ↔ i ∈ A ∨ i ∈ B) (hd : ∀ i, i ∈ A → i ∈ B → False) {q : PosShare TreeShare} (f : Buf (Elt F) ℓ) :
    iprop((ℓ ↦[A]{q} f) ∗ ℓ ↦[B]{q} f) ⊢ (ℓ ↦[C]{q} f : sProp 𝕄) :=
  (pts_split (Finset.ext fun i => by rw [Finset.mem_union, h i]) (Finset.disjoint_left.mpr fun i h1 h2 => hd i h1 h2) f).2

section Lists

theorem join4 {P : ℕ → ℕ → sProp 𝕄} (hP : ∀ a b d, a ≤ b → b ≤ d → iprop(P a b ∗ P b d) ⊢ P a d) (a : ℕ) :
    iprop(P a (a + 128) ∗ P (a + 128) (a + 256) ∗ P (a + 256) (a + 384) ∗ P (a + 384) (a + 512)) ⊢ P a (a + 512) := by
  have h1 : a ≤ a + 128 := by omega
  have h2 : a + 128 ≤ a + 512 := by omega
  have h3 : a + 128 ≤ a + 256 := by omega
  have h4 : a + 256 ≤ a + 512 := by omega
  have h5 : a + 256 ≤ a + 384 := by omega
  have h6 : a + 384 ≤ a + 512 := by omega
  iintro ⟨H0, H1, H2, H3⟩
  iapply (hP a (a + 128) (a + 512) h1 h2)
  isplitl [H0]; · iexact H0
  iapply (hP (a + 128) (a + 256) (a + 512) h3 h4)
  isplitl [H1]; · iexact H1
  iapply (hP (a + 256) (a + 384) (a + 512) h5 h6)
  isplitl [H2] <;> iassumption
theorem split4 {P : ℕ → ℕ → sProp 𝕄} (hP : ∀ a b d, a ≤ b → b ≤ d → P a d ⊢ iprop(P a b ∗ P b d)) (a : ℕ) :
    P a (a + 512) ⊢ iprop(P a (a + 128) ∗ P (a + 128) (a + 256) ∗ P (a + 256) (a + 384) ∗ P (a + 384) (a + 512)) := by
  have h1 : a ≤ a + 128 := by omega
  have h2 : a + 128 ≤ a + 512 := by omega
  have h3 : a + 128 ≤ a + 256 := by omega
  have h4 : a + 256 ≤ a + 512 := by omega
  have h5 : a + 256 ≤ a + 384 := by omega
  have h6 : a + 384 ≤ a + 512 := by omega
  iintro H
  ihave H := (hP a (a + 128) (a + 512) h1 h2) $$ H
  icases H with ⟨H0, H⟩
  ihave H := (hP (a + 128) (a + 256) (a + 512) h3 h4) $$ H
  icases H with ⟨H1, H⟩
  ihave H := (hP (a + 256) (a + 384) (a + 512) h5 h6) $$ H
  icases H with ⟨H2, H3⟩
  isplitl [H0]; · iexact H0
  isplitl [H1]; · iexact H1
  isplitl [H2] <;> iassumption

/-- The chunk `q` of 128 rows. -/
abbrev chk (P : ℕ → ℕ → sProp 𝕄) (q : ℕ) : sProp 𝕄 := P (128 * q) (128 * q + 128)

theorem join8 {P : ℕ → ℕ → sProp 𝕄} (hP : ∀ a b d, a ≤ b → b ≤ d → iprop(P a b ∗ P b d) ⊢ P a d) :
    iprop(chk P 0 ∗ chk P 1 ∗ chk P 2 ∗ chk P 3 ∗ chk P 4 ∗ chk P 5 ∗ chk P 6 ∗ chk P 7) ⊢ P 0 1024 := by
  iintro ⟨H0, H1, H2, H3, H4, H5, H6, H7⟩
  iapply (hP 0 512 1024 (by decide) (by decide))
  isplitl [H0 H1 H2 H3]
  · iapply (join4 hP 0)
    isplitl [H0]; · iexact H0
    isplitl [H1]; · iexact H1
    isplitl [H2]; · iexact H2
    iexact H3
  · iapply (join4 hP 512)
    isplitl [H4]; · iexact H4
    isplitl [H5]; · iexact H5
    isplitl [H6]; · iexact H6
    iexact H7
theorem split8 {P : ℕ → ℕ → sProp 𝕄} (hP : ∀ a b d, a ≤ b → b ≤ d → P a d ⊢ iprop(P a b ∗ P b d)) :
    P 0 1024 ⊢ iprop(chk P 0 ∗ chk P 1 ∗ chk P 2 ∗ chk P 3 ∗ chk P 4 ∗ chk P 5 ∗ chk P 6 ∗ chk P 7) := by
  iintro H
  ihave H := (hP 0 512 1024 (by decide) (by decide)) $$ H
  icases H with ⟨HA, HB⟩
  ihave HA := (split4 hP 0) $$ HA
  icases HA with ⟨H0, H1, H2, H3⟩
  ihave HB := (split4 hP 512) $$ HB
  icases HB with ⟨H4, H5, H6, H7⟩
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7
end Lists

theorem x_join (c : Dev nD) (q : PosShare TreeShare) (f : S1024x4096.Idx → Elt F .f32) (a b d : ℕ) (h : a ≤ b) (h' : b ≤ d) :
    iprop(xPts c a b q f ∗ xPts c b d q f) ⊢ xPts c a d q f := pts_joinR (ℓ := (c : Thread nD τ).loc main_arg0) (rowsA_mem h h') (rowsA_apart a b d) f
theorem x_split (c : Dev nD) (q : PosShare TreeShare) (f : S1024x4096.Idx → Elt F .f32) (a b d : ℕ) (h : a ≤ b) (h' : b ≤ d) :
    xPts c a d q f ⊢ iprop(xPts c a b q f ∗ xPts c b d q f) := pts_splitR (ℓ := (c : Thread nD τ).loc main_arg0) (rowsA_mem h h') (rowsA_apart a b d) f

theorem xst_join (c : Dev nD) (q : PosShare TreeShare) (f : S1024x4096.Idx → Elt F .f32) (a b d : ℕ) (h : a ≤ b) (h' : b ≤ d) :
    iprop(xstPts c a b q f ∗ xstPts c b d q f) ⊢ xstPts c a d q f := pts_joinR (ℓ := (c : Thread nD τ).loc cc0_scratch0) (rowsA_mem h h') (rowsA_apart a b d) f
theorem xst_split (c : Dev nD) (q : PosShare TreeShare) (f : S1024x4096.Idx → Elt F .f32) (a b d : ℕ) (h : a ≤ b) (h' : b ≤ d) :
    xstPts c a d q f ⊢ iprop(xstPts c a b q f ∗ xstPts c b d q f) := pts_splitR (ℓ := (c : Thread nD τ).loc cc0_scratch0) (rowsA_mem h h') (rowsA_apart a b d) f
/-- The same with contents unnamed. -/
abbrev xstAny (c : Dev nD) (a b : ℕ) : sProp 𝕄 := iprop(∃ f, xstPts (F := F) c a b fullShare f)
theorem xstAny_split (c : Dev nD) (a b d : ℕ) (h : a ≤ b) (h' : b ≤ d) : xstAny (F := F) c a d ⊢ iprop(xstAny (F := F) c a b ∗ xstAny (F := F) c b d) := by
  iintro ⟨%f, H⟩
  ihave H := (xst_split c fullShare f a b d h h') $$ H
  icases H with ⟨H0, H1⟩
  isplitl [H0]
  · iexists f; iexact H0
  · iexists f; iexact H1

theorem own_join (c : Dev nD) (q : PosShare TreeShare) (f : S1024x4096.Idx → Elt F .fp8e4m3) (a b d : ℕ) (h : a ≤ b) (h' : b ≤ d) :
    iprop(ownPts c a b q f ∗ ownPts c b d q f) ⊢ ownPts c a d q f := pts_joinR (ℓ := (c : Thread nD τ).loc cc0_scratch3) (rowsA_mem h h') (rowsA_apart a b d) f
theorem own_split (c : Dev nD) (q : PosShare TreeShare) (f : S1024x4096.Idx → Elt F .fp8e4m3) (a b d : ℕ) (h : a ≤ b) (h' : b ≤ d) :
    ownPts c a d q f ⊢ iprop(ownPts c a b q f ∗ ownPts c b d q f) := pts_splitR (ℓ := (c : Thread nD τ).loc cc0_scratch3) (rowsA_mem h h') (rowsA_apart a b d) f
/-- The same with contents unnamed. -/
abbrev ownAny (c : Dev nD) (a b : ℕ) : sProp 𝕄 := iprop(∃ f, ownPts (F := F) c a b fullShare f)
theorem ownAny_split (c : Dev nD) (a b d : ℕ) (h : a ≤ b) (h' : b ≤ d) : ownAny (F := F) c a d ⊢ iprop(ownAny (F := F) c a b ∗ ownAny (F := F) c b d) := by
  iintro ⟨%f, H⟩
  ihave H := (own_split c fullShare f a b d h h') $$ H
  icases H with ⟨H0, H1⟩
  isplitl [H0]
  · iexists f; iexact H0
  · iexists f; iexact H1

theorem fl_join (c : Dev nD) (q : PosShare TreeShare) (f : S1024x4096.Idx → Elt F .fp8e4m3) (a b d : ℕ) (h : a ≤ b) (h' : b ≤ d) :
    iprop(flPts c a b q f ∗ flPts c b d q f) ⊢ flPts c a d q f := pts_joinR (ℓ := (c : Thread nD τ).loc cc0_scratch4) (rowsA_mem h h') (rowsA_apart a b d) f
theorem fl_split (c : Dev nD) (q : PosShare TreeShare) (f : S1024x4096.Idx → Elt F .fp8e4m3) (a b d : ℕ) (h : a ≤ b) (h' : b ≤ d) :
    flPts c a d q f ⊢ iprop(flPts c a b q f ∗ flPts c b d q f) := pts_splitR (ℓ := (c : Thread nD τ).loc cc0_scratch4) (rowsA_mem h h') (rowsA_apart a b d) f
/-- The same with contents unnamed. -/
abbrev flAny (c : Dev nD) (a b : ℕ) : sProp 𝕄 := iprop(∃ f, flPts (F := F) c a b fullShare f)
theorem flAny_split (c : Dev nD) (a b d : ℕ) (h : a ≤ b) (h' : b ≤ d) : flAny (F := F) c a d ⊢ iprop(flAny (F := F) c a b ∗ flAny (F := F) c b d) := by
  iintro ⟨%f, H⟩
  ihave H := (fl_split c fullShare f a b d h h') $$ H
  icases H with ⟨H0, H1⟩
  isplitl [H0]
  · iexists f; iexact H0
  · iexists f; iexact H1

theorem fr_join (c : Dev nD) (q : PosShare TreeShare) (f : S1024x4096.Idx → Elt F .fp8e4m3) (a b d : ℕ) (h : a ≤ b) (h' : b ≤ d) :
    iprop(frPts c a b q f ∗ frPts c b d q f) ⊢ frPts c a d q f := pts_joinR (ℓ := (c : Thread nD τ).loc cc0_scratch5) (rowsA_mem h h') (rowsA_apart a b d) f
theorem fr_split (c : Dev nD) (q : PosShare TreeShare) (f : S1024x4096.Idx → Elt F .fp8e4m3) (a b d : ℕ) (h : a ≤ b) (h' : b ≤ d) :
    frPts c a d q f ⊢ iprop(frPts c a b q f ∗ frPts c b d q f) := pts_splitR (ℓ := (c : Thread nD τ).loc cc0_scratch5) (rowsA_mem h h') (rowsA_apart a b d) f
/-- The same with contents unnamed. -/
abbrev frAny (c : Dev nD) (a b : ℕ) : sProp 𝕄 := iprop(∃ f, frPts (F := F) c a b fullShare f)
theorem frAny_split (c : Dev nD) (a b d : ℕ) (h : a ≤ b) (h' : b ≤ d) : frAny (F := F) c a d ⊢ iprop(frAny (F := F) c a b ∗ frAny (F := F) c b d) := by
  iintro ⟨%f, H⟩
  ihave H := (fr_split c fullShare f a b d h h') $$ H
  icases H with ⟨H0, H1⟩
  isplitl [H0]
  · iexists f; iexact H0
  · iexists f; iexact H1

theorem op_join (c : Dev nD) (q : PosShare TreeShare) (f : S1024x4096.Idx → Elt F .fp8e4m3) (a b d : ℕ) (h : a ≤ b) (h' : b ≤ d) :
    iprop(opPts c a b q f ∗ opPts c b d q f) ⊢ opPts c a d q f := pts_joinR (ℓ := (c : Thread nD τ).loc cc0_scratch6) (rowsA_mem h h') (rowsA_apart a b d) f
theorem op_split (c : Dev nD) (q : PosShare TreeShare) (f : S1024x4096.Idx → Elt F .fp8e4m3) (a b d : ℕ) (h : a ≤ b) (h' : b ≤ d) :
    opPts c a d q f ⊢ iprop(opPts c a b q f ∗ opPts c b d q f) := pts_splitR (ℓ := (c : Thread nD τ).loc cc0_scratch6) (rowsA_mem h h') (rowsA_apart a b d) f
/-- The same with contents unnamed. -/
abbrev opAny (c : Dev nD) (a b : ℕ) : sProp 𝕄 := iprop(∃ f, opPts (F := F) c a b fullShare f)
theorem opAny_split (c : Dev nD) (a b d : ℕ) (h : a ≤ b) (h' : b ≤ d) : opAny (F := F) c a d ⊢ iprop(opAny (F := F) c a b ∗ opAny (F := F) c b d) := by
  iintro ⟨%f, H⟩
  ihave H := (op_split c fullShare f a b d h h') $$ H
  icases H with ⟨H0, H1⟩
  isplitl [H0]
  · iexists f; iexact H0
  · iexists f; iexact H1

/-! ## Half shares -/

theorem pts_half {ℓ : Loc nD τ sig} {A : Finset (Idx ℓ)} (f : Buf (Elt F) ℓ) :
    (ℓ ↦[A]{fullShare} f : sProp 𝕄) ⊣⊢ iprop((ℓ ↦[A]{fullShare.left} f) ∗ ℓ ↦[A]{fullShare.right} f) :=
  pointsTo_share (PosShare.mem_left_op_right fullShare)

/-! ## What the landings make available -/

theorem recvPay_fl (c : Dev nD) (p : Fin 18) (h : p.val < 8) : recvPay m c p = flPts c (128 * p.val) (128 * p.val + 128) fullShare (ownC m (prv c)) := by
  unfold recvPay; rw [if_pos h]
theorem recvPay_fr (c : Dev nD) (p : Fin 18) (h : 9 ≤ p.val) (h' : p.val < 17) :
    recvPay m c p = frPts c (128 * (p.val - 9)) (128 * (p.val - 9) + 128) fullShare (ownC m (nxt c)) := by
  unfold recvPay; rw [if_neg (by omega), if_neg (by omega), if_pos h']
theorem recvPay_lo (c : Dev nD) : recvPay m c 8 = opPts c 0 512 fullShare (ownC m (opp c)) := rfl
theorem recvPay_hi (c : Dev nD) : recvPay m c 17 = opPts c 512 1024 fullShare (ownC m (opp c)) := rfl

/-- The first half of what came from the left, a half share of it lent to its relaying. -/
theorem fl_low (c : Dev nD) : iprop(recvPay m c 0 ∗ recvPay m c 1 ∗ recvPay m c 2 ∗ recvPay m c 3)
    ⊢ iprop(flPts c 0 512 fullShare.left (ownC m (prv c)) ∗ flPts c 0 512 fullShare.right (ownC m (prv c))) :=
  (join4 (P := fun a b => flPts c a b fullShare (ownC m (prv c))) (fl_join c _ _) 0).trans (pts_half _).1
/-- The second half of what came from the right, a half share of it lent to its relaying. -/
theorem fr_high (c : Dev nD) : iprop(recvPay m c 13 ∗ recvPay m c 14 ∗ recvPay m c 15 ∗ recvPay m c 16)
    ⊢ iprop(frPts c 512 1024 fullShare.left (ownC m (nxt c)) ∗ frPts c 512 1024 fullShare.right (ownC m (nxt c))) :=
  (join4 (P := fun a b => frPts c a b fullShare (ownC m (nxt c))) (fr_join c _ _) 512).trans (pts_half _).1
theorem fl_high (c : Dev nD) : iprop(recvPay m c 4 ∗ recvPay m c 5 ∗ recvPay m c 6 ∗ recvPay m c 7)
    ⊢ iprop(flPts c 512 1024 fullShare.left (ownC m (prv c)) ∗ flPts c 512 1024 fullShare.right (ownC m (prv c))) :=
  (join4 (P := fun a b => flPts c a b fullShare (ownC m (prv c))) (fl_join c _ _) 512).trans (pts_half _).1
theorem fr_low (c : Dev nD) : iprop(recvPay m c 9 ∗ recvPay m c 10 ∗ recvPay m c 11 ∗ recvPay m c 12)
    ⊢ iprop(frPts c 0 512 fullShare.left (ownC m (nxt c)) ∗ frPts c 0 512 fullShare.right (ownC m (nxt c))) :=
  (join4 (P := fun a b => frPts c a b fullShare (ownC m (nxt c))) (fr_join c _ _) 0).trans (pts_half _).1
/-- All of what came from the left, at the share not lent. -/
theorem fl_whole (c : Dev nD) : iprop(flPts c 0 512 fullShare.right (ownC m (prv c)) ∗ recvPay m c 4 ∗ recvPay m c 5 ∗ recvPay m c 6 ∗ recvPay m c 7)
    ⊢ iprop(flPts c 0 1024 fullShare.right (ownC m (prv c)) ∗ flPts c 512 1024 fullShare.left (ownC m (prv c))) := by
  iintro ⟨H0, H⟩
  ihave H := (fl_high m c) $$ H
  icases H with ⟨HL, HR⟩
  isplitl [H0 HR]
  · iapply (fl_join c fullShare.right _ 0 512 1024 (by decide) (by decide))
    isplitl [H0]; · iexact H0
    iexact HR
  · iexact HL
/-- All of what came from the right, at the share not lent. -/
theorem fr_whole (c : Dev nD) : iprop(frPts c 512 1024 fullShare.right (ownC m (nxt c)) ∗ recvPay m c 9 ∗ recvPay m c 10 ∗ recvPay m c 11 ∗ recvPay m c 12)
    ⊢ iprop(frPts c 0 1024 fullShare.right (ownC m (nxt c)) ∗ frPts c 0 512 fullShare.left (ownC m (nxt c))) := by
  iintro ⟨H0, H⟩
  ihave H := (fr_low m c) $$ H
  icases H with ⟨HL, HR⟩
  isplitl [H0 HR]
  · iapply (fr_join c fullShare.right _ 0 512 1024 (by decide) (by decide))
    isplitl [HR]; · iexact HR
    iexact H0
  · iexact HL

end Cert.KernelIdealProof

end
-- ==== Proof.KernelIdeal.Gemm.lean ====
/-
The loads of whole buffers, of the two halves and of the scales, and the cast of `w`.
-/
module

public import proofs.«01_k».proof.Proof.KernelIdeal.Chunks

@[expose] public section

noncomputable section

namespace Cert.KernelIdealProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

variable (N : Dev nD × CK → ℕ)

theorem zero2 : (![0, 0] : Fin 2 → ℕ) = fun _ => 0 := funext fun a => by fin_cases a <;> rfl

theorem load_setO {a n : ℕ} (inb : ∀ x, (![a, 0] : Fin 2 → ℕ) x + (![n, 4096] : Fin 2 → ℕ) x ≤ S1024x4096.size x) :
    opM.view.setOn (Rect.unit (s := S1024x4096) ![a, 0] ![n, 4096] inb).toLoadRect.set ⊆ rowsA a (a + n) :=
  subset_of_eq ((load_set (b := cc0_scratch6) _).trans set_unitA)

/-! ## Loads of whole buffers -/

theorem load_own (c : Dev nD) {q : PosShare TreeShare} {f : S1024x4096.Idx → Elt F .fp8e4m3} {inb : ∀ a, (![0, 0] : Fin 2 → ℕ) a + S1024x4096.size a ≤ S1024x4096.size a}
    {hl : ownM.view.LoadsAt (Rect.unit (s := S1024x4096) ![0, 0] S1024x4096.size inb).toLoadRect} {α : Type} {Q : α → sProp 𝕄} {k : (S1024x4096.Idx → Elt F .fp8e4m3) → Prog (TpuEff nD τ sig (Elt F) Λ₀ .tc) α} :
    ownPts c 0 1024 q f ⊢ iprop((ownPts c 0 1024 q f -∗ wp frame (wpE (defs₀ (F := F)) 𝒱₀ (c : Thread nD τ) none) Set.univ (k f) Q)
      -∗ wp frame (wpE (defs₀ (F := F)) 𝒱₀ (c : Thread nD τ) none) Set.univ (.op (.load ownM (Rect.unit (s := S1024x4096) ![0, 0] S1024x4096.size inb).toLoadRect hl) k) Q) := by
  iintro H Hk
  iapply (wp_load 𝒱₀ (c : Thread nD τ) none Set.univ (m := ownM) (S := rowsA 0 1024) (by rw [rowsA_all]; exact Finset.subset_univ _)) $$ H
  iintro H
  have hr : ownM.view.readAt (Elt F) (Rect.unit (s := S1024x4096) ![0, 0] S1024x4096.size inb).toLoadRect f = f := Memref.readAt_unit_zero (Elt F) cc0_scratch3 zero2 _ f
  rw [hr]
  iapply Hk; iexact H

theorem load_fl (c : Dev nD) {q : PosShare TreeShare} {f : S1024x4096.Idx → Elt F .fp8e4m3} {inb : ∀ a, (![0, 0] : Fin 2 → ℕ) a + S1024x4096.size a ≤ S1024x4096.size a}
    {hl : flM.view.LoadsAt (Rect.unit (s := S1024x4096) ![0, 0] S1024x4096.size inb).toLoadRect} {α : Type} {Q : α → sProp 𝕄} {k : (S1024x4096.Idx → Elt F .fp8e4m3) → Prog (TpuEff nD τ sig (Elt F) Λ₀ .tc) α} :
    flPts c 0 1024 q f ⊢ iprop((flPts c 0 1024 q f -∗ wp frame (wpE (defs₀ (F := F)) 𝒱₀ (c : Thread nD τ) none) Set.univ (k f) Q)
      -∗ wp frame (wpE (defs₀ (F := F)) 𝒱₀ (c : Thread nD τ) none) Set.univ (.op (.load flM (Rect.unit (s := S1024x4096) ![0, 0] S1024x4096.size inb).toLoadRect hl) k) Q) := by
  iintro H Hk
  iapply (wp_load 𝒱₀ (c : Thread nD τ) none Set.univ (m := flM) (S := rowsA 0 1024) (by rw [rowsA_all]; exact Finset.subset_univ _)) $$ H
  iintro H
  have hr : flM.view.readAt (Elt F) (Rect.unit (s := S1024x4096) ![0, 0] S1024x4096.size inb).toLoadRect f = f := Memref.readAt_unit_zero (Elt F) cc0_scratch4 zero2 _ f
  rw [hr]
  iapply Hk; iexact H

theorem load_fr (c : Dev nD) {q : PosShare TreeShare} {f : S1024x4096.Idx → Elt F .fp8e4m3} {inb : ∀ a, (![0, 0] : Fin 2 → ℕ) a + S1024x4096.size a ≤ S1024x4096.size a}
    {hl : frM.view.LoadsAt (Rect.unit (s := S1024x4096) ![0, 0] S1024x4096.size inb).toLoadRect} {α : Type} {Q : α → sProp 𝕄} {k : (S1024x4096.Idx → Elt F .fp8e4m3) → Prog (TpuEff nD τ sig (Elt F) Λ₀ .tc) α} :
    frPts c 0 1024 q f ⊢ iprop((frPts c 0 1024 q f -∗ wp frame (wpE (defs₀ (F := F)) 𝒱₀ (c : Thread nD τ) none) Set.univ (k f) Q)
      -∗ wp frame (wpE (defs₀ (F := F)) 𝒱₀ (c : Thread nD τ) none) Set.univ (.op (.load frM (Rect.unit (s := S1024x4096) ![0, 0] S1024x4096.size inb).toLoadRect hl) k) Q) := by
  iintro H Hk
  iapply (wp_load 𝒱₀ (c : Thread nD τ) none Set.univ (m := frM) (S := rowsA 0 1024) (by rw [rowsA_all]; exact Finset.subset_univ _)) $$ H
  iintro H
  have hr : frM.view.readAt (Elt F) (Rect.unit (s := S1024x4096) ![0, 0] S1024x4096.size inb).toLoadRect f = f := Memref.readAt_unit_zero (Elt F) cc0_scratch5 zero2 _ f
  rw [hr]
  iapply Hk; iexact H

theorem load_w8 (c : Dev nD) {f : S4096x512.Idx → Elt F .fp8e5m2} {inb : ∀ a, (![0, 0] : Fin 2 → ℕ) a + S4096x512.size a ≤ S4096x512.size a}
    {hl : w8M.view.LoadsAt (Rect.unit (s := S4096x512) ![0, 0] S4096x512.size inb).toLoadRect} {α : Type} {Q : α → sProp 𝕄} {k : (S4096x512.Idx → Elt F .fp8e5m2) → Prog (TpuEff nD τ sig (Elt F) Λ₀ .tc) α} :
    w8Pts c f ⊢ iprop((w8Pts c f -∗ wp frame (wpE (defs₀ (F := F)) 𝒱₀ (c : Thread nD τ) none) Set.univ (k f) Q)
      -∗ wp frame (wpE (defs₀ (F := F)) 𝒱₀ (c : Thread nD τ) none) Set.univ (.op (.load w8M (Rect.unit (s := S4096x512) ![0, 0] S4096x512.size inb).toLoadRect hl) k) Q) := by
  iintro H Hk
  iapply (wp_load 𝒱₀ (c : Thread nD τ) none Set.univ (m := w8M) (S := Finset.univ) (Finset.subset_univ _)) $$ H
  iintro H
  have hr : w8M.view.readAt (Elt F) (Rect.unit (s := S4096x512) ![0, 0] S4096x512.size inb).toLoadRect f = f := Memref.readAt_unit_zero (Elt F) cc0_scratch7 zero2 _ f
  rw [hr]
  iapply Hk; iexact H

/-- The cast of `w`. -/
theorem cast_w (c : Dev nD) {inb inb' inb'' : ∀ a, (![0, 0] : Fin 2 → ℕ) a + S4096x512.size a ≤ S4096x512.size a}
    {hl : wstM.view.LoadsAt (Rect.unit (s := S4096x512) ![0, 0] S4096x512.size inb).toLoadRect} {hl' : w8M.view.LoadsAt (Rect.unit (s := S4096x512) ![0, 0] S4096x512.size inb').toLoadRect}
    {hx : (w8M.access (Rect.unit (s := S4096x512) ![0, 0] S4096x512.size inb'')).Stores Finset.univ}
    {hm : (Finset.univ : Finset (Rect.unit (s := S4096x512) ![0, 0] S4096x512.size inb'').shape.Idx) = Finset.univ ∨ ∀ a, (Rect.unit (s := S4096x512) ![0, 0] S4096x512.size inb'').stride a = 1} {α : Type} {Q : α → sProp 𝕄} {k : PUnit → Prog (TpuEff nD τ sig (Elt F) Λ₀ .tc) α} :
    iprop(wstPts c (wC m c) ∗ ∃ f, w8Pts (F := F) c f)
      ⊢ iprop(((wstPts c (wC m c) ∗ w8Pts c (w8C m c)) -∗ wp frame (wpE (defs₀ (F := F)) 𝒱₀ (c : Thread nD τ) none) Set.univ (k ⟨⟩) Q)
          -∗ wp frame (wpE (defs₀ (F := F)) 𝒱₀ (c : Thread nD τ) none) Set.univ (.op (.load wstM (Rect.unit (s := S4096x512) ![0, 0] S4096x512.size inb).toLoadRect hl) fun v =>
              .op (.load w8M (Rect.unit (s := S4096x512) ![0, 0] S4096x512.size inb').toLoadRect hl') fun _ =>
              .op (.store w8M (Rect.unit (s := S4096x512) ![0, 0] S4096x512.size inb'') (k0_pay9 v) Finset.univ hx hm) k) Q) := by
  iintro ⟨Hw, %f, H8⟩ Hk
  iapply (wp_load 𝒱₀ (c : Thread nD τ) none Set.univ (m := wstM) (S := Finset.univ) (Finset.subset_univ _)) $$ Hw
  iintro Hw
  iapply (wp_load 𝒱₀ (c : Thread nD τ) none Set.univ (m := w8M) (S := Finset.univ) (Finset.subset_univ _)) $$ H8
  iintro H8
  iapply (wp_store 𝒱₀ (c : Thread nD τ) none Set.univ (m := w8M) (r := Rect.unit (s := S4096x512) ![0, 0] S4096x512.size inb'') (S := Finset.univ) (Finset.subset_univ _)) $$ H8
  iintro H8
  iapply Hk
  isplitl [Hw]; · iexact Hw
  have hr : wstM.view.readAt (Elt F) (Rect.unit (s := S4096x512) ![0, 0] S4096x512.size inb).toLoadRect (wC m c) = wC m c := Memref.readAt_unit_zero (Elt F) cc0_scratch1 zero2 _ (wC m c)
  have hp : k0_pay9 (wC m c) = w8C m c := shapeCast_id (truncf .fp8e5m2 (wC m c) bitsLt_fp8e5m2_f32) shapeCasts_S4096x512_S4096x512
  have hw : ∀ v : S4096x512.Idx → Elt F .fp8e5m2, (w8M.access (Rect.unit (s := S4096x512) ![0, 0] S4096x512.size inb'')).write (Elt F) f v Finset.univ = v :=
    fun v => Memref.write_access_unit_zero_univ (Elt F) cc0_scratch7 zero2 _ f v
  rw [hr, hw, hp]
  iexact H8

theorem load_low (c d : Dev nD)
    {hl : opM.view.LoadsAt (Rect.unit (s := S1024x4096) ![0, 0] S512x4096.size inb_S1024x4096_S512x4096_0_0).toLoadRect} {α : Type} {Q : α → sProp 𝕄} {k : (S512x4096.Idx → Elt F .fp8e4m3) → Prog (TpuEff nD τ sig (Elt F) Λ₀ .tc) α} :
    opPts c 0 512 fullShare (ownC m d) ⊢ iprop((opPts c 0 512 fullShare (ownC m d) -∗ wp frame (wpE (defs₀ (F := F)) 𝒱₀ (c : Thread nD τ) none) Set.univ (k (lowC m d)) Q)
      -∗ wp frame (wpE (defs₀ (F := F)) 𝒱₀ (c : Thread nD τ) none) Set.univ (.op (.load opM (Rect.unit (s := S1024x4096) ![0, 0] S512x4096.size inb_S1024x4096_S512x4096_0_0).toLoadRect hl) k) Q) := by
  iintro H Hk
  iapply (wp_load 𝒱₀ (c : Thread nD τ) none Set.univ (m := opM) (S := rowsA 0 512) (load_setO (a := 0) (n := 512) _)) $$ H
  iintro H
  iapply Hk; iexact H

theorem load_high (c d : Dev nD)
    {hl : opM.view.LoadsAt (Rect.unit (s := S1024x4096) ![512, 0] S512x4096.size inb_S1024x4096_S512x4096_512_0).toLoadRect} {α : Type} {Q : α → sProp 𝕄} {k : (S512x4096.Idx → Elt F .fp8e4m3) → Prog (TpuEff nD τ sig (Elt F) Λ₀ .tc) α} :
    opPts c 512 1024 fullShare (ownC m d) ⊢ iprop((opPts c 512 1024 fullShare (ownC m d) -∗ wp frame (wpE (defs₀ (F := F)) 𝒱₀ (c : Thread nD τ) none) Set.univ (k (highC m d)) Q)
      -∗ wp frame (wpE (defs₀ (F := F)) 𝒱₀ (c : Thread nD τ) none) Set.univ (.op (.load opM (Rect.unit (s := S1024x4096) ![512, 0] S512x4096.size inb_S1024x4096_S512x4096_512_0).toLoadRect hl) k) Q) := by
  iintro H Hk
  iapply (wp_load 𝒱₀ (c : Thread nD τ) none Set.univ (m := opM) (S := rowsA 512 1024) (load_setO (a := 512) (n := 512) _)) $$ H
  iintro H
  iapply Hk; iexact H

abbrev sxPts (c : Dev nD) : sProp 𝕄 := ((c : Thread nD τ).loc cc0_stg0_0) ↦{fullShare} sxC m ρ c
/-- The scale as read. -/
abbrev sxv (c : Dev nD) : F .f32 :=
  (((Memref.whole cc0_stg0_0 : Memref sig .tc .smem S1 .f32).access (Rect.unit (s := S1) ![0] S1.size inb_S1_S1_0)).read (Elt F) (sxC m ρ c) (Shape.Idx.first (numel1_S1.symm ▸ Nat.one_pos)))
theorem load_sx (c : Dev nD) {hl : (sxM.access (Rect.unit (s := S1) ![0] S1.size inb_S1_S1_0)).Loads}
    {α : Type} {Q : α → sProp 𝕄} {k : F .f32 → Prog (TpuEff nD τ sig (Elt F) Λ₀ .tc) α} :
    sxPts m ρ c ⊢ iprop((sxPts m ρ c -∗ wp frame (wpE (defs₀ (F := F)) 𝒱₀ (c : Thread nD τ) none) Set.univ (k (sxv m ρ c)) Q)
      -∗ wp frame (wpE (defs₀ (F := F)) 𝒱₀ (c : Thread nD τ) none) Set.univ (smemLoadElt sxM (Rect.unit (s := S1) ![0] S1.size inb_S1_S1_0) hl (Shape.Idx.first (numel1_S1.symm ▸ Nat.one_pos)) k) Q) := by
  iintro H Hk
  iapply (wp_smemLoadElt 𝒱₀ (c : Thread nD τ) none Set.univ (m := sxM) (r := Rect.unit (s := S1) ![0] S1.size inb_S1_S1_0) (S := Finset.univ) (Finset.subset_univ _)) $$ H
  iintro H
  iapply Hk; iexact H

abbrev swPts (c : Dev nD) : sProp 𝕄 := ((c : Thread nD τ).loc cc0_stg1_0) ↦{fullShare} swC m ρ c
/-- The scale as read. -/
abbrev swv (c : Dev nD) : F .f32 :=
  (((Memref.whole cc0_stg1_0 : Memref sig .tc .smem S1 .f32).access (Rect.unit (s := S1) ![0] S1.size inb_S1_S1_0)).read (Elt F) (swC m ρ c) (Shape.Idx.first (numel1_S1.symm ▸ Nat.one_pos)))
theorem load_sw (c : Dev nD) {hl : (swM.access (Rect.unit (s := S1) ![0] S1.size inb_S1_S1_0)).Loads}
    {α : Type} {Q : α → sProp 𝕄} {k : F .f32 → Prog (TpuEff nD τ sig (Elt F) Λ₀ .tc) α} :
    swPts m ρ c ⊢ iprop((swPts m ρ c -∗ wp frame (wpE (defs₀ (F := F)) 𝒱₀ (c : Thread nD τ) none) Set.univ (k (swv m ρ c)) Q)
      -∗ wp frame (wpE (defs₀ (F := F)) 𝒱₀ (c : Thread nD τ) none) Set.univ (smemLoadElt swM (Rect.unit (s := S1) ![0] S1.size inb_S1_S1_0) hl (Shape.Idx.first (numel1_S1.symm ▸ Nat.one_pos)) k) Q) := by
  iintro H Hk
  iapply (wp_smemLoadElt 𝒱₀ (c : Thread nD τ) none Set.univ (m := swM) (r := Rect.unit (s := S1) ![0] S1.size inb_S1_S1_0) (S := Finset.univ) (Finset.subset_univ _)) $$ H
  iintro H
  iapply Hk; iexact H

end Cert.KernelIdealProof

end
-- ==== Proof.KernelIdeal.Pieces.lean ====
/-
Names for what the parts of the body hold, and small facts about them.
-/
module

public import proofs.«01_k».proof.Proof.KernelIdeal.Rows
public import proofs.«01_k».proof.Proof.KernelIdeal.Gemm

@[expose] public section

noncomputable section

namespace Cert.KernelIdealProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-- `w` before its load is issued, and after the cast. -/
abbrev ldwE (c : Dev nD) : sProp 𝕄 := iprop(wPts c (wC m c) ∗ (∃ f, wstPts (F := F) c f) ∗ semVal ((c : Thread nD τ), .dma (loadS 8)) 0)
def ldwD (c : Dev nD) : sProp 𝕄 := iprop(wPts c (wC m c) ∗ wstPts c (wC m c) ∗ semVal ((c : Thread nD τ), .dma (loadS 8)) 0)
theorem ldwD_intro (c : Dev nD) : iprop(wPts c (wC m c) ∗ wstPts c (wC m c) ∗ semVal ((c : Thread nD τ), .dma (loadS 8)) 0) ⊢ ldwD m c := by unfold ldwD; exact Entails.refl _
abbrev w8Any (c : Dev nD) : sProp 𝕄 := iprop(∃ f, w8Pts (F := F) c f)

theorem flw_eq (c : Dev nD) : flw m c = Transfers.Flight (countersEmb (U := UU)) (c : Thread nD τ) (.dma (loadS 8)) () NW iprop(wstPts c (wC m c) ∗ wPts c (wC m c)) := rfl

theorem own_whole (c : Dev nD) : iprop(ownK m c 0 ∗ ownK m c 1 ∗ ownK m c 2 ∗ ownK m c 3 ∗ ownK m c 4 ∗ ownK m c 5 ∗ ownK m c 6 ∗ ownK m c 7)
    ⊢ ownPts c 0 1024 shK (ownC m c) := join8 (P := fun a b => ownPts c a b shK (ownC m c)) (own_join c _ _)

theorem ne_opp (c : Dev nD) : c ≠ opp c := by revert c; decide
theorem prv_ne_opp (c : Dev nD) : prv c ≠ opp c := by revert c; decide
theorem nxt_ne_opp (c : Dev nD) : nxt c ≠ opp c := by revert c; decide

theorem mayWait_none (c : Dev nD) (sm : SemLoc sig) : (levAts L lv : sProp 𝕄) ⊢ MayWait (c : Thread nD τ) sm () (oweL c []) :=
  mayWait_of c sm _ fun g u hg => absurd hg (Nat.lt_irrefl 0)

/-- 1024 rows of the result before they are stored, and after they have arrived. -/
abbrev outE1024 (c : Dev nD) (j : Fin 5) (a : ℕ) : sProp 𝕄 :=
  iprop((∃ f, ostPts (F := F) c a (a + 1024) f) ∗ (∃ f, outPts (F := F) c a (a + 1024) f) ∗ semVal ((c : Thread nD τ), .dma (storeS j)) 0)
def outD1024 (c : Dev nD) (j : Fin 5) (a : ℕ) : sProp 𝕄 :=
  iprop((outPts c a (a + 1024) (outC m ρ c) ∗ ostPts c a (a + 1024) (outC m ρ c)) ∗ semVal ((c : Thread nD τ), .dma (storeS j)) 0)
theorem outD1024_intro (c : Dev nD) (j : Fin 5) (a : ℕ) : iprop((outPts c a (a + 1024) (outC m ρ c) ∗ ostPts c a (a + 1024) (outC m ρ c)) ∗ semVal ((c : Thread nD τ), .dma (storeS j)) 0) ⊢ outD1024 m ρ c j a := by
  unfold outD1024; exact Entails.refl _
theorem flo1024_eq (c : Dev nD) (j : Fin 5) (a : ℕ) : flo1024 m ρ c j a = Transfers.Flight (countersEmb (U := UU)) (c : Thread nD τ) (.dma (storeS j)) () NO1024
    iprop(outPts c a (a + 1024) (outC m ρ c) ∗ ostPts c a (a + 1024) (outC m ρ c)) := rfl

/-- 512 rows of the result before they are stored, and after they have arrived. -/
abbrev outE512 (c : Dev nD) (j : Fin 5) (a : ℕ) : sProp 𝕄 :=
  iprop((∃ f, ostPts (F := F) c a (a + 512) f) ∗ (∃ f, outPts (F := F) c a (a + 512) f) ∗ semVal ((c : Thread nD τ), .dma (storeS j)) 0)
def outD512 (c : Dev nD) (j : Fin 5) (a : ℕ) : sProp 𝕄 :=
  iprop((outPts c a (a + 512) (outC m ρ c) ∗ ostPts c a (a + 512) (outC m ρ c)) ∗ semVal ((c : Thread nD τ), .dma (storeS j)) 0)
theorem outD512_intro (c : Dev nD) (j : Fin 5) (a : ℕ) : iprop((outPts c a (a + 512) (outC m ρ c) ∗ ostPts c a (a + 512) (outC m ρ c)) ∗ semVal ((c : Thread nD τ), .dma (storeS j)) 0) ⊢ outD512 m ρ c j a := by
  unfold outD512; exact Entails.refl _
theorem flo512_eq (c : Dev nD) (j : Fin 5) (a : ℕ) : flo512 m ρ c j a = Transfers.Flight (countersEmb (U := UU)) (c : Thread nD τ) (.dma (storeS j)) () NO512
    iprop(outPts c a (a + 512) (outC m ρ c) ∗ ostPts c a (a + 512) (outC m ρ c)) := rfl

end Cert.KernelIdealProof

end
-- ==== Proof.KernelIdeal.Parts0.lean ====
/-
Parts 1 and 2 of the body: the neighbours signalled, the loads issued, both neighbours awaited.
-/
module

public import proofs.«01_k».proof.Proof.KernelIdeal.Pieces

@[expose] public section

noncomputable section

namespace Cert.KernelIdealProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

variable (N : Dev nD × CK → ℕ)

theorem ldE_eq (c : Dev nD) (l : Fin 9) : ldE m c l = iprop(xPts c (128 * l.val) (128 * l.val + 128) fullShare (xC m c) ∗ (∃ f, xstPts (F := F) c (128 * l.val) (128 * l.val + 128) fullShare f) ∗ semVal ((c : Thread nD τ), .dma (loadS l)) 0) := rfl
theorem ctx_records : ctx m N ⊢ records m N := by unfold ctx; iintro ⟨H, -⟩; iexact H
theorem ctx_levs : ctx m N ⊢ levAts L lv := by unfold ctx; iintro ⟨-, H⟩; iexact H
theorem owesE_eq (c : Dev nD) (O : CellTallies nD τ sig Unit) : owesE (F := F) c O = iprop(∃ W, owes (c : Thread nD τ) O W) := rfl
theorem owesE_intro (c : Dev nD) (O : CellTallies nD τ sig Unit) (W) : (owes (c : Thread nD τ) O W : sProp 𝕄) ⊢ owesE c O := by
  unfold owesE; iintro H; iexists W; iexact H

/-- Part 1: the signals to both neighbours, and the first loads of `x`. -/
theorem part1 (c : Dev nD) (h0 : xM.IsWhole) (h1 : wM.IsWhole) (h2 : sxM.IsWhole) (h3 : swM.IsWhole) (h4 : outM.IsWhole) (h5 : xstM.IsWhole) (h6 : wstM.IsWhole) (h7 : ostM.IsWhole) (h8 : ownM.IsWhole) (h9 : flM.IsWhole) (h10 : frM.IsWhole) (h11 : opM.IsWhole) (h12 : w8M.IsWhole)
    {Kt : (Σ' (d0 : Dev nD) (v2 : BitVec 32) (v5 : BitVec 32) (v7 : BitVec 32) (v9 : BitVec 32), Sems sig S_) → sProp 𝕄} :
    iprop(ctx m N ∗ owesE (F := F) c (O₀ c) ∗ dutyTok ER (barCell (prv c)) 0 false ∗ dutyTok ER (barCell (nxt c)) 0 true ∗ barPay (F := F) (prv c) false ∗ barPay (F := F) (nxt c) true ∗ ldE m c 0 ∗ ldE m c 1)
      ⊢ iprop((∀ v2 v5 v7 v9, (owesE (F := F) c (oweL c order) ∗ flx m c 0 ∗ flx m c 1) -∗ Kt (⟨c, v2, v5, v7, v9, SemArray.scalar (sig.barrier 0 rfl)⟩))
        -∗ wp frame (wpE (defs₀ (F := F)) 𝒱₀ (c : Thread nD τ) none) Set.univ (k0_part1 xM h0 wM h1 sxM h2 swM h3 outM h4 xstM h5 wstM h6 ostM h7 ownM h8 flM h9 frM h10 opM h11 w8M h12 cc0_scratch8 cc0_scratch9 cc0_scratch10 cc0_scratch11) Kt) := by
  rw [k0_part1_eq_skeleton]; unfold k0_part1_skel
  simp only [semSignalWord, semWaitWord, wp_deviceId, Prog.lift, Prog.bind_op, Prog.bind_ret, Prog.pure_eq_ret]
  iintro ⟨#Hc, Howes0, HtokP, HtokN, HpayP, HpayN, HldE0, HldE1⟩ Hk
  ihave #HR := (ctx_records m N) $$ Hc
  ihave Howes0 := (Entails.of_eq (owesE_eq c (O₀ c))) $$ Howes0
  icases Howes0 with ⟨%W, HO⟩
  rw [show (⟨k0_dev1 c, k0_dev1_lt c⟩ : Dev nD) = prv c from Fin.ext (k0_dev1_eq c), show (⟨k0_dev2 c, k0_dev2_lt c⟩ : Dev nD) = nxt c from Fin.ext (k0_dev2_eq c)]
  ihave #HI := (records_inv m N (prv c, none)) $$ HR
  ihave #Hr := (records_reached m N (prv c, none)) $$ HR
  iapply (Rounds.wp_signal 𝒱₀ ER (sched m) (c : Thread nD τ) none (dst := (prv c : Thread nD τ)) (κ := N (prv c, none))
      (d := false) (by rw [duties_bar]; exact Finset.mem_univ _) ((amount_bar m (prv c) false).trans (by decide)) () (O₁ c) rfl) $$ [HO HtokP HpayP]
  · isplitr; · iexact HI
    isplitl [HO]; · iexact HO
    isplitl [HtokP]; · iexact HtokP
    isplitl [HpayP]; · rw [payload_bar]; iexact HpayP
    iexact Hr
  iintro HO
  ihave #HI := (records_inv m N (nxt c, none)) $$ HR
  ihave #Hr := (records_reached m N (nxt c, none)) $$ HR
  iapply (Rounds.wp_signal 𝒱₀ ER (sched m) (c : Thread nD τ) none (dst := (nxt c : Thread nD τ)) (κ := N (nxt c, none))
      (d := true) (by rw [duties_bar]; exact Finset.mem_univ _) ((amount_bar m (nxt c) true).trans (by decide)) () (oweL c order) rfl) $$ [HO HtokN HpayN]
  · isplitr; · iexact HI
    isplitl [HO]; · iexact HO
    isplitl [HtokN]; · iexact HtokN
    isplitl [HpayN]; · rw [payload_bar]; iexact HpayN
    iexact Hr
  iintro HO
  ihave HldE0 := (Entails.of_eq (ldE_eq m c 0)) $$ HldE0
  iapply (load_x m c 0 rfl rfl) $$ [HldE0]
  · iexact HldE0
  iintro Hflx0
  ihave HldE1 := (Entails.of_eq (ldE_eq m c 1)) $$ HldE1
  iapply (load_x m c 1 rfl rfl) $$ [HldE1]
  · iexact HldE1
  iintro Hflx1
  ihave Howes1 := (owesE_intro c (oweL c order) W) $$ HO
  rw [wp_ret]; imodintro
  iapply Hk
  isplitl [Howes1]; · iexact Howes1
  isplitl [Hflx0]; · iexact Hflx0
  iexact Hflx1

/-- Part 2: the other loads, and the wait for both neighbours. -/
theorem part2 (c : Dev nD) (h0 : xM.IsWhole) (h1 : wM.IsWhole) (h2 : sxM.IsWhole) (h3 : swM.IsWhole) (h4 : outM.IsWhole) (h5 : xstM.IsWhole) (h6 : wstM.IsWhole) (h7 : ostM.IsWhole) (h8 : ownM.IsWhole) (h9 : flM.IsWhole) (h10 : frM.IsWhole) (h11 : opM.IsWhole) (h12 : w8M.IsWhole)
    {Kt : (PUnit) → sProp 𝕄} :
    iprop(ctx m N ∗ owesE (F := F) c (oweL c order) ∗ atPos ER (barCell c) 0 ∅ 0 ∗ cred (tallyAt (barCell c) () 2) ∗ ldE m c 2 ∗ ldE m c 3 ∗ ldE m c 4 ∗ ldE m c 5 ∗ ldE m c 6 ∗ ldE m c 7 ∗ ldwE m c)
      ⊢ iprop(((owesE (F := F) c (oweL c order) ∗ barPay (F := F) c false ∗ barPay (F := F) c true ∗ semVal (barCell c) 0 ∗ flx m c 2 ∗ flx m c 3 ∗ flx m c 4 ∗ flx m c 5 ∗ flx m c 6 ∗ flx m c 7 ∗ flw m c) -∗ Kt (⟨⟩))
        -∗ wp frame (wpE (defs₀ (F := F)) 𝒱₀ (c : Thread nD τ) none) Set.univ (k0_part2 xM h0 wM h1 sxM h2 swM h3 outM h4 xstM h5 wstM h6 ostM h7 ownM h8 flM h9 frM h10 opM h11 w8M h12 cc0_scratch8 cc0_scratch9 cc0_scratch10 cc0_scratch11 (SemArray.scalar (sig.barrier 0 rfl))) Kt) := by
  rw [k0_part2_eq_skeleton]; unfold k0_part2_skel
  simp only [semSignalWord, semWaitWord, wp_deviceId, Prog.lift, Prog.bind_op, Prog.bind_ret, Prog.pure_eq_ret]
  iintro ⟨#Hc, Howes1, Hbarat, Hbarcred, HldE2, HldE3, HldE4, HldE5, HldE6, HldE7, HldwE⟩ Hk
  ihave #HR := (ctx_records m N) $$ Hc
  ihave #Hlev := (ctx_levs m N) $$ Hc
  ihave #HI := (records_inv m N (c, none)) $$ HR
  ihave HldE2 := (Entails.of_eq (ldE_eq m c 2)) $$ HldE2
  iapply (load_x m c 2 rfl rfl) $$ [HldE2]
  · iexact HldE2
  iintro Hflx2
  ihave HldE3 := (Entails.of_eq (ldE_eq m c 3)) $$ HldE3
  iapply (load_x m c 3 rfl rfl) $$ [HldE3]
  · iexact HldE3
  iintro Hflx3
  ihave HldE4 := (Entails.of_eq (ldE_eq m c 4)) $$ HldE4
  iapply (load_x m c 4 rfl rfl) $$ [HldE4]
  · iexact HldE4
  iintro Hflx4
  ihave HldE5 := (Entails.of_eq (ldE_eq m c 5)) $$ HldE5
  iapply (load_x m c 5 rfl rfl) $$ [HldE5]
  · iexact HldE5
  iintro Hflx5
  ihave HldE6 := (Entails.of_eq (ldE_eq m c 6)) $$ HldE6
  iapply (load_x m c 6 rfl rfl) $$ [HldE6]
  · iexact HldE6
  iintro Hflx6
  ihave HldE7 := (Entails.of_eq (ldE_eq m c 7)) $$ HldE7
  iapply (load_x m c 7 rfl rfl) $$ [HldE7]
  · iexact HldE7
  iintro Hflx7
  iapply (load_w m c rfl) $$ [HldwE]
  · iexact HldwE
  iintro Hflw
  ihave Howes1 := (Entails.of_eq (owesE_eq c (oweL c order))) $$ Howes1
  icases Howes1 with ⟨%W, HO⟩
  iapply (Rounds.wp_wait_rest_token 𝒱₀ ER (sched m) (c : Thread nD τ) none (κ := N (c, none))
      (wpE_semWait_eq 𝒱₀ (c : Thread nD τ) none Set.univ) (Set.mem_univ _) () (O := oweL c order) (W := W) (R := 0) (m := 0) (T := ∅)
      (by rw [expect_bar]; decide)) $$ [Hbarcred HO Hbarat]
  · isplitr; · iexact HI
    isplitl [Hbarcred]; · iexact Hbarcred
    isplitl [HO]; · iexact HO
    isplitr; · iapply (mayWait_low c (.reg barS) (le_refl _) order); iexact Hlev
    iexact Hbarat
  iintro ⟨HO, Hat, -, Hpay⟩
  ihave Hpay := (Entails.of_eq (rest_bar m c)) $$ Hpay
  icases Hpay with ⟨Hpay0, Hpay1⟩
  imod (Rounds.cell_close ER (sched m) (Set.mem_univ (N (c, none))) (fun h => h) (R := 0 + 1) (duties_later m (barCell c))) $$ [Hat] with Hbarz
  · isplitr; · iexact HI
    iexact Hat
  ihave Howes1 := (owesE_intro c (oweL c order) _) $$ HO
  rw [wp_ret]; imodintro
  iapply Hk
  isplitl [Howes1]; · iexact Howes1
  isplitl [Hpay0]; · iexact Hpay0
  isplitl [Hpay1]; · iexact Hpay1
  isplitl [Hbarz]; · iexact Hbarz
  isplitl [Hflx2]; · iexact Hflx2
  isplitl [Hflx3]; · iexact Hflx3
  isplitl [Hflx4]; · iexact Hflx4
  isplitl [Hflx5]; · iexact Hflx5
  isplitl [Hflx6]; · iexact Hflx6
  isplitl [Hflx7]; · iexact Hflx7
  iexact Hflw

end Cert.KernelIdealProof

end
-- ==== Proof.KernelIdeal.Mid.lean ====
/-
From the barrier to the copies, and from the copies issued to the completions awaited.
-/
module

public import proofs.«01_k».proof.Proof.KernelIdeal.Pieces

@[expose] public section

noncomputable section

namespace Cert.KernelIdealProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

variable (N : Dev nD × CK → ℕ)

/-- The order in which a device awaits the landings. -/
abbrev rorder : List (Fin 18) := [0, 1, 2, 3, 13, 14, 15, 16, 4, 5, 6, 7, 9, 10, 11, 12, 8, 17]

theorem seqL_sep (Φ Ψ : Fin 18 → sProp (MT nD τ sig Unit (Elt F) ℕ UU ℕ)) (l : List (Fin 18)) :
    iprop(seqL Φ l ∗ seqL Ψ l) ⊢ seqL (fun p => iprop(Φ p ∗ Ψ p)) l := by
  induction l with
  | nil => rw [seqL_nil, seqL_nil, seqL_nil]; iintro ⟨H, -⟩; iexact H
  | cons p l ih =>
    rw [seqL_cons, seqL_cons, seqL_cons]
    iintro ⟨⟨H1, H2⟩, H3, H4⟩
    isplitl [H1 H3]
    · isplitl [H1]; · iexact H1
      iexact H3
    iapply ih
    isplitl [H2]; · iexact H2
    iexact H4

/-- The landing rows the two neighbours handed over, slot by slot. -/
theorem lands (c : Dev nD) : iprop(barPay (F := F) c false ∗ barPay (F := F) c true) ⊢ seqL (land (F := F) c) order := by
  unfold barPay
  rw [if_neg (by decide), if_pos rfl]
  iintro ⟨⟨Hfl, Hlo⟩, Hfr, Hhi⟩
  ihave Hf := (split8 (P := fun a b => flAny (F := F) (nxt c) a b) (flAny_split (nxt c))) $$ Hfl
  icases Hf with ⟨Hf0, Hf1, Hf2, Hf3, Hf4, Hf5, Hf6, Hf7⟩
  ihave Hr := (split8 (P := fun a b => frAny (F := F) (prv c) a b) (frAny_split (prv c))) $$ Hfr
  icases Hr with ⟨Hr0, Hr1, Hr2, Hr3, Hr4, Hr5, Hr6, Hr7⟩
  simp only [seqL_cons, seqL_nil]
  isplitl [Hf0]; · iapply (Entails.of_eq (show chk (fun a b => flAny (F := F) (nxt c) a b) 0 = land c 0 from rfl)); iexact Hf0
  isplitl [Hr4]; · iapply (Entails.of_eq (show chk (fun a b => frAny (F := F) (prv c) a b) 4 = land c 13 from rfl)); iexact Hr4
  isplitl [Hf1]; · iapply (Entails.of_eq (show chk (fun a b => flAny (F := F) (nxt c) a b) 1 = land c 1 from rfl)); iexact Hf1
  isplitl [Hr5]; · iapply (Entails.of_eq (show chk (fun a b => frAny (F := F) (prv c) a b) 5 = land c 14 from rfl)); iexact Hr5
  isplitl [Hf2]; · iapply (Entails.of_eq (show chk (fun a b => flAny (F := F) (nxt c) a b) 2 = land c 2 from rfl)); iexact Hf2
  isplitl [Hr6]; · iapply (Entails.of_eq (show chk (fun a b => frAny (F := F) (prv c) a b) 6 = land c 15 from rfl)); iexact Hr6
  isplitl [Hf3]; · iapply (Entails.of_eq (show chk (fun a b => flAny (F := F) (nxt c) a b) 3 = land c 3 from rfl)); iexact Hf3
  isplitl [Hr7]; · iapply (Entails.of_eq (show chk (fun a b => frAny (F := F) (prv c) a b) 7 = land c 16 from rfl)); iexact Hr7
  isplitl [Hf4]; · iapply (Entails.of_eq (show chk (fun a b => flAny (F := F) (nxt c) a b) 4 = land c 4 from rfl)); iexact Hf4
  isplitl [Hf5]; · iapply (Entails.of_eq (show chk (fun a b => flAny (F := F) (nxt c) a b) 5 = land c 5 from rfl)); iexact Hf5
  isplitl [Hf6]; · iapply (Entails.of_eq (show chk (fun a b => flAny (F := F) (nxt c) a b) 6 = land c 6 from rfl)); iexact Hf6
  isplitl [Hf7]; · iapply (Entails.of_eq (show chk (fun a b => flAny (F := F) (nxt c) a b) 7 = land c 7 from rfl)); iexact Hf7
  isplitl [Hr0]; · iapply (Entails.of_eq (show chk (fun a b => frAny (F := F) (prv c) a b) 0 = land c 9 from rfl)); iexact Hr0
  isplitl [Hr1]; · iapply (Entails.of_eq (show chk (fun a b => frAny (F := F) (prv c) a b) 1 = land c 10 from rfl)); iexact Hr1
  isplitl [Hr2]; · iapply (Entails.of_eq (show chk (fun a b => frAny (F := F) (prv c) a b) 2 = land c 11 from rfl)); iexact Hr2
  isplitl [Hr3]; · iapply (Entails.of_eq (show chk (fun a b => frAny (F := F) (prv c) a b) 3 = land c 12 from rfl)); iexact Hr3
  isplitl [Hlo]; · iapply (Entails.of_eq (show iprop(∃ f, opPts (F := F) (nxt c) 0 512 fullShare f) = land c 8 from rfl)); iexact Hlo
  isplitl [Hhi]; · iapply (Entails.of_eq (show iprop(∃ f, opPts (F := F) (prv c) 512 1024 fullShare f) = land c 17 from rfl)); iexact Hhi
  iempintro

/-- After the barrier every copy is ready to be issued. -/
theorem mid_intro (c : Dev nD) : iprop(owesE (F := F) c (oweL c order) ∗ barPay (F := F) c false ∗ barPay (F := F) c true ∗ seqL (sendTok (F := F) c) order ∗ seqL (recvRes (F := F) c) rorder)
    ⊢ mid m c order [] rorder [] [] := by
  unfold mid
  iintro ⟨HO, Hp0, Hp1, Hs, Hr⟩
  isplitl [HO]; · iexact HO
  isplitl [Hp0 Hp1 Hs]
  · iapply (seqL_sep (sendTok (F := F) c) (land (F := F) c) order)
    isplitl [Hs]; · iexact Hs
    iapply (lands c)
    isplitl [Hp0]; · iexact Hp0
    iexact Hp1
  rw [seqL_nil, seqL_nil, seqL_nil]
  isplitr; · iempintro
  isplitl [Hr]; · iexact Hr
  isplitr <;> iempintro

/-- The completions may be awaited in the order of issuing. -/
theorem mid_reorder (c : Dev nD) (lr lz : List (Fin 18)) : mid m c [] [17, 8, 12, 11, 10, 9, 7, 6, 5, 4, 16, 3, 15, 2, 14, 1, 13, 0] lr lz [] ⊢ mid m c [] order lr lz [] := by
  unfold mid
  rw [seqL_reorder (back (F := F) c) (l := [17, 8, 12, 11, 10, 9, 7, 6, 5, 4, 16, 3, 15, 2, 14, 1, 13, 0]) (l' := order) (by decide) (by decide) (by decide)]

end Cert.KernelIdealProof

end
-- ==== Proof.KernelIdeal.Parts1.lean ====
/-
Parts 3 to 6 of the body: chunks cast and sent.
-/
module

public import proofs.«01_k».proof.Proof.KernelIdeal.Pieces
public import Idealize.ShloMosaic.Lib.Exec.Context

@[expose] public section

noncomputable section

namespace Cert.KernelIdealProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

variable (N : Dev nD × CK → ℕ)

/-- Chunks 0 and 4 cast; slot 0 sent. -/
theorem part3 (c : Dev nD) (v7 : BitVec 32) (h0 : xM.IsWhole) (h1 : wM.IsWhole) (h2 : sxM.IsWhole) (h3 : swM.IsWhole) (h4 : outM.IsWhole) (h5 : xstM.IsWhole) (h6 : wstM.IsWhole) (h7 : ostM.IsWhole) (h8 : ownM.IsWhole) (h9 : flM.IsWhole) (h10 : frM.IsWhole) (h11 : opM.IsWhole) (h12 : w8M.IsWhole)
    {Kt : (PUnit) → sProp 𝕄} :
    iprop(ctx m N ∗ mid m c [0, 13, 1, 14, 2, 15, 3, 16, 4, 5, 6, 7, 9, 10, 11, 12, 8, 17] [] [0, 1, 2, 3, 13, 14, 15, 16, 4, 5, 6, 7, 9, 10, 11, 12, 8, 17] [] [] ∗ flx m c 0 ∗ ownE (F := F) c 0 ∗ flx m c 4 ∗ ownE (F := F) c 4)
      ⊢ iprop(((mid m c [13, 1, 14, 2, 15, 3, 16, 4, 5, 6, 7, 9, 10, 11, 12, 8, 17] [0] [0, 1, 2, 3, 13, 14, 15, 16, 4, 5, 6, 7, 9, 10, 11, 12, 8, 17] [] [] ∗ ldD m c 0 ∗ own1 m c 0 ∗ ownK m c 0 ∗ ldD m c 4 ∗ own0 m c 4 ∗ own1 m c 4 ∗ ownK m c 4) -∗ Kt (⟨⟩))
        -∗ wp frame (wpE (defs₀ (F := F)) 𝒱₀ (c : Thread nD τ) none) Set.univ (k0_part3 xM h0 wM h1 sxM h2 swM h3 outM h4 xstM h5 wstM h6 ostM h7 ownM h8 flM h9 frM h10 opM h11 w8M h12 cc0_scratch8 cc0_scratch9 cc0_scratch10 cc0_scratch11 c v7) Kt) := by
  rw [k0_part3_eq_skeleton]; unfold k0_part3_skel
  simp only [Prog.lift, Prog.bind_op, Prog.bind_ret, Prog.pure_eq_ret, smemLoad, smemLoadElt_bind]
  iintro ⟨#Hc, Hm, Hflx0, HownE0, Hflx4, HownE4⟩ Hk
  iapply (chunk m N c 0 (by decide) rfl rfl (fun _ => rfl)) $$ [Hm Hflx0 HownE0]
  · isplitr; · iexact Hc
    isplitl [Hm]; · iexact Hm
    isplitl [Hflx0]; · iexact Hflx0
    iexact HownE0
  iintro ⟨Hm, HldD0, Hown00, Hown10, HownK0⟩
  iapply (send_right m N c ⟨k0_dev3 c, k0_dev3_lt c⟩ 0 (by decide) (Fin.ext (k0_dev3_eq c)) rfl rfl rfl) $$ [Hm Hown00]
  · isplitr; · iexact Hc
    isplitl [Hm]; · iexact Hm
    iexact Hown00
  iintro Hm
  iapply (chunk m N c 4 (by decide) rfl rfl (fun _ => rfl)) $$ [Hm Hflx4 HownE4]
  · isplitr; · iexact Hc
    isplitl [Hm]; · iexact Hm
    isplitl [Hflx4]; · iexact Hflx4
    iexact HownE4
  iintro ⟨Hm, HldD4, Hown04, Hown14, HownK4⟩
  rw [wp_ret]; imodintro
  iapply Hk
  isplitl [Hm]; · iexact Hm
  isplitl [HldD0]; · iexact HldD0
  isplitl [Hown10]; · iexact Hown10
  isplitl [HownK0]; · iexact HownK0
  isplitl [HldD4]; · iexact HldD4
  isplitl [Hown04]; · iexact Hown04
  isplitl [Hown14]; · iexact Hown14
  iexact HownK4

/-- Chunk 1 cast; slots 13 and 1 sent. -/
theorem part4 (c : Dev nD) (v5 : BitVec 32) (v7 : BitVec 32) (h0 : xM.IsWhole) (h1 : wM.IsWhole) (h2 : sxM.IsWhole) (h3 : swM.IsWhole) (h4 : outM.IsWhole) (h5 : xstM.IsWhole) (h6 : wstM.IsWhole) (h7 : ostM.IsWhole) (h8 : ownM.IsWhole) (h9 : flM.IsWhole) (h10 : frM.IsWhole) (h11 : opM.IsWhole) (h12 : w8M.IsWhole)
    {Kt : (PUnit) → sProp 𝕄} :
    iprop(ctx m N ∗ mid m c [13, 1, 14, 2, 15, 3, 16, 4, 5, 6, 7, 9, 10, 11, 12, 8, 17] [0] [0, 1, 2, 3, 13, 14, 15, 16, 4, 5, 6, 7, 9, 10, 11, 12, 8, 17] [] [] ∗ own1 m c 4 ∗ flx m c 1 ∗ ownE (F := F) c 1)
      ⊢ iprop(((mid m c [14, 2, 15, 3, 16, 4, 5, 6, 7, 9, 10, 11, 12, 8, 17] [1, 13, 0] [0, 1, 2, 3, 13, 14, 15, 16, 4, 5, 6, 7, 9, 10, 11, 12, 8, 17] [] [] ∗ ldD m c 1 ∗ own1 m c 1 ∗ ownK m c 1) -∗ Kt (⟨⟩))
        -∗ wp frame (wpE (defs₀ (F := F)) 𝒱₀ (c : Thread nD τ) none) Set.univ (k0_part4 xM h0 wM h1 sxM h2 swM h3 outM h4 xstM h5 wstM h6 ostM h7 ownM h8 flM h9 frM h10 opM h11 w8M h12 cc0_scratch8 cc0_scratch9 cc0_scratch10 cc0_scratch11 c v5 v7) Kt) := by
  rw [k0_part4_eq_skeleton]; unfold k0_part4_skel
  simp only [Prog.lift, Prog.bind_op, Prog.bind_ret, Prog.pure_eq_ret, smemLoad, smemLoadElt_bind]
  iintro ⟨#Hc, Hm, Hown14, Hflx1, HownE1⟩ Hk
  iapply (send_left m N c ⟨k0_dev4 c, k0_dev4_lt c⟩ 13 (by decide) (by decide) (Fin.ext (k0_dev4_eq c)) rfl rfl rfl) $$ [Hm Hown14]
  · isplitr; · iexact Hc
    isplitl [Hm]; · iexact Hm
    iexact Hown14
  iintro Hm
  iapply (chunk m N c 1 (by decide) rfl rfl (fun _ => rfl)) $$ [Hm Hflx1 HownE1]
  · isplitr; · iexact Hc
    isplitl [Hm]; · iexact Hm
    isplitl [Hflx1]; · iexact Hflx1
    iexact HownE1
  iintro ⟨Hm, HldD1, Hown01, Hown11, HownK1⟩
  iapply (send_right m N c ⟨k0_dev5 c, k0_dev5_lt c⟩ 1 (by decide) (Fin.ext (k0_dev5_eq c)) rfl rfl rfl) $$ [Hm Hown01]
  · isplitr; · iexact Hc
    isplitl [Hm]; · iexact Hm
    iexact Hown01
  iintro Hm
  rw [wp_ret]; imodintro
  iapply Hk
  isplitl [Hm]; · iexact Hm
  isplitl [HldD1]; · iexact HldD1
  isplitl [Hown11]; · iexact Hown11
  iexact HownK1

/-- Chunks 5 and 2 cast; slot 14 sent. -/
theorem part5 (c : Dev nD) (v5 : BitVec 32) (h0 : xM.IsWhole) (h1 : wM.IsWhole) (h2 : sxM.IsWhole) (h3 : swM.IsWhole) (h4 : outM.IsWhole) (h5 : xstM.IsWhole) (h6 : wstM.IsWhole) (h7 : ostM.IsWhole) (h8 : ownM.IsWhole) (h9 : flM.IsWhole) (h10 : frM.IsWhole) (h11 : opM.IsWhole) (h12 : w8M.IsWhole)
    {Kt : (PUnit) → sProp 𝕄} :
    iprop(ctx m N ∗ mid m c [14, 2, 15, 3, 16, 4, 5, 6, 7, 9, 10, 11, 12, 8, 17] [1, 13, 0] [0, 1, 2, 3, 13, 14, 15, 16, 4, 5, 6, 7, 9, 10, 11, 12, 8, 17] [] [] ∗ flx m c 5 ∗ ownE (F := F) c 5 ∗ flx m c 2 ∗ ownE (F := F) c 2)
      ⊢ iprop(((mid m c [2, 15, 3, 16, 4, 5, 6, 7, 9, 10, 11, 12, 8, 17] [14, 1, 13, 0] [0, 1, 2, 3, 13, 14, 15, 16, 4, 5, 6, 7, 9, 10, 11, 12, 8, 17] [] [] ∗ ldD m c 5 ∗ own0 m c 5 ∗ ownK m c 5 ∗ ldD m c 2 ∗ own0 m c 2 ∗ own1 m c 2 ∗ ownK m c 2) -∗ Kt (⟨⟩))
        -∗ wp frame (wpE (defs₀ (F := F)) 𝒱₀ (c : Thread nD τ) none) Set.univ (k0_part5 xM h0 wM h1 sxM h2 swM h3 outM h4 xstM h5 wstM h6 ostM h7 ownM h8 flM h9 frM h10 opM h11 w8M h12 cc0_scratch8 cc0_scratch9 cc0_scratch10 cc0_scratch11 c v5) Kt) := by
  rw [k0_part5_eq_skeleton]; unfold k0_part5_skel
  simp only [Prog.lift, Prog.bind_op, Prog.bind_ret, Prog.pure_eq_ret, smemLoad, smemLoadElt_bind]
  iintro ⟨#Hc, Hm, Hflx5, HownE5, Hflx2, HownE2⟩ Hk
  iapply (chunk m N c 5 (by decide) rfl rfl (fun _ => rfl)) $$ [Hm Hflx5 HownE5]
  · isplitr; · iexact Hc
    isplitl [Hm]; · iexact Hm
    isplitl [Hflx5]; · iexact Hflx5
    iexact HownE5
  iintro ⟨Hm, HldD5, Hown05, Hown15, HownK5⟩
  iapply (send_left m N c ⟨k0_dev6 c, k0_dev6_lt c⟩ 14 (by decide) (by decide) (Fin.ext (k0_dev6_eq c)) rfl rfl rfl) $$ [Hm Hown15]
  · isplitr; · iexact Hc
    isplitl [Hm]; · iexact Hm
    iexact Hown15
  iintro Hm
  iapply (chunk m N c 2 (by decide) rfl rfl (fun _ => rfl)) $$ [Hm Hflx2 HownE2]
  · isplitr; · iexact Hc
    isplitl [Hm]; · iexact Hm
    isplitl [Hflx2]; · iexact Hflx2
    iexact HownE2
  iintro ⟨Hm, HldD2, Hown02, Hown12, HownK2⟩
  rw [wp_ret]; imodintro
  iapply Hk
  isplitl [Hm]; · iexact Hm
  isplitl [HldD5]; · iexact HldD5
  isplitl [Hown05]; · iexact Hown05
  isplitl [HownK5]; · iexact HownK5
  isplitl [HldD2]; · iexact HldD2
  isplitl [Hown02]; · iexact Hown02
  isplitl [Hown12]; · iexact Hown12
  iexact HownK2

/-- Chunk 6 cast; slots 2 and 15 sent. -/
theorem part6 (c : Dev nD) (v5 : BitVec 32) (v7 : BitVec 32) (h0 : xM.IsWhole) (h1 : wM.IsWhole) (h2 : sxM.IsWhole) (h3 : swM.IsWhole) (h4 : outM.IsWhole) (h5 : xstM.IsWhole) (h6 : wstM.IsWhole) (h7 : ostM.IsWhole) (h8 : ownM.IsWhole) (h9 : flM.IsWhole) (h10 : frM.IsWhole) (h11 : opM.IsWhole) (h12 : w8M.IsWhole)
    {Kt : (PUnit) → sProp 𝕄} :
    iprop(ctx m N ∗ mid m c [2, 15, 3, 16, 4, 5, 6, 7, 9, 10, 11, 12, 8, 17] [14, 1, 13, 0] [0, 1, 2, 3, 13, 14, 15, 16, 4, 5, 6, 7, 9, 10, 11, 12, 8, 17] [] [] ∗ own0 m c 2 ∗ flx m c 6 ∗ ownE (F := F) c 6)
      ⊢ iprop(((mid m c [3, 16, 4, 5, 6, 7, 9, 10, 11, 12, 8, 17] [15, 2, 14, 1, 13, 0] [0, 1, 2, 3, 13, 14, 15, 16, 4, 5, 6, 7, 9, 10, 11, 12, 8, 17] [] [] ∗ ldD m c 6 ∗ own0 m c 6 ∗ ownK m c 6) -∗ Kt (⟨⟩))
        -∗ wp frame (wpE (defs₀ (F := F)) 𝒱₀ (c : Thread nD τ) none) Set.univ (k0_part6 xM h0 wM h1 sxM h2 swM h3 outM h4 xstM h5 wstM h6 ostM h7 ownM h8 flM h9 frM h10 opM h11 w8M h12 cc0_scratch8 cc0_scratch9 cc0_scratch10 cc0_scratch11 c v5 v7) Kt) := by
  rw [k0_part6_eq_skeleton]; unfold k0_part6_skel
  simp only [Prog.lift, Prog.bind_op, Prog.bind_ret, Prog.pure_eq_ret, smemLoad, smemLoadElt_bind]
  iintro ⟨#Hc, Hm, Hown02, Hflx6, HownE6⟩ Hk
  iapply (send_right m N c ⟨k0_dev7 c, k0_dev7_lt c⟩ 2 (by decide) (Fin.ext (k0_dev7_eq c)) rfl rfl rfl) $$ [Hm Hown02]
  · isplitr; · iexact Hc
    isplitl [Hm]; · iexact Hm
    iexact Hown02
  iintro Hm
  iapply (chunk m N c 6 (by decide) rfl rfl (fun _ => rfl)) $$ [Hm Hflx6 HownE6]
  · isplitr; · iexact Hc
    isplitl [Hm]; · iexact Hm
    isplitl [Hflx6]; · iexact Hflx6
    iexact HownE6
  iintro ⟨Hm, HldD6, Hown06, Hown16, HownK6⟩
  iapply (send_left m N c ⟨k0_dev8 c, k0_dev8_lt c⟩ 15 (by decide) (by decide) (Fin.ext (k0_dev8_eq c)) rfl rfl rfl) $$ [Hm Hown16]
  · isplitr; · iexact Hc
    isplitl [Hm]; · iexact Hm
    iexact Hown16
  iintro Hm
  rw [wp_ret]; imodintro
  iapply Hk
  isplitl [Hm]; · iexact Hm
  isplitl [HldD6]; · iexact HldD6
  isplitl [Hown06]; · iexact Hown06
  iexact HownK6

end Cert.KernelIdealProof

end
-- ==== Proof.KernelIdeal.Parts2.lean ====
/-
Parts 7 to 9 of the body: chunks cast and sent.
-/
module

public import proofs.«01_k».proof.Proof.KernelIdeal.Pieces
public import Idealize.ShloMosaic.Lib.Exec.Context

@[expose] public section

noncomputable section

namespace Cert.KernelIdealProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

variable (N : Dev nD × CK → ℕ)

/-- Chunks 3 and 7 cast; slot 3 sent. -/
theorem part7 (c : Dev nD) (v5 : BitVec 32) (v7 : BitVec 32) (h0 : xM.IsWhole) (h1 : wM.IsWhole) (h2 : sxM.IsWhole) (h3 : swM.IsWhole) (h4 : outM.IsWhole) (h5 : xstM.IsWhole) (h6 : wstM.IsWhole) (h7 : ostM.IsWhole) (h8 : ownM.IsWhole) (h9 : flM.IsWhole) (h10 : frM.IsWhole) (h11 : opM.IsWhole) (h12 : w8M.IsWhole)
    {Kt : (Σ' (v177 : BitVec 32), BitVec 32) → sProp 𝕄} :
    iprop(ctx m N ∗ mid m c [3, 16, 4, 5, 6, 7, 9, 10, 11, 12, 8, 17] [15, 2, 14, 1, 13, 0] [0, 1, 2, 3, 13, 14, 15, 16, 4, 5, 6, 7, 9, 10, 11, 12, 8, 17] [] [] ∗ flx m c 3 ∗ ownE (F := F) c 3 ∗ flx m c 7 ∗ ownE (F := F) c 7)
      ⊢ iprop((∀ w, (mid m c [16, 4, 5, 6, 7, 9, 10, 11, 12, 8, 17] [3, 15, 2, 14, 1, 13, 0] [0, 1, 2, 3, 13, 14, 15, 16, 4, 5, 6, 7, 9, 10, 11, 12, 8, 17] [] [] ∗ ldD m c 3 ∗ own1 m c 3 ∗ ownK m c 3 ∗ ldD m c 7 ∗ own0 m c 7 ∗ own1 m c 7 ∗ ownK m c 7) -∗ Kt (⟨w, 0#32⟩))
        -∗ wp frame (wpE (defs₀ (F := F)) 𝒱₀ (c : Thread nD τ) none) Set.univ (k0_part7 xM h0 wM h1 sxM h2 swM h3 outM h4 xstM h5 wstM h6 ostM h7 ownM h8 flM h9 frM h10 opM h11 w8M h12 cc0_scratch8 cc0_scratch9 cc0_scratch10 cc0_scratch11 c v5 v7) Kt) := by
  rw [k0_part7_eq_skeleton]; unfold k0_part7_skel
  simp only [Prog.lift, Prog.bind_op, Prog.bind_ret, Prog.pure_eq_ret, smemLoad, smemLoadElt_bind]
  iintro ⟨#Hc, Hm, Hflx3, HownE3, Hflx7, HownE7⟩ Hk
  iapply (chunk m N c 3 (by decide) rfl rfl (fun _ => rfl)) $$ [Hm Hflx3 HownE3]
  · isplitr; · iexact Hc
    isplitl [Hm]; · iexact Hm
    isplitl [Hflx3]; · iexact Hflx3
    iexact HownE3
  iintro ⟨Hm, HldD3, Hown03, Hown13, HownK3⟩
  iapply (send_right m N c ⟨k0_dev9 c, k0_dev9_lt c⟩ 3 (by decide) (Fin.ext (k0_dev9_eq c)) rfl rfl rfl) $$ [Hm Hown03]
  · isplitr; · iexact Hc
    isplitl [Hm]; · iexact Hm
    iexact Hown03
  iintro Hm
  iapply (chunk m N c 7 (by decide) rfl rfl (fun _ => rfl)) $$ [Hm Hflx7 HownE7]
  · isplitr; · iexact Hc
    isplitl [Hm]; · iexact Hm
    isplitl [Hflx7]; · iexact Hflx7
    iexact HownE7
  iintro ⟨Hm, HldD7, Hown07, Hown17, HownK7⟩
  rw [wp_ret]; imodintro
  iapply Hk
  isplitl [Hm]; · iexact Hm
  isplitl [HldD3]; · iexact HldD3
  isplitl [Hown13]; · iexact Hown13
  isplitl [HownK3]; · iexact HownK3
  isplitl [HldD7]; · iexact HldD7
  isplitl [Hown07]; · iexact Hown07
  isplitl [Hown17]; · iexact Hown17
  iexact HownK7

/-- Slots 16, 4 and 5 sent. -/
theorem part8 (c : Dev nD) (v7 : BitVec 32) (v177 : BitVec 32) (c0 : BitVec 32) (h0 : xM.IsWhole) (h1 : wM.IsWhole) (h2 : sxM.IsWhole) (h3 : swM.IsWhole) (h4 : outM.IsWhole) (h5 : xstM.IsWhole) (h6 : wstM.IsWhole) (h7 : ostM.IsWhole) (h8 : ownM.IsWhole) (h9 : flM.IsWhole) (h10 : frM.IsWhole) (h11 : opM.IsWhole) (h12 : w8M.IsWhole)
    {Kt : (PUnit) → sProp 𝕄} :
    iprop(ctx m N ∗ mid m c [16, 4, 5, 6, 7, 9, 10, 11, 12, 8, 17] [3, 15, 2, 14, 1, 13, 0] [0, 1, 2, 3, 13, 14, 15, 16, 4, 5, 6, 7, 9, 10, 11, 12, 8, 17] [] [] ∗ own1 m c 7 ∗ own0 m c 4 ∗ own0 m c 5)
      ⊢ iprop(((mid m c [6, 7, 9, 10, 11, 12, 8, 17] [5, 4, 16, 3, 15, 2, 14, 1, 13, 0] [0, 1, 2, 3, 13, 14, 15, 16, 4, 5, 6, 7, 9, 10, 11, 12, 8, 17] [] []) -∗ Kt (⟨⟩))
        -∗ wp frame (wpE (defs₀ (F := F)) 𝒱₀ (c : Thread nD τ) none) Set.univ (k0_part8 xM h0 wM h1 sxM h2 swM h3 outM h4 xstM h5 wstM h6 ostM h7 ownM h8 flM h9 frM h10 opM h11 w8M h12 cc0_scratch8 cc0_scratch9 cc0_scratch10 cc0_scratch11 c v7 v177 c0) Kt) := by
  rw [k0_part8_eq_skeleton]; unfold k0_part8_skel
  simp only [Prog.lift, Prog.bind_op, Prog.bind_ret, Prog.pure_eq_ret, smemLoad, smemLoadElt_bind]
  iintro ⟨#Hc, Hm, Hown17, Hown04, Hown05⟩ Hk
  iapply (send_left m N c ⟨k0_dev10 c, k0_dev10_lt c⟩ 16 (by decide) (by decide) (Fin.ext (k0_dev10_eq c)) rfl rfl rfl) $$ [Hm Hown17]
  · isplitr; · iexact Hc
    isplitl [Hm]; · iexact Hm
    iexact Hown17
  iintro Hm
  iapply (send_right m N c ⟨k0_dev11 c, k0_dev11_lt c⟩ 4 (by decide) (Fin.ext (k0_dev11_eq c)) rfl rfl rfl) $$ [Hm Hown04]
  · isplitr; · iexact Hc
    isplitl [Hm]; · iexact Hm
    iexact Hown04
  iintro Hm
  iapply (send_right m N c ⟨k0_dev12 c, k0_dev12_lt c⟩ 5 (by decide) (Fin.ext (k0_dev12_eq c)) rfl rfl rfl) $$ [Hm Hown05]
  · isplitr; · iexact Hc
    isplitl [Hm]; · iexact Hm
    iexact Hown05
  iintro Hm
  rw [wp_ret]; imodintro
  iapply Hk
  iexact Hm

/-- Slots 6, 7 and 9 sent. -/
theorem part9 (c : Dev nD) (v5 : BitVec 32) (v7 : BitVec 32) (h0 : xM.IsWhole) (h1 : wM.IsWhole) (h2 : sxM.IsWhole) (h3 : swM.IsWhole) (h4 : outM.IsWhole) (h5 : xstM.IsWhole) (h6 : wstM.IsWhole) (h7 : ostM.IsWhole) (h8 : ownM.IsWhole) (h9 : flM.IsWhole) (h10 : frM.IsWhole) (h11 : opM.IsWhole) (h12 : w8M.IsWhole)
    {Kt : (PUnit) → sProp 𝕄} :
    iprop(ctx m N ∗ mid m c [6, 7, 9, 10, 11, 12, 8, 17] [5, 4, 16, 3, 15, 2, 14, 1, 13, 0] [0, 1, 2, 3, 13, 14, 15, 16, 4, 5, 6, 7, 9, 10, 11, 12, 8, 17] [] [] ∗ own0 m c 6 ∗ own0 m c 7 ∗ own1 m c 0)
      ⊢ iprop(((mid m c [10, 11, 12, 8, 17] [9, 7, 6, 5, 4, 16, 3, 15, 2, 14, 1, 13, 0] [0, 1, 2, 3, 13, 14, 15, 16, 4, 5, 6, 7, 9, 10, 11, 12, 8, 17] [] []) -∗ Kt (⟨⟩))
        -∗ wp frame (wpE (defs₀ (F := F)) 𝒱₀ (c : Thread nD τ) none) Set.univ (k0_part9 xM h0 wM h1 sxM h2 swM h3 outM h4 xstM h5 wstM h6 ostM h7 ownM h8 flM h9 frM h10 opM h11 w8M h12 cc0_scratch8 cc0_scratch9 cc0_scratch10 cc0_scratch11 c v5 v7) Kt) := by
  rw [k0_part9_eq_skeleton]; unfold k0_part9_skel
  simp only [Prog.lift, Prog.bind_op, Prog.bind_ret, Prog.pure_eq_ret, smemLoad, smemLoadElt_bind]
  iintro ⟨#Hc, Hm, Hown06, Hown07, Hown10⟩ Hk
  iapply (send_right m N c ⟨k0_dev13 c, k0_dev13_lt c⟩ 6 (by decide) (Fin.ext (k0_dev13_eq c)) rfl rfl rfl) $$ [Hm Hown06]
  · isplitr; · iexact Hc
    isplitl [Hm]; · iexact Hm
    iexact Hown06
  iintro Hm
  iapply (send_right m N c ⟨k0_dev14 c, k0_dev14_lt c⟩ 7 (by decide) (Fin.ext (k0_dev14_eq c)) rfl rfl rfl) $$ [Hm Hown07]
  · isplitr; · iexact Hc
    isplitl [Hm]; · iexact Hm
    iexact Hown07
  iintro Hm
  iapply (send_left m N c ⟨k0_dev15 c, k0_dev15_lt c⟩ 9 (by decide) (by decide) (Fin.ext (k0_dev15_eq c)) rfl rfl rfl) $$ [Hm Hown10]
  · isplitr; · iexact Hc
    isplitl [Hm]; · iexact Hm
    iexact Hown10
  iintro Hm
  rw [wp_ret]; imodintro
  iapply Hk
  iexact Hm

end Cert.KernelIdealProof

end
-- ==== Proof.KernelIdeal.Parts2b.lean ====
/-
Parts 10 and 11 of the body: `w` cast, the device's own block row.
-/
module

public import proofs.«01_k».proof.Proof.KernelIdeal.Pieces
public import Idealize.ShloMosaic.Lib.Exec.Context

@[expose] public section

noncomputable section

namespace Cert.KernelIdealProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

variable (N : Dev nD × CK → ℕ)

/-- Slots 10, 11 and 12 sent; `w` cast. -/
theorem part10 (c : Dev nD) (v5 : BitVec 32) (h0 : xM.IsWhole) (h1 : wM.IsWhole) (h2 : sxM.IsWhole) (h3 : swM.IsWhole) (h4 : outM.IsWhole) (h5 : xstM.IsWhole) (h6 : wstM.IsWhole) (h7 : ostM.IsWhole) (h8 : ownM.IsWhole) (h9 : flM.IsWhole) (h10 : frM.IsWhole) (h11 : opM.IsWhole) (h12 : w8M.IsWhole)
    {Kt : (F .f32) → sProp 𝕄} :
    iprop(ctx m N ∗ mid m c [10, 11, 12, 8, 17] [9, 7, 6, 5, 4, 16, 3, 15, 2, 14, 1, 13, 0] [0, 1, 2, 3, 13, 14, 15, 16, 4, 5, 6, 7, 9, 10, 11, 12, 8, 17] [] [] ∗ own1 m c 1 ∗ own1 m c 2 ∗ own1 m c 3 ∗ flw m c ∗ w8Any (F := F) c ∗ sxPts m ρ c)
      ⊢ iprop(((mid m c [8, 17] [12, 11, 10, 9, 7, 6, 5, 4, 16, 3, 15, 2, 14, 1, 13, 0] [0, 1, 2, 3, 13, 14, 15, 16, 4, 5, 6, 7, 9, 10, 11, 12, 8, 17] [] [] ∗ ldwD m c ∗ w8Pts c (w8C m c) ∗ sxPts m ρ c) -∗ Kt (sxv m ρ c))
        -∗ wp frame (wpE (defs₀ (F := F)) 𝒱₀ (c : Thread nD τ) none) Set.univ (k0_part10 xM h0 wM h1 sxM h2 swM h3 outM h4 xstM h5 wstM h6 ostM h7 ownM h8 flM h9 frM h10 opM h11 w8M h12 cc0_scratch8 cc0_scratch9 cc0_scratch10 cc0_scratch11 c v5) Kt) := by
  rw [k0_part10_eq_skeleton]; unfold k0_part10_skel
  simp only [Prog.lift, Prog.bind_op, Prog.bind_ret, Prog.pure_eq_ret, smemLoad, smemLoadElt_bind]
  iintro ⟨#Hc, Hm, Hown11, Hown12, Hown13, Hflw, Hw8E, Hsx⟩ Hk
  iapply (send_left m N c ⟨k0_dev16 c, k0_dev16_lt c⟩ 10 (by decide) (by decide) (Fin.ext (k0_dev16_eq c)) rfl rfl rfl) $$ [Hm Hown11]
  · isplitr; · iexact Hc
    isplitl [Hm]; · iexact Hm
    iexact Hown11
  iintro Hm
  iapply (send_left m N c ⟨k0_dev17 c, k0_dev17_lt c⟩ 11 (by decide) (by decide) (Fin.ext (k0_dev17_eq c)) rfl rfl rfl) $$ [Hm Hown12]
  · isplitr; · iexact Hc
    isplitl [Hm]; · iexact Hm
    iexact Hown12
  iintro Hm
  iapply (send_left m N c ⟨k0_dev18 c, k0_dev18_lt c⟩ 12 (by decide) (by decide) (Fin.ext (k0_dev18_eq c)) rfl rfl rfl) $$ [Hm Hown13]
  · isplitr; · iexact Hc
    isplitl [Hm]; · iexact Hm
    iexact Hown13
  iintro Hm
  ihave HF := (Entails.of_eq (flw_eq m c)) $$ Hflw
  iapply (wait_local m N c (dst := wstM) (Nn := NW) rfl (lv_load 8)) $$ [HF Hm]
  · isplitr; · iexact Hc
    isplitl [HF]; · iexact HF
    iexact Hm
  iintro ⟨⟨Hws, Hwx⟩, Hv, Hm⟩
  iapply (cast_w m c) $$ [Hws Hw8E]
  · isplitl [Hws]; · iexact Hws
    iexact Hw8E
  iintro ⟨Hws, Hw8⟩
  ihave HldwD := (ldwD_intro m c) $$ [Hws Hwx Hv]
  · isplitl [Hwx]; · iexact Hwx
    isplitl [Hws]; · iexact Hws
    iexact Hv
  iapply (load_sx m ρ c) $$ Hsx
  iintro Hsx
  rw [wp_ret]; imodintro
  iapply Hk
  isplitl [Hm]; · iexact Hm
  isplitl [HldwD]; · iexact HldwD
  isplitl [Hw8]; · iexact Hw8
  iexact Hsx

/-- The device's own block row of the result; slot 0 received. -/
theorem part11 (c : Dev nD) (v2 : BitVec 32) (v7 : BitVec 32) (h0 : xM.IsWhole) (h1 : wM.IsWhole) (h2 : sxM.IsWhole) (h3 : swM.IsWhole) (h4 : outM.IsWhole) (h5 : xstM.IsWhole) (h6 : wstM.IsWhole) (h7 : ostM.IsWhole) (h8 : ownM.IsWhole) (h9 : flM.IsWhole) (h10 : frM.IsWhole) (h11 : opM.IsWhole) (h12 : w8M.IsWhole)
    {Kt : (F .f32) → sProp 𝕄} :
    iprop(ctx m N ∗ mid m c [8, 17] [12, 11, 10, 9, 7, 6, 5, 4, 16, 3, 15, 2, 14, 1, 13, 0] [0, 1, 2, 3, 13, 14, 15, 16, 4, 5, 6, 7, 9, 10, 11, 12, 8, 17] [] [] ∗ ownK m c 0 ∗ ownK m c 1 ∗ ownK m c 2 ∗ ownK m c 3 ∗ ownK m c 4 ∗ ownK m c 5 ∗ ownK m c 6 ∗ ownK m c 7 ∗ swPts m ρ c ∗ w8Pts c (w8C m c) ∗ outE1024 (F := F) c 0 (1024 * c.val))
      ⊢ iprop(((mid m c [8, 17] [12, 11, 10, 9, 7, 6, 5, 4, 16, 3, 15, 2, 14, 1, 13, 0] [1, 2, 3, 13, 14, 15, 16, 4, 5, 6, 7, 9, 10, 11, 12, 8, 17] [0] [] ∗ swPts m ρ c ∗ ownPts c 0 1024 shK (ownC m c) ∗ w8Pts c (w8C m c) ∗ flo1024 m ρ c 0 (1024 * c.val) ∗ recvPay m c 0) -∗ Kt (k0_pay10 (sxv m ρ c) (swv m ρ c)))
        -∗ wp frame (wpE (defs₀ (F := F)) 𝒱₀ (c : Thread nD τ) none) Set.univ (k0_part11 xM h0 wM h1 sxM h2 swM h3 outM h4 xstM h5 wstM h6 ostM h7 ownM h8 flM h9 frM h10 opM h11 w8M h12 cc0_scratch8 cc0_scratch9 cc0_scratch10 cc0_scratch11 c v2 v7 (sxv m ρ c)) Kt) := by
  rw [k0_part11_eq_skeleton]; unfold k0_part11_skel
  simp only [Prog.lift, Prog.bind_op, Prog.bind_ret, Prog.pure_eq_ret, smemLoad, smemLoadElt_bind]
  iintro ⟨#Hc, Hm, HownK0, HownK1, HownK2, HownK3, HownK4, HownK5, HownK6, HownK7, Hsw, Hw8, Hout0⟩ Hk
  ihave Hx := (own_whole m c) $$ [HownK0 HownK1 HownK2 HownK3 HownK4 HownK5 HownK6 HownK7]
  · isplitl [HownK0]; · iexact HownK0
    isplitl [HownK1]; · iexact HownK1
    isplitl [HownK2]; · iexact HownK2
    isplitl [HownK3]; · iexact HownK3
    isplitl [HownK4]; · iexact HownK4
    isplitl [HownK5]; · iexact HownK5
    isplitl [HownK6]; · iexact HownK6
    iexact HownK7
  ihave HownW := (Entails.of_eq rfl) $$ Hx
  iapply (load_sw m ρ c) $$ Hsw
  iintro Hsw
  iapply (load_own c) $$ HownW
  iintro HownW
  iapply (load_w8 c) $$ Hw8
  iintro Hw8
  iapply (store_out1024 m ρ c 0 (a := 1024 * c.val) (k0_off1_eq c) (k0_off2_eq c) rfl (fun inb x => outC_big m ρ c c (ne_opp c) rfl x)) $$ [Hout0]
  · iexact Hout0
  iintro Hflo0
  iapply (recv m N c 0 (dst := flM.slice (Rect.unit (s := S1024x4096) ![0, 0] S128x4096.size inb_S1024x4096_S128x4096_0_0) (fun _ => rfl)) rfl (Eq.trans rfl (credit_A 0 (by decide)).symm) (mayWait_near c _ (by rw [lv_recv_near 0 (by decide)]) [8, 17] (by decide))) $$ [Hm]
  · isplitr; · iexact Hc
    iexact Hm
  iintro ⟨Hrecv0, Hm⟩
  rw [wp_ret]; imodintro
  iapply Hk
  isplitl [Hm]; · iexact Hm
  isplitl [Hsw]; · iexact Hsw
  isplitl [HownW]; · iexact HownW
  isplitl [Hw8]; · iexact Hw8
  isplitl [Hflo0]; · iexact Hflo0
  iexact Hrecv0

end Cert.KernelIdealProof

end
-- ==== Proof.KernelIdeal.Parts3.lean ====
/-
Parts 12 to 14 of the body: landings awaited, halves relayed.
-/
module

public import proofs.«01_k».proof.Proof.KernelIdeal.Pieces
public import Idealize.ShloMosaic.Lib.Exec.Context

@[expose] public section

noncomputable section

namespace Cert.KernelIdealProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

variable (N : Dev nD × CK → ℕ)

/-- Slots 1 to 3 received; slot 8 sent. -/
theorem part12 (c : Dev nD) (v7 : BitVec 32) (h0 : xM.IsWhole) (h1 : wM.IsWhole) (h2 : sxM.IsWhole) (h3 : swM.IsWhole) (h4 : outM.IsWhole) (h5 : xstM.IsWhole) (h6 : wstM.IsWhole) (h7 : ostM.IsWhole) (h8 : ownM.IsWhole) (h9 : flM.IsWhole) (h10 : frM.IsWhole) (h11 : opM.IsWhole) (h12 : w8M.IsWhole)
    {Kt : (PUnit) → sProp 𝕄} :
    iprop(ctx m N ∗ mid m c [8, 17] [12, 11, 10, 9, 7, 6, 5, 4, 16, 3, 15, 2, 14, 1, 13, 0] [1, 2, 3, 13, 14, 15, 16, 4, 5, 6, 7, 9, 10, 11, 12, 8, 17] [0] [] ∗ recvPay m c 0)
      ⊢ iprop(((mid m c [17] [8, 12, 11, 10, 9, 7, 6, 5, 4, 16, 3, 15, 2, 14, 1, 13, 0] [13, 14, 15, 16, 4, 5, 6, 7, 9, 10, 11, 12, 8, 17] [3, 2, 1, 0] [] ∗ flPts c 0 512 fullShare.right (ownC m (prv c))) -∗ Kt (⟨⟩))
        -∗ wp frame (wpE (defs₀ (F := F)) 𝒱₀ (c : Thread nD τ) none) Set.univ (k0_part12 xM h0 wM h1 sxM h2 swM h3 outM h4 xstM h5 wstM h6 ostM h7 ownM h8 flM h9 frM h10 opM h11 w8M h12 cc0_scratch8 cc0_scratch9 cc0_scratch10 cc0_scratch11 c v7) Kt) := by
  rw [k0_part12_eq_skeleton]; unfold k0_part12_skel
  simp only [Prog.lift, Prog.bind_op, Prog.bind_ret, Prog.pure_eq_ret, smemLoad, smemLoadElt_bind]
  iintro ⟨#Hc, Hm, Hrecv0⟩ Hk
  iapply (recv m N c 1 (dst := flM.slice (Rect.unit (s := S1024x4096) ![128, 0] S128x4096.size inb_S1024x4096_S128x4096_128_0) (fun _ => rfl)) rfl (Eq.trans rfl (credit_A 1 (by decide)).symm) (mayWait_near c _ (by rw [lv_recv_near 1 (by decide)]) [8, 17] (by decide))) $$ [Hm]
  · isplitr; · iexact Hc
    iexact Hm
  iintro ⟨Hrecv1, Hm⟩
  iapply (recv m N c 2 (dst := flM.slice (Rect.unit (s := S1024x4096) ![256, 0] S128x4096.size inb_S1024x4096_S128x4096_256_0) (fun _ => rfl)) rfl (Eq.trans rfl (credit_A 2 (by decide)).symm) (mayWait_near c _ (by rw [lv_recv_near 2 (by decide)]) [8, 17] (by decide))) $$ [Hm]
  · isplitr; · iexact Hc
    iexact Hm
  iintro ⟨Hrecv2, Hm⟩
  iapply (recv m N c 3 (dst := flM.slice (Rect.unit (s := S1024x4096) ![384, 0] S128x4096.size inb_S1024x4096_S128x4096_384_0) (fun _ => rfl)) rfl (Eq.trans rfl (credit_A 3 (by decide)).symm) (mayWait_near c _ (by rw [lv_recv_near 3 (by decide)]) [8, 17] (by decide))) $$ [Hm]
  · isplitr; · iexact Hc
    iexact Hm
  iintro ⟨Hrecv3, Hm⟩
  ihave Hx := (fl_low m c) $$ [Hrecv0 Hrecv1 Hrecv2 Hrecv3]
  · isplitl [Hrecv0]; · iexact Hrecv0
    isplitl [Hrecv1]; · iexact Hrecv1
    isplitl [Hrecv2]; · iexact Hrecv2
    iexact Hrecv3
  icases Hx with ⟨HflL, HflR⟩
  iapply (send_relayR m N c ⟨k0_dev19 c, k0_dev19_lt c⟩ 8 rfl (Fin.ext (k0_dev19_eq c)) rfl rfl rfl) $$ [Hm HflL]
  · isplitr; · iexact Hc
    isplitl [Hm]; · iexact Hm
    iexact HflL
  iintro Hm
  rw [wp_ret]; imodintro
  iapply Hk
  isplitl [Hm]; · iexact Hm
  iexact HflR

/-- Slots 13 to 15 received. -/
theorem part13 (c : Dev nD) (v5 : BitVec 32) (h0 : xM.IsWhole) (h1 : wM.IsWhole) (h2 : sxM.IsWhole) (h3 : swM.IsWhole) (h4 : outM.IsWhole) (h5 : xstM.IsWhole) (h6 : wstM.IsWhole) (h7 : ostM.IsWhole) (h8 : ownM.IsWhole) (h9 : flM.IsWhole) (h10 : frM.IsWhole) (h11 : opM.IsWhole) (h12 : w8M.IsWhole)
    {Kt : (PUnit) → sProp 𝕄} :
    iprop(ctx m N ∗ mid m c [17] [8, 12, 11, 10, 9, 7, 6, 5, 4, 16, 3, 15, 2, 14, 1, 13, 0] [13, 14, 15, 16, 4, 5, 6, 7, 9, 10, 11, 12, 8, 17] [3, 2, 1, 0] [])
      ⊢ iprop(((mid m c [17] [8, 12, 11, 10, 9, 7, 6, 5, 4, 16, 3, 15, 2, 14, 1, 13, 0] [16, 4, 5, 6, 7, 9, 10, 11, 12, 8, 17] [15, 14, 13, 3, 2, 1, 0] [] ∗ recvPay m c 13 ∗ recvPay m c 14 ∗ recvPay m c 15) -∗ Kt (⟨⟩))
        -∗ wp frame (wpE (defs₀ (F := F)) 𝒱₀ (c : Thread nD τ) none) Set.univ (k0_part13 xM h0 wM h1 sxM h2 swM h3 outM h4 xstM h5 wstM h6 ostM h7 ownM h8 flM h9 frM h10 opM h11 w8M h12 cc0_scratch8 cc0_scratch9 cc0_scratch10 cc0_scratch11 v5) Kt) := by
  rw [k0_part13_eq_skeleton]; unfold k0_part13_skel
  simp only [Prog.lift, Prog.bind_op, Prog.bind_ret, Prog.pure_eq_ret, smemLoad, smemLoadElt_bind]
  iintro ⟨#Hc, Hm⟩ Hk
  iapply (recv m N c 13 (dst := frM.slice (Rect.unit (s := S1024x4096) ![512, 0] S128x4096.size inb_S1024x4096_S128x4096_512_0) (fun _ => rfl)) rfl (Eq.trans rfl (credit_A 13 (by decide)).symm) (mayWait_near c _ (by rw [lv_recv_near 13 (by decide)]) [17] (by decide))) $$ [Hm]
  · isplitr; · iexact Hc
    iexact Hm
  iintro ⟨Hrecv13, Hm⟩
  iapply (recv m N c 14 (dst := frM.slice (Rect.unit (s := S1024x4096) ![640, 0] S128x4096.size inb_S1024x4096_S128x4096_640_0) (fun _ => rfl)) rfl (Eq.trans rfl (credit_A 14 (by decide)).symm) (mayWait_near c _ (by rw [lv_recv_near 14 (by decide)]) [17] (by decide))) $$ [Hm]
  · isplitr; · iexact Hc
    iexact Hm
  iintro ⟨Hrecv14, Hm⟩
  iapply (recv m N c 15 (dst := frM.slice (Rect.unit (s := S1024x4096) ![768, 0] S128x4096.size inb_S1024x4096_S128x4096_768_0) (fun _ => rfl)) rfl (Eq.trans rfl (credit_A 15 (by decide)).symm) (mayWait_near c _ (by rw [lv_recv_near 15 (by decide)]) [17] (by decide))) $$ [Hm]
  · isplitr; · iexact Hc
    iexact Hm
  iintro ⟨Hrecv15, Hm⟩
  rw [wp_ret]; imodintro
  iapply Hk
  isplitl [Hm]; · iexact Hm
  isplitl [Hrecv13]; · iexact Hrecv13
  isplitl [Hrecv14]; · iexact Hrecv14
  iexact Hrecv15

/-- Slot 16 received; slot 17 sent; slots 4 and 5 received. -/
theorem part14 (c : Dev nD) (v5 : BitVec 32) (v7 : BitVec 32) (h0 : xM.IsWhole) (h1 : wM.IsWhole) (h2 : sxM.IsWhole) (h3 : swM.IsWhole) (h4 : outM.IsWhole) (h5 : xstM.IsWhole) (h6 : wstM.IsWhole) (h7 : ostM.IsWhole) (h8 : ownM.IsWhole) (h9 : flM.IsWhole) (h10 : frM.IsWhole) (h11 : opM.IsWhole) (h12 : w8M.IsWhole)
    {Kt : (PUnit) → sProp 𝕄} :
    iprop(ctx m N ∗ mid m c [17] [8, 12, 11, 10, 9, 7, 6, 5, 4, 16, 3, 15, 2, 14, 1, 13, 0] [16, 4, 5, 6, 7, 9, 10, 11, 12, 8, 17] [15, 14, 13, 3, 2, 1, 0] [] ∗ recvPay m c 13 ∗ recvPay m c 14 ∗ recvPay m c 15)
      ⊢ iprop(((mid m c [] [17, 8, 12, 11, 10, 9, 7, 6, 5, 4, 16, 3, 15, 2, 14, 1, 13, 0] [6, 7, 9, 10, 11, 12, 8, 17] [5, 4, 16, 15, 14, 13, 3, 2, 1, 0] [] ∗ frPts c 512 1024 fullShare.right (ownC m (nxt c)) ∗ recvPay m c 4 ∗ recvPay m c 5) -∗ Kt (⟨⟩))
        -∗ wp frame (wpE (defs₀ (F := F)) 𝒱₀ (c : Thread nD τ) none) Set.univ (k0_part14 xM h0 wM h1 sxM h2 swM h3 outM h4 xstM h5 wstM h6 ostM h7 ownM h8 flM h9 frM h10 opM h11 w8M h12 cc0_scratch8 cc0_scratch9 cc0_scratch10 cc0_scratch11 c v5 v7) Kt) := by
  rw [k0_part14_eq_skeleton]; unfold k0_part14_skel
  simp only [Prog.lift, Prog.bind_op, Prog.bind_ret, Prog.pure_eq_ret, smemLoad, smemLoadElt_bind]
  iintro ⟨#Hc, Hm, Hrecv13, Hrecv14, Hrecv15⟩ Hk
  iapply (recv m N c 16 (dst := frM.slice (Rect.unit (s := S1024x4096) ![896, 0] S128x4096.size inb_S1024x4096_S128x4096_896_0) (fun _ => rfl)) rfl (Eq.trans rfl (credit_A 16 (by decide)).symm) (mayWait_near c _ (by rw [lv_recv_near 16 (by decide)]) [17] (by decide))) $$ [Hm]
  · isplitr; · iexact Hc
    iexact Hm
  iintro ⟨Hrecv16, Hm⟩
  ihave Hx := (fr_high m c) $$ [Hrecv13 Hrecv14 Hrecv15 Hrecv16]
  · isplitl [Hrecv13]; · iexact Hrecv13
    isplitl [Hrecv14]; · iexact Hrecv14
    isplitl [Hrecv15]; · iexact Hrecv15
    iexact Hrecv16
  icases Hx with ⟨HfrL, HfrR⟩
  iapply (send_relayL m N c ⟨k0_dev20 c, k0_dev20_lt c⟩ 17 rfl (Fin.ext (k0_dev20_eq c)) rfl rfl rfl) $$ [Hm HfrL]
  · isplitr; · iexact Hc
    isplitl [Hm]; · iexact Hm
    iexact HfrL
  iintro Hm
  iapply (recv m N c 4 (dst := flM.slice (Rect.unit (s := S1024x4096) ![512, 0] S128x4096.size inb_S1024x4096_S128x4096_512_0) (fun _ => rfl)) rfl (Eq.trans rfl (credit_A 4 (by decide)).symm) (mayWait_near c _ (by rw [lv_recv_near 4 (by decide)]) [] (by decide))) $$ [Hm]
  · isplitr; · iexact Hc
    iexact Hm
  iintro ⟨Hrecv4, Hm⟩
  iapply (recv m N c 5 (dst := flM.slice (Rect.unit (s := S1024x4096) ![640, 0] S128x4096.size inb_S1024x4096_S128x4096_640_0) (fun _ => rfl)) rfl (Eq.trans rfl (credit_A 5 (by decide)).symm) (mayWait_near c _ (by rw [lv_recv_near 5 (by decide)]) [] (by decide))) $$ [Hm]
  · isplitr; · iexact Hc
    iexact Hm
  iintro ⟨Hrecv5, Hm⟩
  rw [wp_ret]; imodintro
  iapply Hk
  isplitl [Hm]; · iexact Hm
  isplitl [HfrR]; · iexact HfrR
  isplitl [Hrecv4]; · iexact Hrecv4
  iexact Hrecv5

end Cert.KernelIdealProof

end
-- ==== Proof.KernelIdeal.Parts4.lean ====
/-
Parts 15 to 18 of the body: landings awaited, block rows of the result computed.
-/
module

public import proofs.«01_k».proof.Proof.KernelIdeal.Pieces
public import Idealize.ShloMosaic.Lib.Exec.Context

@[expose] public section

noncomputable section

namespace Cert.KernelIdealProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

variable (N : Dev nD × CK → ℕ)

/-- Slots 6 and 7 received; the left neighbour's block row of the result. -/
theorem part15 (c : Dev nD) (v5 : BitVec 32) (v7 : BitVec 32) (h0 : xM.IsWhole) (h1 : wM.IsWhole) (h2 : sxM.IsWhole) (h3 : swM.IsWhole) (h4 : outM.IsWhole) (h5 : xstM.IsWhole) (h6 : wstM.IsWhole) (h7 : ostM.IsWhole) (h8 : ownM.IsWhole) (h9 : flM.IsWhole) (h10 : frM.IsWhole) (h11 : opM.IsWhole) (h12 : w8M.IsWhole)
    {Kt : (PUnit) → sProp 𝕄} :
    iprop(ctx m N ∗ mid m c [] [17, 8, 12, 11, 10, 9, 7, 6, 5, 4, 16, 3, 15, 2, 14, 1, 13, 0] [6, 7, 9, 10, 11, 12, 8, 17] [5, 4, 16, 15, 14, 13, 3, 2, 1, 0] [] ∗ flPts c 0 512 fullShare.right (ownC m (prv c)) ∗ recvPay m c 4 ∗ recvPay m c 5 ∗ w8Pts c (w8C m c) ∗ outE1024 (F := F) c 1 (1024 * (prv c).val))
      ⊢ iprop(((mid m c [] [17, 8, 12, 11, 10, 9, 7, 6, 5, 4, 16, 3, 15, 2, 14, 1, 13, 0] [9, 10, 11, 12, 8, 17] [7, 6, 5, 4, 16, 15, 14, 13, 3, 2, 1, 0] [] ∗ flPts c 512 1024 fullShare.left (ownC m (prv c)) ∗ flPts c 0 1024 fullShare.right (ownC m (prv c)) ∗ w8Pts c (w8C m c) ∗ flo1024 m ρ c 1 (1024 * (prv c).val)) -∗ Kt (⟨⟩))
        -∗ wp frame (wpE (defs₀ (F := F)) 𝒱₀ (c : Thread nD τ) none) Set.univ (k0_part15 xM h0 wM h1 sxM h2 swM h3 outM h4 xstM h5 wstM h6 ostM h7 ownM h8 flM h9 frM h10 opM h11 w8M h12 cc0_scratch8 cc0_scratch9 cc0_scratch10 cc0_scratch11 c v5 v7 (k0_pay10 (sxv m ρ c) (swv m ρ c))) Kt) := by
  rw [k0_part15_eq_skeleton]; unfold k0_part15_skel
  simp only [Prog.lift, Prog.bind_op, Prog.bind_ret, Prog.pure_eq_ret, smemLoad, smemLoadElt_bind]
  iintro ⟨#Hc, Hm, HflR, Hrecv4, Hrecv5, Hw8, Hout1⟩ Hk
  iapply (recv m N c 6 (dst := flM.slice (Rect.unit (s := S1024x4096) ![768, 0] S128x4096.size inb_S1024x4096_S128x4096_768_0) (fun _ => rfl)) rfl (Eq.trans rfl (credit_A 6 (by decide)).symm) (mayWait_near c _ (by rw [lv_recv_near 6 (by decide)]) [] (by decide))) $$ [Hm]
  · isplitr; · iexact Hc
    iexact Hm
  iintro ⟨Hrecv6, Hm⟩
  iapply (recv m N c 7 (dst := flM.slice (Rect.unit (s := S1024x4096) ![896, 0] S128x4096.size inb_S1024x4096_S128x4096_896_0) (fun _ => rfl)) rfl (Eq.trans rfl (credit_A 7 (by decide)).symm) (mayWait_near c _ (by rw [lv_recv_near 7 (by decide)]) [] (by decide))) $$ [Hm]
  · isplitr; · iexact Hc
    iexact Hm
  iintro ⟨Hrecv7, Hm⟩
  ihave Hx := (fl_whole m c) $$ [HflR Hrecv4 Hrecv5 Hrecv6 Hrecv7]
  · isplitl [HflR]; · iexact HflR
    isplitl [Hrecv4]; · iexact Hrecv4
    isplitl [Hrecv5]; · iexact Hrecv5
    isplitl [Hrecv6]; · iexact Hrecv6
    iexact Hrecv7
  icases Hx with ⟨HflW, HflH⟩
  iapply (load_fl c) $$ HflW
  iintro HflW
  iapply (load_w8 c) $$ Hw8
  iintro Hw8
  iapply (store_out1024 m ρ c 1 (a := 1024 * (prv c).val) (k0_off3_eq c) (k0_off4_eq c) rfl (fun inb x => outC_big m ρ c (prv c) (prv_ne_opp c) rfl x)) $$ [Hout1]
  · iexact Hout1
  iintro Hflo1
  rw [wp_ret]; imodintro
  iapply Hk
  isplitl [Hm]; · iexact Hm
  isplitl [HflH]; · iexact HflH
  isplitl [HflW]; · iexact HflW
  isplitl [Hw8]; · iexact Hw8
  iexact Hflo1

/-- Slots 9 to 11 received. -/
theorem part16 (c : Dev nD) (v5 : BitVec 32) (h0 : xM.IsWhole) (h1 : wM.IsWhole) (h2 : sxM.IsWhole) (h3 : swM.IsWhole) (h4 : outM.IsWhole) (h5 : xstM.IsWhole) (h6 : wstM.IsWhole) (h7 : ostM.IsWhole) (h8 : ownM.IsWhole) (h9 : flM.IsWhole) (h10 : frM.IsWhole) (h11 : opM.IsWhole) (h12 : w8M.IsWhole)
    {Kt : (PUnit) → sProp 𝕄} :
    iprop(ctx m N ∗ mid m c [] [17, 8, 12, 11, 10, 9, 7, 6, 5, 4, 16, 3, 15, 2, 14, 1, 13, 0] [9, 10, 11, 12, 8, 17] [7, 6, 5, 4, 16, 15, 14, 13, 3, 2, 1, 0] [])
      ⊢ iprop(((mid m c [] [17, 8, 12, 11, 10, 9, 7, 6, 5, 4, 16, 3, 15, 2, 14, 1, 13, 0] [12, 8, 17] [11, 10, 9, 7, 6, 5, 4, 16, 15, 14, 13, 3, 2, 1, 0] [] ∗ recvPay m c 9 ∗ recvPay m c 10 ∗ recvPay m c 11) -∗ Kt (⟨⟩))
        -∗ wp frame (wpE (defs₀ (F := F)) 𝒱₀ (c : Thread nD τ) none) Set.univ (k0_part16 xM h0 wM h1 sxM h2 swM h3 outM h4 xstM h5 wstM h6 ostM h7 ownM h8 flM h9 frM h10 opM h11 w8M h12 cc0_scratch8 cc0_scratch9 cc0_scratch10 cc0_scratch11 v5) Kt) := by
  rw [k0_part16_eq_skeleton]; unfold k0_part16_skel
  simp only [Prog.lift, Prog.bind_op, Prog.bind_ret, Prog.pure_eq_ret, smemLoad, smemLoadElt_bind]
  iintro ⟨#Hc, Hm⟩ Hk
  iapply (recv m N c 9 (dst := frM.slice (Rect.unit (s := S1024x4096) ![0, 0] S128x4096.size inb_S1024x4096_S128x4096_0_0) (fun _ => rfl)) rfl (Eq.trans rfl (credit_A 9 (by decide)).symm) (mayWait_near c _ (by rw [lv_recv_near 9 (by decide)]) [] (by decide))) $$ [Hm]
  · isplitr; · iexact Hc
    iexact Hm
  iintro ⟨Hrecv9, Hm⟩
  iapply (recv m N c 10 (dst := frM.slice (Rect.unit (s := S1024x4096) ![128, 0] S128x4096.size inb_S1024x4096_S128x4096_128_0) (fun _ => rfl)) rfl (Eq.trans rfl (credit_A 10 (by decide)).symm) (mayWait_near c _ (by rw [lv_recv_near 10 (by decide)]) [] (by decide))) $$ [Hm]
  · isplitr; · iexact Hc
    iexact Hm
  iintro ⟨Hrecv10, Hm⟩
  iapply (recv m N c 11 (dst := frM.slice (Rect.unit (s := S1024x4096) ![256, 0] S128x4096.size inb_S1024x4096_S128x4096_256_0) (fun _ => rfl)) rfl (Eq.trans rfl (credit_A 11 (by decide)).symm) (mayWait_near c _ (by rw [lv_recv_near 11 (by decide)]) [] (by decide))) $$ [Hm]
  · isplitr; · iexact Hc
    iexact Hm
  iintro ⟨Hrecv11, Hm⟩
  rw [wp_ret]; imodintro
  iapply Hk
  isplitl [Hm]; · iexact Hm
  isplitl [Hrecv9]; · iexact Hrecv9
  isplitl [Hrecv10]; · iexact Hrecv10
  iexact Hrecv11

/-- Slot 12 received; the right neighbour's block row of the result; slot 8 received and the first half of the opposite device's multiplied. -/
theorem part17 (c : Dev nD) (v7 : BitVec 32) (v9 : BitVec 32) (h0 : xM.IsWhole) (h1 : wM.IsWhole) (h2 : sxM.IsWhole) (h3 : swM.IsWhole) (h4 : outM.IsWhole) (h5 : xstM.IsWhole) (h6 : wstM.IsWhole) (h7 : ostM.IsWhole) (h8 : ownM.IsWhole) (h9 : flM.IsWhole) (h10 : frM.IsWhole) (h11 : opM.IsWhole) (h12 : w8M.IsWhole)
    {Kt : (Σ' (v419 : BitVec 32), FVec F S512x512 .f32) → sProp 𝕄} :
    iprop(ctx m N ∗ mid m c [] [17, 8, 12, 11, 10, 9, 7, 6, 5, 4, 16, 3, 15, 2, 14, 1, 13, 0] [12, 8, 17] [11, 10, 9, 7, 6, 5, 4, 16, 15, 14, 13, 3, 2, 1, 0] [] ∗ frPts c 512 1024 fullShare.right (ownC m (nxt c)) ∗ recvPay m c 9 ∗ recvPay m c 10 ∗ recvPay m c 11 ∗ w8Pts c (w8C m c) ∗ outE1024 (F := F) c 2 (1024 * (nxt c).val))
      ⊢ iprop((∀ w, (mid m c [] [17, 8, 12, 11, 10, 9, 7, 6, 5, 4, 16, 3, 15, 2, 14, 1, 13, 0] [17] [8, 12, 11, 10, 9, 7, 6, 5, 4, 16, 15, 14, 13, 3, 2, 1, 0] [] ∗ frPts c 0 512 fullShare.left (ownC m (nxt c)) ∗ frPts c 0 1024 fullShare.right (ownC m (nxt c)) ∗ flo1024 m ρ c 2 (1024 * (nxt c).val) ∗ opPts c 0 512 fullShare (ownC m (opp c)) ∗ w8Pts c (w8C m c)) -∗ Kt (⟨w, k0_pay14 (k0_pay10 (sxv m ρ c) (swv m ρ c)) (lowC m (opp c)) (w8C m c)⟩))
        -∗ wp frame (wpE (defs₀ (F := F)) 𝒱₀ (c : Thread nD τ) none) Set.univ (k0_part17 xM h0 wM h1 sxM h2 swM h3 outM h4 xstM h5 wstM h6 ostM h7 ownM h8 flM h9 frM h10 opM h11 w8M h12 cc0_scratch8 cc0_scratch9 cc0_scratch10 cc0_scratch11 c v7 v9 (k0_pay10 (sxv m ρ c) (swv m ρ c))) Kt) := by
  rw [k0_part17_eq_skeleton]; unfold k0_part17_skel
  simp only [Prog.lift, Prog.bind_op, Prog.bind_ret, Prog.pure_eq_ret, smemLoad, smemLoadElt_bind]
  iintro ⟨#Hc, Hm, HfrR, Hrecv9, Hrecv10, Hrecv11, Hw8, Hout2⟩ Hk
  iapply (recv m N c 12 (dst := frM.slice (Rect.unit (s := S1024x4096) ![384, 0] S128x4096.size inb_S1024x4096_S128x4096_384_0) (fun _ => rfl)) rfl (Eq.trans rfl (credit_A 12 (by decide)).symm) (mayWait_near c _ (by rw [lv_recv_near 12 (by decide)]) [] (by decide))) $$ [Hm]
  · isplitr; · iexact Hc
    iexact Hm
  iintro ⟨Hrecv12, Hm⟩
  ihave Hx := (fr_whole m c) $$ [HfrR Hrecv9 Hrecv10 Hrecv11 Hrecv12]
  · isplitl [HfrR]; · iexact HfrR
    isplitl [Hrecv9]; · iexact Hrecv9
    isplitl [Hrecv10]; · iexact Hrecv10
    isplitl [Hrecv11]; · iexact Hrecv11
    iexact Hrecv12
  icases Hx with ⟨HfrW, HfrH⟩
  iapply (load_fr c) $$ HfrW
  iintro HfrW
  iapply (load_w8 c) $$ Hw8
  iintro Hw8
  iapply (store_out1024 m ρ c 2 (a := 1024 * (nxt c).val) (k0_off5_eq c) (k0_off6_eq c) rfl (fun inb x => outC_big m ρ c (nxt c) (nxt_ne_opp c) rfl x)) $$ [Hout2]
  · iexact Hout2
  iintro Hflo2
  iapply (recv m N c 8 (dst := opM.slice (Rect.unit (s := S1024x4096) ![0, 0] S512x4096.size inb_S1024x4096_S512x4096_0_0) (fun _ => rfl)) rfl (Eq.trans rfl (credit_B 8 (by decide)).symm) (mayWait_none c _)) $$ [Hm]
  · isplitr; · iexact Hc
    iexact Hm
  iintro ⟨Hrecv8, Hm⟩
  ihave Hx := ((Entails.of_eq (recvPay_lo m c))) $$ [Hrecv8]
  · iexact Hrecv8
  ihave Hlo := (Entails.of_eq rfl) $$ Hx
  iapply (load_low m c (opp c)) $$ Hlo
  iintro Hlo
  iapply (load_w8 c) $$ Hw8
  iintro Hw8
  rw [wp_ret]; imodintro
  iapply Hk
  isplitl [Hm]; · iexact Hm
  isplitl [HfrH]; · iexact HfrH
  isplitl [HfrW]; · iexact HfrW
  isplitl [Hflo2]; · iexact Hflo2
  isplitl [Hlo]; · iexact Hlo
  iexact Hw8

/-- The opposite device's block row of the result, in two halves; slot 17 received. -/
theorem part18 (c : Dev nD) (v5 : BitVec 32) (v9 : BitVec 32) (v419 : BitVec 32) (h0 : xM.IsWhole) (h1 : wM.IsWhole) (h2 : sxM.IsWhole) (h3 : swM.IsWhole) (h4 : outM.IsWhole) (h5 : xstM.IsWhole) (h6 : wstM.IsWhole) (h7 : ostM.IsWhole) (h8 : ownM.IsWhole) (h9 : flM.IsWhole) (h10 : frM.IsWhole) (h11 : opM.IsWhole) (h12 : w8M.IsWhole)
    {Kt : (PUnit) → sProp 𝕄} :
    iprop(ctx m N ∗ mid m c [] [17, 8, 12, 11, 10, 9, 7, 6, 5, 4, 16, 3, 15, 2, 14, 1, 13, 0] [17] [8, 12, 11, 10, 9, 7, 6, 5, 4, 16, 15, 14, 13, 3, 2, 1, 0] [] ∗ outE512 (F := F) c 3 (1024 * (opp c).val) ∗ w8Pts c (w8C m c) ∗ outE512 (F := F) c 4 (1024 * (opp c).val + 512))
      ⊢ iprop(((mid m c [] [17, 8, 12, 11, 10, 9, 7, 6, 5, 4, 16, 3, 15, 2, 14, 1, 13, 0] [] [17, 8, 12, 11, 10, 9, 7, 6, 5, 4, 16, 15, 14, 13, 3, 2, 1, 0] [] ∗ flo512 m ρ c 3 (1024 * (opp c).val) ∗ opPts c 512 1024 fullShare (ownC m (opp c)) ∗ w8Pts c (w8C m c) ∗ flo512 m ρ c 4 (1024 * (opp c).val + 512)) -∗ Kt (⟨⟩))
        -∗ wp frame (wpE (defs₀ (F := F)) 𝒱₀ (c : Thread nD τ) none) Set.univ (k0_part18 xM h0 wM h1 sxM h2 swM h3 outM h4 xstM h5 wstM h6 ostM h7 ownM h8 flM h9 frM h10 opM h11 w8M h12 cc0_scratch8 cc0_scratch9 cc0_scratch10 cc0_scratch11 c v5 v9 (k0_pay10 (sxv m ρ c) (swv m ρ c)) v419 (k0_pay14 (k0_pay10 (sxv m ρ c) (swv m ρ c)) (lowC m (opp c)) (w8C m c))) Kt) := by
  rw [k0_part18_eq_skeleton]; unfold k0_part18_skel
  simp only [Prog.lift, Prog.bind_op, Prog.bind_ret, Prog.pure_eq_ret, smemLoad, smemLoadElt_bind]
  iintro ⟨#Hc, Hm, Hout3, Hw8, Hout4⟩ Hk
  iapply (store_out512 m ρ c 3 (a := 1024 * (opp c).val) (k0_off7_eq c) (k0_off8_eq c) rfl (fun inb x => outC_low m ρ c rfl x)) $$ [Hout3]
  · iexact Hout3
  iintro Hflo3
  iapply (recv m N c 17 (dst := opM.slice (Rect.unit (s := S1024x4096) ![512, 0] S512x4096.size inb_S1024x4096_S512x4096_512_0) (fun _ => rfl)) rfl (Eq.trans rfl (credit_B 17 (by decide)).symm) (mayWait_none c _)) $$ [Hm]
  · isplitr; · iexact Hc
    iexact Hm
  iintro ⟨Hrecv17, Hm⟩
  ihave Hx := ((Entails.of_eq (recvPay_hi m c))) $$ [Hrecv17]
  · iexact Hrecv17
  ihave Hhi := (Entails.of_eq rfl) $$ Hx
  iapply (load_high m c (opp c)) $$ Hhi
  iintro Hhi
  iapply (load_w8 c) $$ Hw8
  iintro Hw8
  iapply (store_out512 m ρ c 4 (a := 1024 * (opp c).val + 512) (k0_off9_eq c) (k0_off10_eq c) rfl (fun inb x => outC_high m ρ c rfl x)) $$ [Hout4]
  · iexact Hout4
  iintro Hflo4
  rw [wp_ret]; imodintro
  iapply Hk
  isplitl [Hm]; · iexact Hm
  isplitl [Hflo3]; · iexact Hflo3
  isplitl [Hhi]; · iexact Hhi
  isplitl [Hw8]; · iexact Hw8
  iexact Hflo4

end Cert.KernelIdealProof

end
-- ==== Proof.KernelIdeal.Parts5.lean ====
/-
Parts 19 to 22 of the body: completions awaited.
-/
module

public import proofs.«01_k».proof.Proof.KernelIdeal.Pieces
public import Idealize.ShloMosaic.Lib.Exec.Context

@[expose] public section

noncomputable section

namespace Cert.KernelIdealProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

variable (N : Dev nD × CK → ℕ)

/-- Completions awaited: slots 0, 13, 1, 14. -/
theorem part19 (c : Dev nD) (h0 : xM.IsWhole) (h1 : wM.IsWhole) (h2 : sxM.IsWhole) (h3 : swM.IsWhole) (h4 : outM.IsWhole) (h5 : xstM.IsWhole) (h6 : wstM.IsWhole) (h7 : ostM.IsWhole) (h8 : ownM.IsWhole) (h9 : flM.IsWhole) (h10 : frM.IsWhole) (h11 : opM.IsWhole) (h12 : w8M.IsWhole)
    {Kt : (PUnit) → sProp 𝕄} :
    iprop(ctx m N ∗ mid m c [] [0, 13, 1, 14, 2, 15, 3, 16, 4, 5, 6, 7, 9, 10, 11, 12, 8, 17] [] [17, 8, 12, 11, 10, 9, 7, 6, 5, 4, 16, 15, 14, 13, 3, 2, 1, 0] [])
      ⊢ iprop(((mid m c [] [2, 15, 3, 16, 4, 5, 6, 7, 9, 10, 11, 12, 8, 17] [] [17, 8, 12, 11, 10, 9, 7, 6, 5, 4, 16, 15, 14, 13, 3, 2, 1, 0] [14, 1, 13, 0]) -∗ Kt (⟨⟩))
        -∗ wp frame (wpE (defs₀ (F := F)) 𝒱₀ (c : Thread nD τ) none) Set.univ (k0_part19 xM h0 wM h1 sxM h2 swM h3 outM h4 xstM h5 wstM h6 ostM h7 ownM h8 flM h9 frM h10 opM h11 w8M h12 cc0_scratch8 cc0_scratch9 cc0_scratch10 cc0_scratch11) Kt) := by
  rw [k0_part19_eq_skeleton]; unfold k0_part19_skel
  simp only [Prog.lift, Prog.bind_op, Prog.bind_ret, Prog.pure_eq_ret, smemLoad, smemLoadElt_bind]
  iintro ⟨#Hc, Hm⟩ Hk
  iapply (sent m N c 0 (lo := []) (dst := ownM.slice (Rect.unit (s := S1024x4096) ![0, 0] S128x4096.size inb_S1024x4096_S128x4096_0_0) (fun _ => rfl)) rfl (Eq.trans rfl (credit_A 0 (by decide)).symm)) $$ [Hm]
  · isplitr; · iexact Hc
    iexact Hm
  iintro Hm
  iapply (sent m N c 13 (lo := []) (dst := ownM.slice (Rect.unit (s := S1024x4096) ![512, 0] S128x4096.size inb_S1024x4096_S128x4096_512_0) (fun _ => rfl)) rfl (Eq.trans rfl (credit_A 13 (by decide)).symm)) $$ [Hm]
  · isplitr; · iexact Hc
    iexact Hm
  iintro Hm
  iapply (sent m N c 1 (lo := []) (dst := ownM.slice (Rect.unit (s := S1024x4096) ![128, 0] S128x4096.size inb_S1024x4096_S128x4096_128_0) (fun _ => rfl)) rfl (Eq.trans rfl (credit_A 1 (by decide)).symm)) $$ [Hm]
  · isplitr; · iexact Hc
    iexact Hm
  iintro Hm
  iapply (sent m N c 14 (lo := []) (dst := ownM.slice (Rect.unit (s := S1024x4096) ![640, 0] S128x4096.size inb_S1024x4096_S128x4096_640_0) (fun _ => rfl)) rfl (Eq.trans rfl (credit_A 14 (by decide)).symm)) $$ [Hm]
  · isplitr; · iexact Hc
    iexact Hm
  iintro Hm
  rw [wp_ret]; imodintro
  iapply Hk
  iexact Hm

/-- Completions awaited: slots 2, 15, 3, 16. -/
theorem part20 (c : Dev nD) (h0 : xM.IsWhole) (h1 : wM.IsWhole) (h2 : sxM.IsWhole) (h3 : swM.IsWhole) (h4 : outM.IsWhole) (h5 : xstM.IsWhole) (h6 : wstM.IsWhole) (h7 : ostM.IsWhole) (h8 : ownM.IsWhole) (h9 : flM.IsWhole) (h10 : frM.IsWhole) (h11 : opM.IsWhole) (h12 : w8M.IsWhole)
    {Kt : (PUnit) → sProp 𝕄} :
    iprop(ctx m N ∗ mid m c [] [2, 15, 3, 16, 4, 5, 6, 7, 9, 10, 11, 12, 8, 17] [] [17, 8, 12, 11, 10, 9, 7, 6, 5, 4, 16, 15, 14, 13, 3, 2, 1, 0] [14, 1, 13, 0])
      ⊢ iprop(((mid m c [] [4, 5, 6, 7, 9, 10, 11, 12, 8, 17] [] [17, 8, 12, 11, 10, 9, 7, 6, 5, 4, 16, 15, 14, 13, 3, 2, 1, 0] [16, 3, 15, 2, 14, 1, 13, 0]) -∗ Kt (⟨⟩))
        -∗ wp frame (wpE (defs₀ (F := F)) 𝒱₀ (c : Thread nD τ) none) Set.univ (k0_part20 xM h0 wM h1 sxM h2 swM h3 outM h4 xstM h5 wstM h6 ostM h7 ownM h8 flM h9 frM h10 opM h11 w8M h12 cc0_scratch8 cc0_scratch9 cc0_scratch10 cc0_scratch11) Kt) := by
  rw [k0_part20_eq_skeleton]; unfold k0_part20_skel
  simp only [Prog.lift, Prog.bind_op, Prog.bind_ret, Prog.pure_eq_ret, smemLoad, smemLoadElt_bind]
  iintro ⟨#Hc, Hm⟩ Hk
  iapply (sent m N c 2 (lo := []) (dst := ownM.slice (Rect.unit (s := S1024x4096) ![256, 0] S128x4096.size inb_S1024x4096_S128x4096_256_0) (fun _ => rfl)) rfl (Eq.trans rfl (credit_A 2 (by decide)).symm)) $$ [Hm]
  · isplitr; · iexact Hc
    iexact Hm
  iintro Hm
  iapply (sent m N c 15 (lo := []) (dst := ownM.slice (Rect.unit (s := S1024x4096) ![768, 0] S128x4096.size inb_S1024x4096_S128x4096_768_0) (fun _ => rfl)) rfl (Eq.trans rfl (credit_A 15 (by decide)).symm)) $$ [Hm]
  · isplitr; · iexact Hc
    iexact Hm
  iintro Hm
  iapply (sent m N c 3 (lo := []) (dst := ownM.slice (Rect.unit (s := S1024x4096) ![384, 0] S128x4096.size inb_S1024x4096_S128x4096_384_0) (fun _ => rfl)) rfl (Eq.trans rfl (credit_A 3 (by decide)).symm)) $$ [Hm]
  · isplitr; · iexact Hc
    iexact Hm
  iintro Hm
  iapply (sent m N c 16 (lo := []) (dst := ownM.slice (Rect.unit (s := S1024x4096) ![896, 0] S128x4096.size inb_S1024x4096_S128x4096_896_0) (fun _ => rfl)) rfl (Eq.trans rfl (credit_A 16 (by decide)).symm)) $$ [Hm]
  · isplitr; · iexact Hc
    iexact Hm
  iintro Hm
  rw [wp_ret]; imodintro
  iapply Hk
  iexact Hm

/-- Completions awaited: slots 4, 5, 6, 7. -/
theorem part21 (c : Dev nD) (h0 : xM.IsWhole) (h1 : wM.IsWhole) (h2 : sxM.IsWhole) (h3 : swM.IsWhole) (h4 : outM.IsWhole) (h5 : xstM.IsWhole) (h6 : wstM.IsWhole) (h7 : ostM.IsWhole) (h8 : ownM.IsWhole) (h9 : flM.IsWhole) (h10 : frM.IsWhole) (h11 : opM.IsWhole) (h12 : w8M.IsWhole)
    {Kt : (PUnit) → sProp 𝕄} :
    iprop(ctx m N ∗ mid m c [] [4, 5, 6, 7, 9, 10, 11, 12, 8, 17] [] [17, 8, 12, 11, 10, 9, 7, 6, 5, 4, 16, 15, 14, 13, 3, 2, 1, 0] [16, 3, 15, 2, 14, 1, 13, 0])
      ⊢ iprop(((mid m c [] [9, 10, 11, 12, 8, 17] [] [17, 8, 12, 11, 10, 9, 7, 6, 5, 4, 16, 15, 14, 13, 3, 2, 1, 0] [7, 6, 5, 4, 16, 3, 15, 2, 14, 1, 13, 0]) -∗ Kt (⟨⟩))
        -∗ wp frame (wpE (defs₀ (F := F)) 𝒱₀ (c : Thread nD τ) none) Set.univ (k0_part21 xM h0 wM h1 sxM h2 swM h3 outM h4 xstM h5 wstM h6 ostM h7 ownM h8 flM h9 frM h10 opM h11 w8M h12 cc0_scratch8 cc0_scratch9 cc0_scratch10 cc0_scratch11) Kt) := by
  rw [k0_part21_eq_skeleton]; unfold k0_part21_skel
  simp only [Prog.lift, Prog.bind_op, Prog.bind_ret, Prog.pure_eq_ret, smemLoad, smemLoadElt_bind]
  iintro ⟨#Hc, Hm⟩ Hk
  iapply (sent m N c 4 (lo := []) (dst := ownM.slice (Rect.unit (s := S1024x4096) ![512, 0] S128x4096.size inb_S1024x4096_S128x4096_512_0) (fun _ => rfl)) rfl (Eq.trans rfl (credit_A 4 (by decide)).symm)) $$ [Hm]
  · isplitr; · iexact Hc
    iexact Hm
  iintro Hm
  iapply (sent m N c 5 (lo := []) (dst := ownM.slice (Rect.unit (s := S1024x4096) ![640, 0] S128x4096.size inb_S1024x4096_S128x4096_640_0) (fun _ => rfl)) rfl (Eq.trans rfl (credit_A 5 (by decide)).symm)) $$ [Hm]
  · isplitr; · iexact Hc
    iexact Hm
  iintro Hm
  iapply (sent m N c 6 (lo := []) (dst := ownM.slice (Rect.unit (s := S1024x4096) ![768, 0] S128x4096.size inb_S1024x4096_S128x4096_768_0) (fun _ => rfl)) rfl (Eq.trans rfl (credit_A 6 (by decide)).symm)) $$ [Hm]
  · isplitr; · iexact Hc
    iexact Hm
  iintro Hm
  iapply (sent m N c 7 (lo := []) (dst := ownM.slice (Rect.unit (s := S1024x4096) ![896, 0] S128x4096.size inb_S1024x4096_S128x4096_896_0) (fun _ => rfl)) rfl (Eq.trans rfl (credit_A 7 (by decide)).symm)) $$ [Hm]
  · isplitr; · iexact Hc
    iexact Hm
  iintro Hm
  rw [wp_ret]; imodintro
  iapply Hk
  iexact Hm

/-- Completions awaited: slots 9, 10, 11, 12, 8. -/
theorem part22 (c : Dev nD) (h0 : xM.IsWhole) (h1 : wM.IsWhole) (h2 : sxM.IsWhole) (h3 : swM.IsWhole) (h4 : outM.IsWhole) (h5 : xstM.IsWhole) (h6 : wstM.IsWhole) (h7 : ostM.IsWhole) (h8 : ownM.IsWhole) (h9 : flM.IsWhole) (h10 : frM.IsWhole) (h11 : opM.IsWhole) (h12 : w8M.IsWhole)
    {Kt : (PUnit) → sProp 𝕄} :
    iprop(ctx m N ∗ mid m c [] [9, 10, 11, 12, 8, 17] [] [17, 8, 12, 11, 10, 9, 7, 6, 5, 4, 16, 15, 14, 13, 3, 2, 1, 0] [7, 6, 5, 4, 16, 3, 15, 2, 14, 1, 13, 0])
      ⊢ iprop(((mid m c [] [17] [] [17, 8, 12, 11, 10, 9, 7, 6, 5, 4, 16, 15, 14, 13, 3, 2, 1, 0] [8, 12, 11, 10, 9, 7, 6, 5, 4, 16, 3, 15, 2, 14, 1, 13, 0]) -∗ Kt (⟨⟩))
        -∗ wp frame (wpE (defs₀ (F := F)) 𝒱₀ (c : Thread nD τ) none) Set.univ (k0_part22 xM h0 wM h1 sxM h2 swM h3 outM h4 xstM h5 wstM h6 ostM h7 ownM h8 flM h9 frM h10 opM h11 w8M h12 cc0_scratch8 cc0_scratch9 cc0_scratch10 cc0_scratch11) Kt) := by
  rw [k0_part22_eq_skeleton]; unfold k0_part22_skel
  simp only [Prog.lift, Prog.bind_op, Prog.bind_ret, Prog.pure_eq_ret, smemLoad, smemLoadElt_bind]
  iintro ⟨#Hc, Hm⟩ Hk
  iapply (sent m N c 9 (lo := []) (dst := ownM.slice (Rect.unit (s := S1024x4096) ![0, 0] S128x4096.size inb_S1024x4096_S128x4096_0_0) (fun _ => rfl)) rfl (Eq.trans rfl (credit_A 9 (by decide)).symm)) $$ [Hm]
  · isplitr; · iexact Hc
    iexact Hm
  iintro Hm
  iapply (sent m N c 10 (lo := []) (dst := ownM.slice (Rect.unit (s := S1024x4096) ![128, 0] S128x4096.size inb_S1024x4096_S128x4096_128_0) (fun _ => rfl)) rfl (Eq.trans rfl (credit_A 10 (by decide)).symm)) $$ [Hm]
  · isplitr; · iexact Hc
    iexact Hm
  iintro Hm
  iapply (sent m N c 11 (lo := []) (dst := ownM.slice (Rect.unit (s := S1024x4096) ![256, 0] S128x4096.size inb_S1024x4096_S128x4096_256_0) (fun _ => rfl)) rfl (Eq.trans rfl (credit_A 11 (by decide)).symm)) $$ [Hm]
  · isplitr; · iexact Hc
    iexact Hm
  iintro Hm
  iapply (sent m N c 12 (lo := []) (dst := ownM.slice (Rect.unit (s := S1024x4096) ![384, 0] S128x4096.size inb_S1024x4096_S128x4096_384_0) (fun _ => rfl)) rfl (Eq.trans rfl (credit_A 12 (by decide)).symm)) $$ [Hm]
  · isplitr; · iexact Hc
    iexact Hm
  iintro Hm
  iapply (sent m N c 8 (lo := []) (dst := flM.slice (Rect.unit (s := S1024x4096) ![0, 0] S512x4096.size inb_S1024x4096_S512x4096_0_0) (fun _ => rfl)) rfl (Eq.trans rfl (credit_B 8 (by decide)).symm)) $$ [Hm]
  · isplitr; · iexact Hc
    iexact Hm
  iintro Hm
  rw [wp_ret]; imodintro
  iapply Hk
  iexact Hm

end Cert.KernelIdealProof

end
-- ==== Proof.KernelIdeal.Body.lean ====
/-
The body, from its parts.
-/
module

public import proofs.«01_k».proof.Proof.KernelIdeal.Parts0
public import proofs.«01_k».proof.Proof.KernelIdeal.Mid
public import proofs.«01_k».proof.Proof.KernelIdeal.Parts1
public import proofs.«01_k».proof.Proof.KernelIdeal.Parts2
public import proofs.«01_k».proof.Proof.KernelIdeal.Parts2b
public import proofs.«01_k».proof.Proof.KernelIdeal.Parts3
public import proofs.«01_k».proof.Proof.KernelIdeal.Parts4
public import proofs.«01_k».proof.Proof.KernelIdeal.Parts5

@[expose] public section

noncomputable section

namespace Cert.KernelIdealProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

variable (N : Dev nD × CK → ℕ)

/-- The whole body but its last two waits. -/
theorem part23 (c : Dev nD) (h0 : xM.IsWhole) (h1 : wM.IsWhole) (h2 : sxM.IsWhole) (h3 : swM.IsWhole) (h4 : outM.IsWhole) (h5 : xstM.IsWhole) (h6 : wstM.IsWhole) (h7 : ostM.IsWhole) (h8 : ownM.IsWhole) (h9 : flM.IsWhole) (h10 : frM.IsWhole) (h11 : opM.IsWhole) (h12 : w8M.IsWhole)
    {Kt : (Dev nD) → sProp 𝕄} :
    iprop(ctx m N ∗ owesE (F := F) c (O₀ c) ∗ dutyTok ER (barCell (prv c)) 0 false ∗ dutyTok ER (barCell (nxt c)) 0 true ∗ barPay (F := F) (prv c) false ∗ barPay (F := F) (nxt c) true ∗ atPos ER (barCell c) 0 ∅ 0 ∗ cred (tallyAt (barCell c) () 2) ∗ seqL (sendTok (F := F) c) order ∗ seqL (recvRes (F := F) c) rorder ∗ ldE m c 0 ∗ ldE m c 1 ∗ ldE m c 2 ∗ ldE m c 3 ∗ ldE m c 4 ∗ ldE m c 5 ∗ ldE m c 6 ∗ ldE m c 7 ∗ ownE (F := F) c 0 ∗ ownE (F := F) c 1 ∗ ownE (F := F) c 2 ∗ ownE (F := F) c 3 ∗ ownE (F := F) c 4 ∗ ownE (F := F) c 5 ∗ ownE (F := F) c 6 ∗ ownE (F := F) c 7 ∗ ldwE m c ∗ w8Any (F := F) c ∗ sxPts m ρ c ∗ swPts m ρ c ∗ outE1024 (F := F) c 0 (1024 * c.val) ∗ outE1024 (F := F) c 1 (1024 * (prv c).val) ∗ outE1024 (F := F) c 2 (1024 * (nxt c).val) ∗ outE512 (F := F) c 3 (1024 * (opp c).val) ∗ outE512 (F := F) c 4 (1024 * (opp c).val + 512))
      ⊢ iprop(((mid m c [] [] [] [17, 8, 12, 11, 10, 9, 7, 6, 5, 4, 16, 15, 14, 13, 3, 2, 1, 0] [17, 8, 12, 11, 10, 9, 7, 6, 5, 4, 16, 3, 15, 2, 14, 1, 13, 0] ∗ semVal (barCell c) 0 ∗ ldD m c 0 ∗ ldD m c 4 ∗ ldD m c 1 ∗ ldD m c 5 ∗ ldD m c 2 ∗ ldD m c 6 ∗ ldD m c 3 ∗ ldD m c 7 ∗ ldwD m c ∗ sxPts m ρ c ∗ swPts m ρ c ∗ ownPts c 0 1024 shK (ownC m c) ∗ flPts c 512 1024 fullShare.left (ownC m (prv c)) ∗ flPts c 0 1024 fullShare.right (ownC m (prv c)) ∗ frPts c 0 512 fullShare.left (ownC m (nxt c)) ∗ frPts c 0 1024 fullShare.right (ownC m (nxt c)) ∗ opPts c 0 512 fullShare (ownC m (opp c)) ∗ flo512 m ρ c 3 (1024 * (opp c).val) ∗ opPts c 512 1024 fullShare (ownC m (opp c)) ∗ w8Pts c (w8C m c) ∗ flo512 m ρ c 4 (1024 * (opp c).val + 512) ∗ outD1024 m ρ c 0 (1024 * c.val) ∗ outD1024 m ρ c 1 (1024 * (prv c).val) ∗ outD1024 m ρ c 2 (1024 * (nxt c).val)) -∗ Kt c)
        -∗ wp frame (wpE (defs₀ (F := F)) 𝒱₀ (c : Thread nD τ) none) Set.univ (k0_part23 xM h0 wM h1 sxM h2 swM h3 outM h4 xstM h5 wstM h6 ostM h7 ownM h8 flM h9 frM h10 opM h11 w8M h12 cc0_scratch8 cc0_scratch9 cc0_scratch10 cc0_scratch11) Kt) := by
  rw [k0_part23_eq_skeleton]; unfold k0_part23_skel
  iintro ⟨#Hc, Howes0, HtokP, HtokN, HpayP, HpayN, Hbarat, Hbarcred, Hsends, Hrecvs, HldE0, HldE1, HldE2, HldE3, HldE4, HldE5, HldE6, HldE7, HownE0, HownE1, HownE2, HownE3, HownE4, HownE5, HownE6, HownE7, HldwE, Hw8E, Hsx, Hsw, Hout0, Hout1, Hout2, Hout3, Hout4⟩ Hk
  rw [wp_bind]
  iapply (part1 m N c h0 h1 h2 h3 h4 h5 h6 h7 h8 h9 h10 h11 h12) $$ [Howes0 HtokP HtokN HpayP HpayN HldE0 HldE1]
  · isplitr; · iexact Hc
    isplitl [Howes0]; · iexact Howes0
    isplitl [HtokP]; · iexact HtokP
    isplitl [HtokN]; · iexact HtokN
    isplitl [HpayP]; · iexact HpayP
    isplitl [HpayN]; · iexact HpayN
    isplitl [HldE0]; · iexact HldE0
    iexact HldE1
  iintro %v2 %v5 %v7 %v9 ⟨Howes1, Hflx0, Hflx1⟩
  rw [wp_bind]
  iapply (part2 m N c h0 h1 h2 h3 h4 h5 h6 h7 h8 h9 h10 h11 h12) $$ [Howes1 Hbarat Hbarcred HldE2 HldE3 HldE4 HldE5 HldE6 HldE7 HldwE]
  · isplitr; · iexact Hc
    isplitl [Howes1]; · iexact Howes1
    isplitl [Hbarat]; · iexact Hbarat
    isplitl [Hbarcred]; · iexact Hbarcred
    isplitl [HldE2]; · iexact HldE2
    isplitl [HldE3]; · iexact HldE3
    isplitl [HldE4]; · iexact HldE4
    isplitl [HldE5]; · iexact HldE5
    isplitl [HldE6]; · iexact HldE6
    isplitl [HldE7]; · iexact HldE7
    iexact HldwE
  iintro ⟨Howes1, Hpay0, Hpay1, Hbarz, Hflx2, Hflx3, Hflx4, Hflx5, Hflx6, Hflx7, Hflw⟩
  ihave Hm := (mid_intro m c) $$ [Howes1 Hpay0 Hpay1 Hsends Hrecvs]
  · isplitl [Howes1]; · iexact Howes1
    isplitl [Hpay0]; · iexact Hpay0
    isplitl [Hpay1]; · iexact Hpay1
    isplitl [Hsends]; · iexact Hsends
    iexact Hrecvs
  rw [wp_bind]
  iapply (part3 m N c _ h0 h1 h2 h3 h4 h5 h6 h7 h8 h9 h10 h11 h12) $$ [Hm Hflx0 HownE0 Hflx4 HownE4]
  · isplitr; · iexact Hc
    isplitl [Hm]; · iexact Hm
    isplitl [Hflx0]; · iexact Hflx0
    isplitl [HownE0]; · iexact HownE0
    isplitl [Hflx4]; · iexact Hflx4
    iexact HownE4
  iintro ⟨Hm, HldD0, Hown10, HownK0, HldD4, Hown04, Hown14, HownK4⟩
  rw [wp_bind]
  iapply (part4 m N c _ _ h0 h1 h2 h3 h4 h5 h6 h7 h8 h9 h10 h11 h12) $$ [Hm Hown14 Hflx1 HownE1]
  · isplitr; · iexact Hc
    isplitl [Hm]; · iexact Hm
    isplitl [Hown14]; · iexact Hown14
    isplitl [Hflx1]; · iexact Hflx1
    iexact HownE1
  iintro ⟨Hm, HldD1, Hown11, HownK1⟩
  rw [wp_bind]
  iapply (part5 m N c _ h0 h1 h2 h3 h4 h5 h6 h7 h8 h9 h10 h11 h12) $$ [Hm Hflx5 HownE5 Hflx2 HownE2]
  · isplitr; · iexact Hc
    isplitl [Hm]; · iexact Hm
    isplitl [Hflx5]; · iexact Hflx5
    isplitl [HownE5]; · iexact HownE5
    isplitl [Hflx2]; · iexact Hflx2
    iexact HownE2
  iintro ⟨Hm, HldD5, Hown05, HownK5, HldD2, Hown02, Hown12, HownK2⟩
  rw [wp_bind]
  iapply (part6 m N c _ _ h0 h1 h2 h3 h4 h5 h6 h7 h8 h9 h10 h11 h12) $$ [Hm Hown02 Hflx6 HownE6]
  · isplitr; · iexact Hc
    isplitl [Hm]; · iexact Hm
    isplitl [Hown02]; · iexact Hown02
    isplitl [Hflx6]; · iexact Hflx6
    iexact HownE6
  iintro ⟨Hm, HldD6, Hown06, HownK6⟩
  rw [wp_bind]
  iapply (part7 m N c _ _ h0 h1 h2 h3 h4 h5 h6 h7 h8 h9 h10 h11 h12) $$ [Hm Hflx3 HownE3 Hflx7 HownE7]
  · isplitr; · iexact Hc
    isplitl [Hm]; · iexact Hm
    isplitl [Hflx3]; · iexact Hflx3
    isplitl [HownE3]; · iexact HownE3
    isplitl [Hflx7]; · iexact Hflx7
    iexact HownE7
  iintro %w ⟨Hm, HldD3, Hown13, HownK3, HldD7, Hown07, Hown17, HownK7⟩
  rw [wp_bind]
  iapply (part8 m N c _ _ _ h0 h1 h2 h3 h4 h5 h6 h7 h8 h9 h10 h11 h12) $$ [Hm Hown17 Hown04 Hown05]
  · isplitr; · iexact Hc
    isplitl [Hm]; · iexact Hm
    isplitl [Hown17]; · iexact Hown17
    isplitl [Hown04]; · iexact Hown04
    iexact Hown05
  iintro Hm
  rw [wp_bind]
  iapply (part9 m N c _ _ h0 h1 h2 h3 h4 h5 h6 h7 h8 h9 h10 h11 h12) $$ [Hm Hown06 Hown07 Hown10]
  · isplitr; · iexact Hc
    isplitl [Hm]; · iexact Hm
    isplitl [Hown06]; · iexact Hown06
    isplitl [Hown07]; · iexact Hown07
    iexact Hown10
  iintro Hm
  rw [wp_bind]
  iapply (part10 m ρ N c _ h0 h1 h2 h3 h4 h5 h6 h7 h8 h9 h10 h11 h12) $$ [Hm Hown11 Hown12 Hown13 Hflw Hw8E Hsx]
  · isplitr; · iexact Hc
    isplitl [Hm]; · iexact Hm
    isplitl [Hown11]; · iexact Hown11
    isplitl [Hown12]; · iexact Hown12
    isplitl [Hown13]; · iexact Hown13
    isplitl [Hflw]; · iexact Hflw
    isplitl [Hw8E]; · iexact Hw8E
    iexact Hsx
  iintro ⟨Hm, HldwD, Hw8, Hsx⟩
  rw [wp_bind]
  iapply (part11 m ρ N c _ _ h0 h1 h2 h3 h4 h5 h6 h7 h8 h9 h10 h11 h12) $$ [Hm HownK0 HownK1 HownK2 HownK3 HownK4 HownK5 HownK6 HownK7 Hsw Hw8 Hout0]
  · isplitr; · iexact Hc
    isplitl [Hm]; · iexact Hm
    isplitl [HownK0]; · iexact HownK0
    isplitl [HownK1]; · iexact HownK1
    isplitl [HownK2]; · iexact HownK2
    isplitl [HownK3]; · iexact HownK3
    isplitl [HownK4]; · iexact HownK4
    isplitl [HownK5]; · iexact HownK5
    isplitl [HownK6]; · iexact HownK6
    isplitl [HownK7]; · iexact HownK7
    isplitl [Hsw]; · iexact Hsw
    isplitl [Hw8]; · iexact Hw8
    iexact Hout0
  iintro ⟨Hm, Hsw, HownW, Hw8, Hflo0, Hrecv0⟩
  rw [wp_bind]
  iapply (part12 m N c _ h0 h1 h2 h3 h4 h5 h6 h7 h8 h9 h10 h11 h12) $$ [Hm Hrecv0]
  · isplitr; · iexact Hc
    isplitl [Hm]; · iexact Hm
    iexact Hrecv0
  iintro ⟨Hm, HflR⟩
  rw [wp_bind]
  iapply (part13 m N c _ h0 h1 h2 h3 h4 h5 h6 h7 h8 h9 h10 h11 h12) $$ [Hm]
  · isplitr; · iexact Hc
    iexact Hm
  iintro ⟨Hm, Hrecv13, Hrecv14, Hrecv15⟩
  rw [wp_bind]
  iapply (part14 m N c _ _ h0 h1 h2 h3 h4 h5 h6 h7 h8 h9 h10 h11 h12) $$ [Hm Hrecv13 Hrecv14 Hrecv15]
  · isplitr; · iexact Hc
    isplitl [Hm]; · iexact Hm
    isplitl [Hrecv13]; · iexact Hrecv13
    isplitl [Hrecv14]; · iexact Hrecv14
    iexact Hrecv15
  iintro ⟨Hm, HfrR, Hrecv4, Hrecv5⟩
  rw [wp_bind]
  iapply (part15 m ρ N c _ _ h0 h1 h2 h3 h4 h5 h6 h7 h8 h9 h10 h11 h12) $$ [Hm HflR Hrecv4 Hrecv5 Hw8 Hout1]
  · isplitr; · iexact Hc
    isplitl [Hm]; · iexact Hm
    isplitl [HflR]; · iexact HflR
    isplitl [Hrecv4]; · iexact Hrecv4
    isplitl [Hrecv5]; · iexact Hrecv5
    isplitl [Hw8]; · iexact Hw8
    iexact Hout1
  iintro ⟨Hm, HflH, HflW, Hw8, Hflo1⟩
  rw [wp_bind]
  iapply (part16 m N c _ h0 h1 h2 h3 h4 h5 h6 h7 h8 h9 h10 h11 h12) $$ [Hm]
  · isplitr; · iexact Hc
    iexact Hm
  iintro ⟨Hm, Hrecv9, Hrecv10, Hrecv11⟩
  rw [wp_bind]
  iapply (part17 m ρ N c _ _ h0 h1 h2 h3 h4 h5 h6 h7 h8 h9 h10 h11 h12) $$ [Hm HfrR Hrecv9 Hrecv10 Hrecv11 Hw8 Hout2]
  · isplitr; · iexact Hc
    isplitl [Hm]; · iexact Hm
    isplitl [HfrR]; · iexact HfrR
    isplitl [Hrecv9]; · iexact Hrecv9
    isplitl [Hrecv10]; · iexact Hrecv10
    isplitl [Hrecv11]; · iexact Hrecv11
    isplitl [Hw8]; · iexact Hw8
    iexact Hout2
  iintro %w ⟨Hm, HfrH, HfrW, Hflo2, Hlo, Hw8⟩
  rw [wp_bind]
  iapply (part18 m ρ N c _ _ _ h0 h1 h2 h3 h4 h5 h6 h7 h8 h9 h10 h11 h12) $$ [Hm Hout3 Hw8 Hout4]
  · isplitr; · iexact Hc
    isplitl [Hm]; · iexact Hm
    isplitl [Hout3]; · iexact Hout3
    isplitl [Hw8]; · iexact Hw8
    iexact Hout4
  iintro ⟨Hm, Hflo3, Hhi, Hw8, Hflo4⟩
  ihave Hm := (mid_reorder m c _ _) $$ Hm
  rw [wp_bind]
  iapply (part19 m N c h0 h1 h2 h3 h4 h5 h6 h7 h8 h9 h10 h11 h12) $$ [Hm]
  · isplitr; · iexact Hc
    iexact Hm
  iintro Hm
  rw [wp_bind]
  iapply (part20 m N c h0 h1 h2 h3 h4 h5 h6 h7 h8 h9 h10 h11 h12) $$ [Hm]
  · isplitr; · iexact Hc
    iexact Hm
  iintro Hm
  rw [wp_bind]
  iapply (part21 m N c h0 h1 h2 h3 h4 h5 h6 h7 h8 h9 h10 h11 h12) $$ [Hm]
  · isplitr; · iexact Hc
    iexact Hm
  iintro Hm
  rw [wp_bind]
  iapply (part22 m N c h0 h1 h2 h3 h4 h5 h6 h7 h8 h9 h10 h11 h12) $$ [Hm]
  · isplitr; · iexact Hc
    iexact Hm
  iintro Hm
  simp only [Prog.lift, Prog.bind_op, Prog.bind_ret, Prog.pure_eq_ret]
  iapply (sent m N c 17 (lo := []) (dst := frM.slice (Rect.unit (s := S1024x4096) ![512, 0] S512x4096.size inb_S1024x4096_S512x4096_512_0) (fun _ => rfl)) rfl (Eq.trans rfl (credit_B 17 (by decide)).symm)) $$ [Hm]
  · isplitr; · iexact Hc
    iexact Hm
  iintro Hm
  ihave Hflo0 := (Entails.of_eq (flo1024_eq m ρ c 0 (1024 * c.val))) $$ Hflo0
  iapply (wait_local m N c (dst := outM.slice (Rect.unit (s := S4096x512) (k0_off2 c) S1024x512.size (k0_off2_inb c)) (fun _ => rfl)) (Nn := NO1024) rfl (lv_store 0)) $$ [Hflo0 Hm]
  · isplitr; · iexact Hc
    isplitl [Hflo0]; · iexact Hflo0
    iexact Hm
  iintro ⟨HD, Hv, Hm⟩
  ihave HoutD0 := (outD1024_intro m ρ c 0 (1024 * c.val)) $$ [HD Hv]
  · isplitl [HD]; · iexact HD
    iexact Hv
  ihave Hflo1 := (Entails.of_eq (flo1024_eq m ρ c 1 (1024 * (prv c).val))) $$ Hflo1
  iapply (wait_local m N c (dst := outM.slice (Rect.unit (s := S4096x512) (k0_off4 c) S1024x512.size (k0_off4_inb c)) (fun _ => rfl)) (Nn := NO1024) rfl (lv_store 1)) $$ [Hflo1 Hm]
  · isplitr; · iexact Hc
    isplitl [Hflo1]; · iexact Hflo1
    iexact Hm
  iintro ⟨HD, Hv, Hm⟩
  ihave HoutD1 := (outD1024_intro m ρ c 1 (1024 * (prv c).val)) $$ [HD Hv]
  · isplitl [HD]; · iexact HD
    iexact Hv
  ihave Hflo2 := (Entails.of_eq (flo1024_eq m ρ c 2 (1024 * (nxt c).val))) $$ Hflo2
  iapply (wait_local m N c (dst := outM.slice (Rect.unit (s := S4096x512) (k0_off6 c) S1024x512.size (k0_off6_inb c)) (fun _ => rfl)) (Nn := NO1024) rfl (lv_store 2)) $$ [Hflo2 Hm]
  · isplitr; · iexact Hc
    isplitl [Hflo2]; · iexact Hflo2
    iexact Hm
  iintro ⟨HD, Hv, Hm⟩
  ihave HoutD2 := (outD1024_intro m ρ c 2 (1024 * (nxt c).val)) $$ [HD Hv]
  · isplitl [HD]; · iexact HD
    iexact Hv
  rw [wp_ret]; imodintro
  iapply Hk
  isplitl [Hm]; · iexact Hm
  isplitl [Hbarz]; · iexact Hbarz
  isplitl [HldD0]; · iexact HldD0
  isplitl [HldD4]; · iexact HldD4
  isplitl [HldD1]; · iexact HldD1
  isplitl [HldD5]; · iexact HldD5
  isplitl [HldD2]; · iexact HldD2
  isplitl [HldD6]; · iexact HldD6
  isplitl [HldD3]; · iexact HldD3
  isplitl [HldD7]; · iexact HldD7
  isplitl [HldwD]; · iexact HldwD
  isplitl [Hsx]; · iexact Hsx
  isplitl [Hsw]; · iexact Hsw
  isplitl [HownW]; · iexact HownW
  isplitl [HflH]; · iexact HflH
  isplitl [HflW]; · iexact HflW
  isplitl [HfrH]; · iexact HfrH
  isplitl [HfrW]; · iexact HfrW
  isplitl [Hlo]; · iexact Hlo
  isplitl [Hflo3]; · iexact Hflo3
  isplitl [Hhi]; · iexact Hhi
  isplitl [Hw8]; · iexact Hw8
  isplitl [Hflo4]; · iexact Hflo4
  isplitl [HoutD0]; · iexact HoutD0
  isplitl [HoutD1]; · iexact HoutD1
  iexact HoutD2

/-- The whole body. -/
theorem body (c : Dev nD) (h0 : xM.IsWhole) (h1 : wM.IsWhole) (h2 : sxM.IsWhole) (h3 : swM.IsWhole) (h4 : outM.IsWhole) (h5 : xstM.IsWhole) (h6 : wstM.IsWhole) (h7 : ostM.IsWhole) (h8 : ownM.IsWhole) (h9 : flM.IsWhole) (h10 : frM.IsWhole) (h11 : opM.IsWhole) (h12 : w8M.IsWhole)
    {Kt : PUnit → sProp 𝕄} :
    iprop(ctx m N ∗ owesE (F := F) c (O₀ c) ∗ dutyTok ER (barCell (prv c)) 0 false ∗ dutyTok ER (barCell (nxt c)) 0 true ∗ barPay (F := F) (prv c) false ∗ barPay (F := F) (nxt c) true ∗ atPos ER (barCell c) 0 ∅ 0 ∗ cred (tallyAt (barCell c) () 2) ∗ seqL (sendTok (F := F) c) order ∗ seqL (recvRes (F := F) c) rorder ∗ ldE m c 0 ∗ ldE m c 1 ∗ ldE m c 2 ∗ ldE m c 3 ∗ ldE m c 4 ∗ ldE m c 5 ∗ ldE m c 6 ∗ ldE m c 7 ∗ ownE (F := F) c 0 ∗ ownE (F := F) c 1 ∗ ownE (F := F) c 2 ∗ ownE (F := F) c 3 ∗ ownE (F := F) c 4 ∗ ownE (F := F) c 5 ∗ ownE (F := F) c 6 ∗ ownE (F := F) c 7 ∗ ldwE m c ∗ w8Any (F := F) c ∗ sxPts m ρ c ∗ swPts m ρ c ∗ outE1024 (F := F) c 0 (1024 * c.val) ∗ outE1024 (F := F) c 1 (1024 * (prv c).val) ∗ outE1024 (F := F) c 2 (1024 * (nxt c).val) ∗ outE512 (F := F) c 3 (1024 * (opp c).val) ∗ outE512 (F := F) c 4 (1024 * (opp c).val + 512))
      ⊢ iprop(((mid m c [] [] [] [17, 8, 12, 11, 10, 9, 7, 6, 5, 4, 16, 15, 14, 13, 3, 2, 1, 0] [17, 8, 12, 11, 10, 9, 7, 6, 5, 4, 16, 3, 15, 2, 14, 1, 13, 0] ∗ semVal (barCell c) 0 ∗ ldD m c 0 ∗ ldD m c 4 ∗ ldD m c 1 ∗ ldD m c 5 ∗ ldD m c 2 ∗ ldD m c 6 ∗ ldD m c 3 ∗ ldD m c 7 ∗ ldwD m c ∗ sxPts m ρ c ∗ swPts m ρ c ∗ ownPts c 0 1024 shK (ownC m c) ∗ flPts c 512 1024 fullShare.left (ownC m (prv c)) ∗ flPts c 0 1024 fullShare.right (ownC m (prv c)) ∗ frPts c 0 512 fullShare.left (ownC m (nxt c)) ∗ frPts c 0 1024 fullShare.right (ownC m (nxt c)) ∗ opPts c 0 512 fullShare (ownC m (opp c)) ∗ opPts c 512 1024 fullShare (ownC m (opp c)) ∗ w8Pts c (w8C m c) ∗ outD1024 m ρ c 0 (1024 * c.val) ∗ outD1024 m ρ c 1 (1024 * (prv c).val) ∗ outD1024 m ρ c 2 (1024 * (nxt c).val) ∗ outD512 m ρ c 3 (1024 * (opp c).val) ∗ outD512 m ρ c 4 (1024 * (opp c).val + 512)) -∗ Kt ⟨⟩)
        -∗ wp frame (wpE (defs₀ (F := F)) 𝒱₀ (c : Thread nD τ) none) Set.univ (cc0_body xM h0 wM h1 sxM h2 swM h3 outM h4 xstM h5 wstM h6 ostM h7 ownM h8 flM h9 frM h10 opM h11 w8M h12 cc0_scratch8 cc0_scratch9 cc0_scratch10 cc0_scratch11) Kt) := by
  rw [cc0_body_eq_skeleton]; unfold cc0_body_skel
  iintro ⟨#Hc, Howes0, HtokP, HtokN, HpayP, HpayN, Hbarat, Hbarcred, Hsends, Hrecvs, HldE0, HldE1, HldE2, HldE3, HldE4, HldE5, HldE6, HldE7, HownE0, HownE1, HownE2, HownE3, HownE4, HownE5, HownE6, HownE7, HldwE, Hw8E, Hsx, Hsw, Hout0, Hout1, Hout2, Hout3, Hout4⟩ Hk
  rw [wp_bind]
  iapply (part23 m ρ N c h0 h1 h2 h3 h4 h5 h6 h7 h8 h9 h10 h11 h12) $$ [Howes0 HtokP HtokN HpayP HpayN Hbarat Hbarcred Hsends Hrecvs HldE0 HldE1 HldE2 HldE3 HldE4 HldE5 HldE6 HldE7 HownE0 HownE1 HownE2 HownE3 HownE4 HownE5 HownE6 HownE7 HldwE Hw8E Hsx Hsw Hout0 Hout1 Hout2 Hout3 Hout4]
  · isplitr; · iexact Hc
    isplitl [Howes0]; · iexact Howes0
    isplitl [HtokP]; · iexact HtokP
    isplitl [HtokN]; · iexact HtokN
    isplitl [HpayP]; · iexact HpayP
    isplitl [HpayN]; · iexact HpayN
    isplitl [Hbarat]; · iexact Hbarat
    isplitl [Hbarcred]; · iexact Hbarcred
    isplitl [Hsends]; · iexact Hsends
    isplitl [Hrecvs]; · iexact Hrecvs
    isplitl [HldE0]; · iexact HldE0
    isplitl [HldE1]; · iexact HldE1
    isplitl [HldE2]; · iexact HldE2
    isplitl [HldE3]; · iexact HldE3
    isplitl [HldE4]; · iexact HldE4
    isplitl [HldE5]; · iexact HldE5
    isplitl [HldE6]; · iexact HldE6
    isplitl [HldE7]; · iexact HldE7
    isplitl [HownE0]; · iexact HownE0
    isplitl [HownE1]; · iexact HownE1
    isplitl [HownE2]; · iexact HownE2
    isplitl [HownE3]; · iexact HownE3
    isplitl [HownE4]; · iexact HownE4
    isplitl [HownE5]; · iexact HownE5
    isplitl [HownE6]; · iexact HownE6
    isplitl [HownE7]; · iexact HownE7
    isplitl [HldwE]; · iexact HldwE
    isplitl [Hw8E]; · iexact Hw8E
    isplitl [Hsx]; · iexact Hsx
    isplitl [Hsw]; · iexact Hsw
    isplitl [Hout0]; · iexact Hout0
    isplitl [Hout1]; · iexact Hout1
    isplitl [Hout2]; · iexact Hout2
    isplitl [Hout3]; · iexact Hout3
    iexact Hout4
  iintro ⟨Hm, Hbarz, HldD0, HldD4, HldD1, HldD5, HldD2, HldD6, HldD3, HldD7, HldwD, Hsx, Hsw, HownW, HflH, HflW, HfrH, HfrW, Hlo, Hflo3, Hhi, Hw8, Hflo4, HoutD0, HoutD1, HoutD2⟩
  simp only [Prog.lift, Prog.bind_op, Prog.bind_ret, Prog.pure_eq_ret]
  ihave Hflo3 := (Entails.of_eq (flo512_eq m ρ c 3 (1024 * (opp c).val))) $$ Hflo3
  iapply (wait_local m N c (dst := outM.slice (Rect.unit (s := S4096x512) (k0_off8 c) S512x512.size (k0_off8_inb c)) (fun _ => rfl)) (Nn := NO512) rfl (lv_store 3)) $$ [Hflo3 Hm]
  · isplitr; · iexact Hc
    isplitl [Hflo3]; · iexact Hflo3
    iexact Hm
  iintro ⟨HD, Hv, Hm⟩
  ihave HoutD3 := (outD512_intro m ρ c 3 (1024 * (opp c).val)) $$ [HD Hv]
  · isplitl [HD]; · iexact HD
    iexact Hv
  ihave Hflo4 := (Entails.of_eq (flo512_eq m ρ c 4 (1024 * (opp c).val + 512))) $$ Hflo4
  iapply (wait_local m N c (dst := outM.slice (Rect.unit (s := S4096x512) (k0_off10 c) S512x512.size (k0_off10_inb c)) (fun _ => rfl)) (Nn := NO512) rfl (lv_store 4)) $$ [Hflo4 Hm]
  · isplitr; · iexact Hc
    isplitl [Hflo4]; · iexact Hflo4
    iexact Hm
  iintro ⟨HD, Hv, Hm⟩
  ihave HoutD4 := (outD512_intro m ρ c 4 (1024 * (opp c).val + 512)) $$ [HD Hv]
  · isplitl [HD]; · iexact HD
    iexact Hv
  rw [wp_ret]; imodintro
  iapply Hk
  isplitl [Hm]; · iexact Hm
  isplitl [Hbarz]; · iexact Hbarz
  isplitl [HldD0]; · iexact HldD0
  isplitl [HldD4]; · iexact HldD4
  isplitl [HldD1]; · iexact HldD1
  isplitl [HldD5]; · iexact HldD5
  isplitl [HldD2]; · iexact HldD2
  isplitl [HldD6]; · iexact HldD6
  isplitl [HldD3]; · iexact HldD3
  isplitl [HldD7]; · iexact HldD7
  isplitl [HldwD]; · iexact HldwD
  isplitl [Hsx]; · iexact Hsx
  isplitl [Hsw]; · iexact Hsw
  isplitl [HownW]; · iexact HownW
  isplitl [HflH]; · iexact HflH
  isplitl [HflW]; · iexact HflW
  isplitl [HfrH]; · iexact HfrH
  isplitl [HfrW]; · iexact HfrW
  isplitl [Hlo]; · iexact Hlo
  isplitl [Hhi]; · iexact Hhi
  isplitl [Hw8]; · iexact Hw8
  isplitl [HoutD0]; · iexact HoutD0
  isplitl [HoutD1]; · iexact HoutD1
  isplitl [HoutD2]; · iexact HoutD2
  isplitl [HoutD3]; · iexact HoutD3
  iexact HoutD4

end Cert.KernelIdealProof

end
-- ==== Proof.KernelIdeal.Enter.lean ====
/-
The buffers and semaphores a device starts with, cut into the pieces the body works on.
-/
module

public import proofs.«01_k».proof.Proof.KernelIdeal.Body

@[expose] public section

noncomputable section

namespace Cert.KernelIdealProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-! ## Whole buffers as rows -/

section Whole
variable (c : Dev nD)
theorem x_all (f : S1024x4096.Idx → Elt F .f32) : ((((c : Thread nD τ).loc main_arg0) ↦{fullShare} f : sProp 𝕄)) = xPts c 0 1024 fullShare f := by unfold xPts; rw [rowsA_all]
theorem xst_all (f : S1024x4096.Idx → Elt F .f32) : ((((c : Thread nD τ).loc cc0_scratch0) ↦{fullShare} f : sProp 𝕄)) = xstPts c 0 1024 fullShare f := by unfold xstPts; rw [rowsA_all]
theorem own_all (f : S1024x4096.Idx → Elt F .fp8e4m3) : ((((c : Thread nD τ).loc cc0_scratch3) ↦{fullShare} f : sProp 𝕄)) = ownPts c 0 1024 fullShare f := by unfold ownPts; rw [rowsA_all]
theorem fl_all (f : S1024x4096.Idx → Elt F .fp8e4m3) : ((((c : Thread nD τ).loc cc0_scratch4) ↦{fullShare} f : sProp 𝕄)) = flPts c 0 1024 fullShare f := by unfold flPts; rw [rowsA_all]
theorem fr_all (f : S1024x4096.Idx → Elt F .fp8e4m3) : ((((c : Thread nD τ).loc cc0_scratch5) ↦{fullShare} f : sProp 𝕄)) = frPts c 0 1024 fullShare f := by unfold frPts; rw [rowsA_all]
theorem op_all (f : S1024x4096.Idx → Elt F .fp8e4m3) : ((((c : Thread nD τ).loc cc0_scratch6) ↦{fullShare} f : sProp 𝕄)) = opPts c 0 1024 fullShare f := by unfold opPts; rw [rowsA_all]
theorem ost_all (f : S4096x512.Idx → Elt F .f32) : ((((c : Thread nD τ).loc cc0_scratch2) ↦{fullShare} f : sProp 𝕄)) = ostPts c 0 4096 f := by unfold ostPts; rw [rowsB_all]
theorem out_all (f : S4096x512.Idx → Elt F .f32) : ((((c : Thread nD τ).loc main_v1) ↦{fullShare} f : sProp 𝕄)) = outPts c 0 4096 f := by unfold outPts; rw [rowsB_all]

theorem ost_split (f : S4096x512.Idx → Elt F .f32) (a b d : ℕ) (h : a ≤ b) (h' : b ≤ d) : ostPts c a d f ⊢ iprop(ostPts c a b f ∗ ostPts c b d f) :=
  pts_splitR (ℓ := (c : Thread nD τ).loc cc0_scratch2) (rowsB_mem h h') (rowsB_apart a b d) f
theorem ost_join (f : S4096x512.Idx → Elt F .f32) (a b d : ℕ) (h : a ≤ b) (h' : b ≤ d) : iprop(ostPts c a b f ∗ ostPts c b d f) ⊢ ostPts c a d f :=
  pts_joinR (ℓ := (c : Thread nD τ).loc cc0_scratch2) (rowsB_mem h h') (rowsB_apart a b d) f
theorem out_split (f : S4096x512.Idx → Elt F .f32) (a b d : ℕ) (h : a ≤ b) (h' : b ≤ d) : outPts c a d f ⊢ iprop(outPts c a b f ∗ outPts c b d f) :=
  pts_splitR (ℓ := (c : Thread nD τ).loc main_v1) (rowsB_mem h h') (rowsB_apart a b d) f
theorem out_join (f : S4096x512.Idx → Elt F .f32) (a b d : ℕ) (h : a ≤ b) (h' : b ≤ d) : iprop(outPts c a b f ∗ outPts c b d f) ⊢ outPts c a d f :=
  pts_joinR (ℓ := (c : Thread nD τ).loc main_v1) (rowsB_mem h h') (rowsB_apart a b d) f
end Whole

/-! ## The four block rows of a 4096-row array, in the order a device computes them -/

/-- A device's own block, its left and its right neighbour's, and the opposite one's, whichever device it is. -/
theorem four (c : Dev nD) (Φ : ℕ → sProp 𝕄) : iprop(Φ 0 ∗ Φ 1 ∗ Φ 2 ∗ Φ 3) = iprop(Φ c.val ∗ Φ (prv c).val ∗ Φ (nxt c).val ∗ Φ (opp c).val) := by
  have h0 : (bigSep Finset.univ fun d : Dev nD => Φ d.val) = iprop(Φ 0 ∗ Φ 1 ∗ Φ 2 ∗ Φ 3) :=
    bigSep_univ_eq_bigSepL [(0 : Dev nD), (1 : Dev nD), (2 : Dev nD), (3 : Dev nD)] (by decide) (by decide) _
  have h1 : (bigSep Finset.univ fun d : Dev nD => Φ d.val) = iprop(Φ c.val ∗ Φ (prv c).val ∗ Φ (nxt c).val ∗ Φ (opp c).val) :=
    bigSep_univ_eq_bigSepL [c, prv c, nxt c, opp c] (by revert c; decide) (by revert c; decide) _
  exact h0.symm.trans h1

theorem split_dev (c : Dev nD) {P : ℕ → ℕ → sProp 𝕄} (hP : ∀ a b d, a ≤ b → b ≤ d → P a d ⊢ iprop(P a b ∗ P b d)) :
    P 0 4096 ⊢ iprop(P (1024 * c.val) (1024 * c.val + 1024) ∗ P (1024 * (prv c).val) (1024 * (prv c).val + 1024)
      ∗ P (1024 * (nxt c).val) (1024 * (nxt c).val + 1024) ∗ P (1024 * (opp c).val) (1024 * (opp c).val + 512) ∗ P (1024 * (opp c).val + 512) (1024 * (opp c).val + 512 + 512)) := by
  have e : 1024 * (opp c).val + 512 + 512 = 1024 * (opp c).val + 1024 := by omega
  rw [e]
  iintro H
  ihave H := (hP 0 1024 4096 (by decide) (by decide)) $$ H
  icases H with ⟨H0, H⟩
  ihave H := (hP 1024 2048 4096 (by decide) (by decide)) $$ H
  icases H with ⟨H1, H⟩
  ihave H := (hP 2048 3072 4096 (by decide) (by decide)) $$ H
  icases H with ⟨H2, H3⟩
  ihave H := (Entails.of_eq (four (F := F) c fun d => P (1024 * d) (1024 * d + 1024))) $$ [H0 H1 H2 H3]
  · isplitl [H0]; · iexact H0
    isplitl [H1]; · iexact H1
    isplitl [H2]; · iexact H2
    iexact H3
  icases H with ⟨H0, H1, H2, H3⟩
  ihave H := (hP (1024 * (opp c).val) (1024 * (opp c).val + 512) (1024 * (opp c).val + 1024) (by omega) (by omega)) $$ H3
  icases H with ⟨H3, H4⟩
  isplitl [H0]; · iexact H0
  isplitl [H1]; · iexact H1
  isplitl [H2]; · iexact H2
  isplitl [H3]; · iexact H3
  iexact H4

theorem join_dev (c : Dev nD) {P : ℕ → ℕ → sProp 𝕄} (hP : ∀ a b d, a ≤ b → b ≤ d → iprop(P a b ∗ P b d) ⊢ P a d) :
    iprop(P (1024 * c.val) (1024 * c.val + 1024) ∗ P (1024 * (prv c).val) (1024 * (prv c).val + 1024)
      ∗ P (1024 * (nxt c).val) (1024 * (nxt c).val + 1024) ∗ P (1024 * (opp c).val) (1024 * (opp c).val + 512) ∗ P (1024 * (opp c).val + 512) (1024 * (opp c).val + 512 + 512)) ⊢ P 0 4096 := by
  have e : 1024 * (opp c).val + 512 + 512 = 1024 * (opp c).val + 1024 := by omega
  rw [e]
  iintro ⟨H0, H1, H2, H3, H4⟩
  ihave H3 := (hP (1024 * (opp c).val) (1024 * (opp c).val + 512) (1024 * (opp c).val + 1024) (by omega) (by omega)) $$ [H3 H4]
  · isplitl [H3]; · iexact H3
    iexact H4
  ihave H := (Entails.of_eq (four (F := F) c fun d => P (1024 * d) (1024 * d + 1024)).symm) $$ [H0 H1 H2 H3]
  · isplitl [H0]; · iexact H0
    isplitl [H1]; · iexact H1
    isplitl [H2]; · iexact H2
    iexact H3
  icases H with ⟨H0, H1, H2, H3⟩
  iapply (hP 0 1024 4096 (by decide) (by decide))
  isplitl [H0]; · iexact H0
  iapply (hP 1024 2048 4096 (by decide) (by decide))
  isplitl [H1]; · iexact H1
  iapply (hP 2048 3072 4096 (by decide) (by decide))
  isplitl [H2]; · iexact H2
  iexact H3

/-! ## The local semaphores one by one -/

theorem loads_eq (c : Dev nD) : (bigSep Finset.univ fun l : Fin 9 => (semVal ((c : Thread nD τ), .dma (loadS l)) 0 : sProp 𝕄))
    = iprop(semVal ((c : Thread nD τ), .dma (loadS 0)) 0 ∗ semVal ((c : Thread nD τ), .dma (loadS 1)) 0 ∗ semVal ((c : Thread nD τ), .dma (loadS 2)) 0 ∗ semVal ((c : Thread nD τ), .dma (loadS 3)) 0 ∗ semVal ((c : Thread nD τ), .dma (loadS 4)) 0 ∗ semVal ((c : Thread nD τ), .dma (loadS 5)) 0 ∗ semVal ((c : Thread nD τ), .dma (loadS 6)) 0 ∗ semVal ((c : Thread nD τ), .dma (loadS 7)) 0 ∗ semVal ((c : Thread nD τ), .dma (loadS 8)) 0) :=
  bigSep_univ_eq_bigSepL [(0 : Fin 9), 1, 2, 3, 4, 5, 6, 7, 8] (by decide) (by decide) _
theorem stores_eq (c : Dev nD) : (bigSep Finset.univ fun j : Fin 5 => (semVal ((c : Thread nD τ), .dma (storeS j)) 0 : sProp 𝕄))
    = iprop(semVal ((c : Thread nD τ), .dma (storeS 0)) 0 ∗ semVal ((c : Thread nD τ), .dma (storeS 1)) 0 ∗ semVal ((c : Thread nD τ), .dma (storeS 2)) 0 ∗ semVal ((c : Thread nD τ), .dma (storeS 3)) 0 ∗ semVal ((c : Thread nD τ), .dma (storeS 4)) 0) :=
  bigSep_univ_eq_bigSepL [(0 : Fin 5), 1, 2, 3, 4] (by decide) (by decide) _

/-! ## From the buffers and semaphores to the chunks -/

theorem enter_x (c : Dev nD) :
    iprop((((c : Thread nD τ).loc main_arg0) ↦{fullShare} xC m c) ∗ (∃ f : S1024x4096.Idx → Elt F .f32, ((c : Thread nD τ).loc cc0_scratch0) ↦{fullShare} f)
        ∗ semVal ((c : Thread nD τ), .dma (loadS 0)) 0 ∗ semVal ((c : Thread nD τ), .dma (loadS 1)) 0 ∗ semVal ((c : Thread nD τ), .dma (loadS 2)) 0 ∗ semVal ((c : Thread nD τ), .dma (loadS 3)) 0 ∗ semVal ((c : Thread nD τ), .dma (loadS 4)) 0 ∗ semVal ((c : Thread nD τ), .dma (loadS 5)) 0 ∗ semVal ((c : Thread nD τ), .dma (loadS 6)) 0 ∗ semVal ((c : Thread nD τ), .dma (loadS 7)) 0)
      ⊢ iprop(ldE m c 0 ∗ ldE m c 1 ∗ ldE m c 2 ∗ ldE m c 3 ∗ ldE m c 4 ∗ ldE m c 5 ∗ ldE m c 6 ∗ ldE m c 7) := by
  iintro ⟨Hx, ⟨%f, Hst⟩, S0, S1, S2, S3, S4, S5, S6, S7⟩
  ihave Hx := (Entails.of_eq (x_all c (xC m c))) $$ Hx
  ihave Hst := (Entails.of_eq (xst_all c f)) $$ Hst
  ihave Hx := (split8 (P := fun a b => xPts c a b fullShare (xC m c)) (x_split c _ _)) $$ Hx
  ihave Hst := (split8 (P := fun a b => xstPts c a b fullShare f) (xst_split c _ _)) $$ Hst
  icases Hx with ⟨X0, X1, X2, X3, X4, X5, X6, X7⟩
  icases Hst with ⟨T0, T1, T2, T3, T4, T5, T6, T7⟩
  unfold ldE
  isplitl [X0 T0 S0]
  · isplitl [X0]; · iexact X0
    isplitl [T0]; · iexists f; iexact T0
    iexact S0
  isplitl [X1 T1 S1]
  · isplitl [X1]; · iexact X1
    isplitl [T1]; · iexists f; iexact T1
    iexact S1
  isplitl [X2 T2 S2]
  · isplitl [X2]; · iexact X2
    isplitl [T2]; · iexists f; iexact T2
    iexact S2
  isplitl [X3 T3 S3]
  · isplitl [X3]; · iexact X3
    isplitl [T3]; · iexists f; iexact T3
    iexact S3
  isplitl [X4 T4 S4]
  · isplitl [X4]; · iexact X4
    isplitl [T4]; · iexists f; iexact T4
    iexact S4
  isplitl [X5 T5 S5]
  · isplitl [X5]; · iexact X5
    isplitl [T5]; · iexists f; iexact T5
    iexact S5
  isplitl [X6 T6 S6]
  · isplitl [X6]; · iexact X6
    isplitl [T6]; · iexists f; iexact T6
    iexact S6
  isplitl [X7]; · iexact X7
  isplitl [T7]; · iexists f; iexact T7
  iexact S7

theorem enter_own (c : Dev nD) : iprop(∃ f : S1024x4096.Idx → Elt F .fp8e4m3, ((c : Thread nD τ).loc cc0_scratch3) ↦{fullShare} f)
    ⊢ (iprop(ownE (F := F) c 0 ∗ ownE (F := F) c 1 ∗ ownE (F := F) c 2 ∗ ownE (F := F) c 3 ∗ ownE (F := F) c 4 ∗ ownE (F := F) c 5 ∗ ownE (F := F) c 6 ∗ ownE (F := F) c 7) : sProp 𝕄) := by
  iintro ⟨%f, H⟩
  ihave H := (Entails.of_eq (own_all c f)) $$ H
  unfold ownE
  iapply (split8 (P := fun a b => ownAny (F := F) c a b) (ownAny_split c))
  iexists f; iexact H

/-- The three landing buffers are what the two signals hand over. -/
theorem enter_bar (c : Dev nD) :
    iprop((∃ f : S1024x4096.Idx → Elt F .fp8e4m3, ((c : Thread nD τ).loc cc0_scratch4) ↦{fullShare} f)
        ∗ (∃ f : S1024x4096.Idx → Elt F .fp8e4m3, ((c : Thread nD τ).loc cc0_scratch5) ↦{fullShare} f)
        ∗ ∃ f : S1024x4096.Idx → Elt F .fp8e4m3, ((c : Thread nD τ).loc cc0_scratch6) ↦{fullShare} f)
      ⊢ (iprop(barPay (prv c) false ∗ barPay (nxt c) true) : sProp 𝕄) := by
  unfold barPay
  rw [if_neg (by decide), if_pos rfl, nxt_prv, prv_nxt]
  iintro ⟨⟨%f, Hl⟩, ⟨%g, Hr⟩, ⟨%h, Ho⟩⟩
  ihave Hl := (Entails.of_eq (fl_all c f)) $$ Hl
  ihave Hr := (Entails.of_eq (fr_all c g)) $$ Hr
  ihave Ho := (Entails.of_eq (op_all c h)) $$ Ho
  ihave Ho := (op_split c fullShare h 0 512 1024 (by decide) (by decide)) $$ Ho
  icases Ho with ⟨Ho0, Ho1⟩
  isplitl [Hl Ho0]
  · isplitl [Hl]; · iexists f; iexact Hl
    iexists h; iexact Ho0
  isplitl [Hr]; · iexists g; iexact Hr
  iexists h; iexact Ho1

theorem enter_out (c : Dev nD) (g : S4096x512.Idx → Elt F .f32) :
    iprop((((c : Thread nD τ).loc main_v1) ↦{fullShare} g) ∗ (∃ f : S4096x512.Idx → Elt F .f32, ((c : Thread nD τ).loc cc0_scratch2) ↦{fullShare} f)
        ∗ semVal ((c : Thread nD τ), .dma (storeS 0)) 0 ∗ semVal ((c : Thread nD τ), .dma (storeS 1)) 0 ∗ semVal ((c : Thread nD τ), .dma (storeS 2)) 0 ∗ semVal ((c : Thread nD τ), .dma (storeS 3)) 0 ∗ semVal ((c : Thread nD τ), .dma (storeS 4)) 0)
      ⊢ (iprop(outE1024 c 0 (1024 * c.val) ∗ outE1024 c 1 (1024 * (prv c).val) ∗ outE1024 c 2 (1024 * (nxt c).val)
        ∗ outE512 c 3 (1024 * (opp c).val) ∗ outE512 c 4 (1024 * (opp c).val + 512)) : sProp 𝕄) := by
  iintro ⟨Ho, ⟨%f, Hs⟩, S0, S1, S2, S3, S4⟩
  ihave Ho := (Entails.of_eq (out_all c g)) $$ Ho
  ihave Hs := (Entails.of_eq (ost_all c f)) $$ Hs
  ihave Ho := (split_dev c (P := fun a b => outPts c a b g) (out_split c g)) $$ Ho
  ihave Hs := (split_dev c (P := fun a b => ostPts c a b f) (ost_split c f)) $$ Hs
  icases Ho with ⟨O0, O1, O2, O3, O4⟩
  icases Hs with ⟨T0, T1, T2, T3, T4⟩
  isplitl [O0 T0 S0]
  · isplitl [T0]; · iexists f; iexact T0
    isplitl [O0]; · iexists g; iexact O0
    iexact S0
  isplitl [O1 T1 S1]
  · isplitl [T1]; · iexists f; iexact T1
    isplitl [O1]; · iexists g; iexact O1
    iexact S1
  isplitl [O2 T2 S2]
  · isplitl [T2]; · iexists f; iexact T2
    isplitl [O2]; · iexists g; iexact O2
    iexact S2
  isplitl [O3 T3 S3]
  · isplitl [T3]; · iexists f; iexact T3
    isplitl [O3]; · iexists g; iexact O3
    iexact S3
  isplitl [T4]; · iexists f; iexact T4
  isplitl [O4]; · iexists g; iexact O4
  iexact S4

end Cert.KernelIdealProof

end
-- ==== Proof.KernelIdeal.Exit.lean ====
/-
What a device holds when the body has run, put together again: whole buffers and semaphores at zero.
-/
module

public import proofs.«01_k».proof.Proof.KernelIdeal.Enter

@[expose] public section

noncomputable section

namespace Cert.KernelIdealProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-! ## The copies' semaphores and shares -/

theorem exit_recv (c : Dev nD) : seqL (doneR (F := F) c) [17, 8, 12, 11, 10, 9, 7, 6, 5, 4, 16, 15, 14, 13, 3, 2, 1, 0] ⊢ (bigSep Finset.univ fun p => semVal (recvCell c p) 0 : sProp 𝕄) := by
  rw [seqL_eq _ _ (by decide), show ([17, 8, 12, 11, 10, 9, 7, 6, 5, 4, 16, 15, 14, 13, 3, 2, 1, 0] : List (Fin 18)).toFinset = Finset.univ by decide]
  exact Entails.refl _

theorem exit_send (c : Dev nD) : seqL (doneS m c) [17, 8, 12, 11, 10, 9, 7, 6, 5, 4, 16, 3, 15, 2, 14, 1, 13, 0] ⊢ iprop((bigSep Finset.univ fun p => semVal (sendCell c p) 0) ∗ bigSep Finset.univ fun p => sendPay m c p) := by
  rw [seqL_eq _ _ (by decide), show ([17, 8, 12, 11, 10, 9, 7, 6, 5, 4, 16, 3, 15, 2, 14, 1, 13, 0] : List (Fin 18)).toFinset = Finset.univ by decide, ← bigSep_sep']
  exact Entails.refl _

theorem sendPays (c : Dev nD) : (bigSep Finset.univ fun p => sendPay m c p)
    = iprop(sendPay m c 0 ∗ sendPay m c 1 ∗ sendPay m c 2 ∗ sendPay m c 3 ∗ sendPay m c 4 ∗ sendPay m c 5 ∗ sendPay m c 6 ∗ sendPay m c 7 ∗ sendPay m c 8 ∗ sendPay m c 9 ∗ sendPay m c 10 ∗ sendPay m c 11 ∗ sendPay m c 12 ∗ sendPay m c 13 ∗ sendPay m c 14 ∗ sendPay m c 15 ∗ sendPay m c 16 ∗ sendPay m c 17) :=
  bigSep_univ_eq_bigSepL [(0 : Fin 18), (1 : Fin 18), (2 : Fin 18), (3 : Fin 18), (4 : Fin 18), (5 : Fin 18), (6 : Fin 18), (7 : Fin 18), (8 : Fin 18), (9 : Fin 18), (10 : Fin 18), (11 : Fin 18), (12 : Fin 18), (13 : Fin 18), (14 : Fin 18), (15 : Fin 18), (16 : Fin 18), (17 : Fin 18)] (by decide) (by decide) _

/-! ## Buffers made whole again -/

theorem exit_own (c : Dev nD) : iprop(sendPay m c 0 ∗ sendPay m c 1 ∗ sendPay m c 2 ∗ sendPay m c 3 ∗ sendPay m c 4 ∗ sendPay m c 5 ∗ sendPay m c 6 ∗ sendPay m c 7
      ∗ sendPay m c 9 ∗ sendPay m c 10 ∗ sendPay m c 11 ∗ sendPay m c 12 ∗ sendPay m c 13 ∗ sendPay m c 14 ∗ sendPay m c 15 ∗ sendPay m c 16 ∗ ownPts c 0 1024 shK (ownC m c))
    ⊢ (((c : Thread nD τ).loc cc0_scratch3) ↦{fullShare} ownC m c : sProp 𝕄) := by
  iintro ⟨A0, A1, A2, A3, A4, A5, A6, A7, B0, B1, B2, B3, B4, B5, B6, B7, K⟩
  ihave A := (show iprop(sendPay m c 0 ∗ sendPay m c 1 ∗ sendPay m c 2 ∗ sendPay m c 3 ∗ sendPay m c 4 ∗ sendPay m c 5 ∗ sendPay m c 6 ∗ sendPay m c 7) ⊢ ownPts c 0 1024 sh0 (ownC m c) from
    join8 (P := fun a b => ownPts c a b sh0 (ownC m c)) (own_join c _ _)) $$ [A0 A1 A2 A3 A4 A5 A6 A7]
  · isplitl [A0]; · iexact A0
    isplitl [A1]; · iexact A1
    isplitl [A2]; · iexact A2
    isplitl [A3]; · iexact A3
    isplitl [A4]; · iexact A4
    isplitl [A5]; · iexact A5
    isplitl [A6]; · iexact A6
    iexact A7
  ihave B := (show iprop(sendPay m c 9 ∗ sendPay m c 10 ∗ sendPay m c 11 ∗ sendPay m c 12 ∗ sendPay m c 13 ∗ sendPay m c 14 ∗ sendPay m c 15 ∗ sendPay m c 16) ⊢ ownPts c 0 1024 sh1 (ownC m c) from
    join8 (P := fun a b => ownPts c a b sh1 (ownC m c)) (own_join c _ _)) $$ [B0 B1 B2 B3 B4 B5 B6 B7]
  · isplitl [B0]; · iexact B0
    isplitl [B1]; · iexact B1
    isplitl [B2]; · iexact B2
    isplitl [B3]; · iexact B3
    isplitl [B4]; · iexact B4
    isplitl [B5]; · iexact B5
    isplitl [B6]; · iexact B6
    iexact B7
  rw [own_all c (ownC m c)]
  iapply (pts_shares (ℓ := (c : Thread nD τ).loc cc0_scratch3) (A := rowsA 0 1024) (ownC m c)).2
  isplitl [A]; · iexact A
  isplitl [B]; · iexact B
  iexact K

theorem sendPay_lo (c : Dev nD) : sendPay m c 8 = flPts c 0 512 fullShare.left (ownC m (prv c)) := rfl
theorem sendPay_hi (c : Dev nD) : sendPay m c 17 = frPts c 512 1024 fullShare.left (ownC m (nxt c)) := rfl

theorem exit_fl (c : Dev nD) : iprop(sendPay m c 8 ∗ flPts c 512 1024 fullShare.left (ownC m (prv c)) ∗ flPts c 0 1024 fullShare.right (ownC m (prv c)))
    ⊢ (((c : Thread nD τ).loc cc0_scratch4) ↦{fullShare} ownC m (prv c) : sProp 𝕄) := by
  rw [sendPay_lo]
  iintro ⟨A, B, R⟩
  ihave L := (fl_join c fullShare.left (ownC m (prv c)) 0 512 1024 (by decide) (by decide)) $$ [A B]
  · isplitl [A]; · iexact A
    iexact B
  rw [fl_all c (ownC m (prv c))]
  iapply (pts_half (ℓ := (c : Thread nD τ).loc cc0_scratch4) (A := rowsA 0 1024) (ownC m (prv c))).2
  isplitl [L]; · iexact L
  iexact R

theorem exit_fr (c : Dev nD) : iprop(sendPay m c 17 ∗ frPts c 0 512 fullShare.left (ownC m (nxt c)) ∗ frPts c 0 1024 fullShare.right (ownC m (nxt c)))
    ⊢ (((c : Thread nD τ).loc cc0_scratch5) ↦{fullShare} ownC m (nxt c) : sProp 𝕄) := by
  rw [sendPay_hi]
  iintro ⟨A, B, R⟩
  ihave L := (fr_join c fullShare.left (ownC m (nxt c)) 0 512 1024 (by decide) (by decide)) $$ [A B]
  · isplitl [B]; · iexact B
    iexact A
  rw [fr_all c (ownC m (nxt c))]
  iapply (pts_half (ℓ := (c : Thread nD τ).loc cc0_scratch5) (A := rowsA 0 1024) (ownC m (nxt c))).2
  isplitl [L]; · iexact L
  iexact R

theorem exit_op (c : Dev nD) : iprop(opPts c 0 512 fullShare (ownC m (opp c)) ∗ opPts c 512 1024 fullShare (ownC m (opp c)))
    ⊢ (((c : Thread nD τ).loc cc0_scratch6) ↦{fullShare} ownC m (opp c) : sProp 𝕄) := by
  rw [op_all c (ownC m (opp c))]
  exact op_join c fullShare (ownC m (opp c)) 0 512 1024 (by decide) (by decide)

theorem exit_x (c : Dev nD) : iprop(ldD m c 0 ∗ ldD m c 1 ∗ ldD m c 2 ∗ ldD m c 3 ∗ ldD m c 4 ∗ ldD m c 5 ∗ ldD m c 6 ∗ ldD m c 7)
    ⊢ (iprop((((c : Thread nD τ).loc main_arg0) ↦{fullShare} xC m c) ∗ (((c : Thread nD τ).loc cc0_scratch0) ↦{fullShare} xC m c)
      ∗ semVal ((c : Thread nD τ), .dma (loadS 0)) 0 ∗ semVal ((c : Thread nD τ), .dma (loadS 1)) 0 ∗ semVal ((c : Thread nD τ), .dma (loadS 2)) 0 ∗ semVal ((c : Thread nD τ), .dma (loadS 3)) 0 ∗ semVal ((c : Thread nD τ), .dma (loadS 4)) 0 ∗ semVal ((c : Thread nD τ), .dma (loadS 5)) 0 ∗ semVal ((c : Thread nD τ), .dma (loadS 6)) 0 ∗ semVal ((c : Thread nD τ), .dma (loadS 7)) 0) : sProp 𝕄) := by
  unfold ldD
  iintro ⟨⟨X0, T0, S0⟩, ⟨X1, T1, S1⟩, ⟨X2, T2, S2⟩, ⟨X3, T3, S3⟩, ⟨X4, T4, S4⟩, ⟨X5, T5, S5⟩, ⟨X6, T6, S6⟩, ⟨X7, T7, S7⟩⟩
  isplitl [X0 X1 X2 X3 X4 X5 X6 X7]
  · rw [x_all c (xC m c)]
    iapply (join8 (P := fun a b => xPts c a b fullShare (xC m c)) (x_join c _ _))
    isplitl [X0]; · iexact X0
    isplitl [X1]; · iexact X1
    isplitl [X2]; · iexact X2
    isplitl [X3]; · iexact X3
    isplitl [X4]; · iexact X4
    isplitl [X5]; · iexact X5
    isplitl [X6]; · iexact X6
    iexact X7
  isplitl [T0 T1 T2 T3 T4 T5 T6 T7]
  · rw [xst_all c (xC m c)]
    iapply (join8 (P := fun a b => xstPts c a b fullShare (xC m c)) (xst_join c _ _))
    isplitl [T0]; · iexact T0
    isplitl [T1]; · iexact T1
    isplitl [T2]; · iexact T2
    isplitl [T3]; · iexact T3
    isplitl [T4]; · iexact T4
    isplitl [T5]; · iexact T5
    isplitl [T6]; · iexact T6
    iexact T7
  isplitl [S0]; · iexact S0
  isplitl [S1]; · iexact S1
  isplitl [S2]; · iexact S2
  isplitl [S3]; · iexact S3
  isplitl [S4]; · iexact S4
  isplitl [S5]; · iexact S5
  isplitl [S6]; · iexact S6
  iexact S7

theorem exit_out (c : Dev nD) : iprop(outD1024 m ρ c 0 (1024 * c.val) ∗ outD1024 m ρ c 1 (1024 * (prv c).val) ∗ outD1024 m ρ c 2 (1024 * (nxt c).val)
        ∗ outD512 m ρ c 3 (1024 * (opp c).val) ∗ outD512 m ρ c 4 (1024 * (opp c).val + 512))
    ⊢ (iprop((((c : Thread nD τ).loc main_v1) ↦{fullShare} outC m ρ c) ∗ (((c : Thread nD τ).loc cc0_scratch2) ↦{fullShare} outC m ρ c)
      ∗ semVal ((c : Thread nD τ), .dma (storeS 0)) 0 ∗ semVal ((c : Thread nD τ), .dma (storeS 1)) 0 ∗ semVal ((c : Thread nD τ), .dma (storeS 2)) 0 ∗ semVal ((c : Thread nD τ), .dma (storeS 3)) 0 ∗ semVal ((c : Thread nD τ), .dma (storeS 4)) 0) : sProp 𝕄) := by
  unfold outD1024 outD512
  iintro ⟨⟨⟨O0, T0⟩, S0⟩, ⟨⟨O1, T1⟩, S1⟩, ⟨⟨O2, T2⟩, S2⟩, ⟨⟨O3, T3⟩, S3⟩, ⟨⟨O4, T4⟩, S4⟩⟩
  isplitl [O0 O1 O2 O3 O4]
  · rw [out_all c (outC m ρ c)]
    iapply (join_dev c (P := fun a b => outPts c a b (outC m ρ c)) (out_join c _))
    isplitl [O0]; · iexact O0
    isplitl [O1]; · iexact O1
    isplitl [O2]; · iexact O2
    isplitl [O3]; · iexact O3
    iexact O4
  isplitl [T0 T1 T2 T3 T4]
  · rw [ost_all c (outC m ρ c)]
    iapply (join_dev c (P := fun a b => ostPts c a b (outC m ρ c)) (ost_join c _))
    isplitl [T0]; · iexact T0
    isplitl [T1]; · iexact T1
    isplitl [T2]; · iexact T2
    isplitl [T3]; · iexact T3
    iexact T4
  isplitl [S0]; · iexact S0
  isplitl [S1]; · iexact S1
  isplitl [S2]; · iexact S2
  isplitl [S3]; · iexact S3
  iexact S4

end Cert.KernelIdealProof

end
-- ==== Proof.KernelIdeal.Ghost.lean ====
/-
The launch's ghost state: the cells and their tokens minted, dealt to the devices, and the cells put under invariants.
-/
module

public import proofs.«01_k».proof.Proof.KernelIdeal.State
public import Idealize.ShloMosaic.Lib.Pipeline.Launch
public import Idealize.ShloMosaic.Lib.Pipeline.Kit

@[expose] public section

noncomputable section

namespace Cert.KernelIdealProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-! ## The cells and their tokens -/

theorem ksem_injective : Function.Injective ksem := by
  rintro (_ | ⟨_ | _, p⟩) (_ | ⟨_ | _, p'⟩) h
  · rfl
  · exact nomatch (h : SemLoc.reg barS = SemLoc.dma (sendS p'))
  · exact nomatch (h : SemLoc.reg barS = SemLoc.dma (recvS p'))
  · exact nomatch (h : SemLoc.dma (sendS p) = SemLoc.reg barS)
  · have h : sendS p = sendS p' := SemLoc.dma.inj h
    rw [← slotOf_send p, h, slotOf_send]
  · have h : sendS p = recvS p' := SemLoc.dma.inj h
    have hv : 16 + p.val = 34 + p'.val := congrArg Fin.val h
    have := p.isLt
    omega
  · exact nomatch (h : SemLoc.dma (recvS p) = SemLoc.reg barS)
  · have h : recvS p = sendS p' := SemLoc.dma.inj h
    have hv : 34 + p.val = 16 + p'.val := congrArg Fin.val h
    have := p'.isLt
    omega
  · have h : recvS p = recvS p' := SemLoc.dma.inj h
    rw [← slotOf_recv p, h, slotOf_recv]

theorem kcell_injective : Function.Injective (kcell : Dev nD × CK → GSem nD τ sig) := by
  rintro ⟨c, k⟩ ⟨c', k'⟩ h
  have h1 : c = c' := congrArg (fun g : GSem nD τ sig => g.1.1) h
  have h2 : ksem k = ksem k' := congrArg Prod.snd h
  rw [h1, ksem_injective h2]
def ringCells : Finset (GSem nD τ sig) := Finset.univ.map ⟨kcell, kcell_injective⟩

/-- Both duties of every cell at its round 0 (those the schedule has no use for are dropped). -/
abbrev tokOf (x : (Dev nD × CK) × Bool) : GSem nD τ sig × ℕ × Bool := (kcell x.1, 0, x.2)
theorem tokOf_injective : Function.Injective (tokOf : (Dev nD × CK) × Bool → GSem nD τ sig × ℕ × Bool) := by
  rintro ⟨x, d⟩ ⟨x', d'⟩ h
  have h1 : kcell x = kcell x' := congrArg Prod.fst h
  have h2 : d = d' := congrArg (fun y : GSem nD τ sig × ℕ × Bool => y.2.2) h
  rw [kcell_injective h1, h2]
def ringToks : Finset (GSem nD τ sig × ℕ × Bool) := Finset.univ.map ⟨tokOf, tokOf_injective⟩

/-- What is minted at launch: the pipeline's part, the cells' part, and the local transfers' counters. -/
def u₀ : UU :=
  (initOf (Pipeline.cells cfgs cellOf_inj) (Pipeline.launchToks cfgs cellOf_inj), (initOf ringCells ringToks, 1))

/-! ## The semaphores of a device -/

abbrev OK : Type := (Fin 9 ⊕ Fin 5) ⊕ (Fin 18 ⊕ Fin 18)
/-- The kernel's own semaphores: the loads', the stores', the send and the receive ones. -/
abbrev osem : OK → SemLoc sig
  | .inl (.inl l) => .dma (loadS l)
  | .inl (.inr j) => .dma (storeS j)
  | .inr (.inl p) => .dma (sendS p)
  | .inr (.inr p) => .dma (recvS p)
theorem ownSemFacts : Pipeline.OwnSemFacts cfg0.spec osem := by decide

abbrev loads (c : Dev nD) : sProp 𝕄 := bigSep Finset.univ fun l : Fin 9 => semVal ((c : Thread nD τ), .dma (loadS l)) 0
abbrev stores (c : Dev nD) : sProp 𝕄 := bigSep Finset.univ fun j : Fin 5 => semVal ((c : Thread nD τ), .dma (storeS j)) 0
abbrev sends (c : Dev nD) : sProp 𝕄 := bigSep Finset.univ fun p : Fin 18 => semVal (sendCell c p) 0
abbrev recvs (c : Dev nD) : sProp 𝕄 := bigSep Finset.univ fun p : Fin 18 => semVal (recvCell c p) 0

theorem ownSems0_eq (c : Dev nD) : (Pipeline.ownSems0 (Ix := Unit) (Name := ℕ) (U := UU) (Lvl := ℕ) (Val := Elt F) (τ := τ) osem c : sProp 𝕄)
    = iprop((loads (F := F) c ∗ stores (F := F) c) ∗ sends (F := F) c ∗ recvs (F := F) c) := by
  unfold Pipeline.ownSems0
  rw [BI.bigSep_univ_sum, BI.bigSep_univ_sum, BI.bigSep_univ_sum]; rfl
/-- The barrier semaphore is the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

theorem bigSep_CK (Φ : CK → sProp 𝕄) : bigSep Finset.univ Φ
    = iprop(Φ none ∗ (bigSep Finset.univ fun p : Fin 18 => Φ (some (false, p))) ∗ bigSep Finset.univ fun p : Fin 18 => Φ (some (true, p))) := by
  rw [BI.bigSep_univ_equiv (Equiv.optionEquivSumPUnit.{0} (Bool × Fin 18)).symm Φ, BI.bigSep_univ_sum, BI.bigSep_univ_prod,
    bigSep_univ_eq_bigSepL [false, true] (by decide) (by decide), bigSep_univ_eq_bigSepL [PUnit.unit] (by decide) (by decide)]
  exact BI.Entails.antisymm (BI.sep_comm) (BI.sep_comm)

theorem cellSems_intro (c : Dev nD) : iprop(semVal (barCell c) 0 ∗ sends (F := F) c ∗ recvs (F := F) c)
    ⊢ (bigSep Finset.univ fun k : CK => semVal (kcell (c, k)) 0 : sProp 𝕄) := by
  rw [bigSep_CK]; exact Entails.refl _

/-! ## The launch element dealt -/

/-- The duty tokens of device `c`'s own cells. -/
def toks (c : Dev nD) : sProp 𝕄 := bigSep Finset.univ fun k : CK => bigSep Finset.univ fun d : Bool => dutyTok ER (kcell (c, k)) 0 d

/-- What the launch element deals device `c`. -/
def G (c : Dev nD) : sProp 𝕄 :=
  iprop((bigSep Finset.univ fun k : CK => roundState ER (sched m) (kcell (c, k)) 0)
    ∗ (bigSep Finset.univ fun k : CK => iprop(atPos ER (kcell (c, k)) 0 ∅ 0 ∗ reached ER (kcell (c, k)) 0)) ∗ toks c)

theorem fund_ring : BI.own (ER (initOf ringCells ringToks)) ⊢ (|==> bigSep Finset.univ (G m) : sProp 𝕄) := by
  have hX (Φ : GSem nD τ sig → sProp 𝕄) : bigSep ringCells Φ = bigSep Finset.univ fun c : Dev nD => bigSep Finset.univ fun k : CK => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod, bigSep_univ_prod]; rfl
  iintro HX
  imod (Rounds.fund ER (sched m) ringCells ringToks) $$ HX with ⟨Hst, Hr, Hat, Htok⟩
  imodintro
  ihave Hst' := (Entails.of_eq (hX fun g => roundState ER (sched m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-- The launch element splits into the pipeline's part and the cells' part. -/
theorem u₀_split : (ownU u₀ : sProp 𝕄) ⊢ iprop(BI.own (EP (initOf (Pipeline.cells cfgs cellOf_inj) (Pipeline.launchToks cfgs cellOf_inj)))
    ∗ BI.own (ER (initOf ringCells ringToks))) := by
  unfold u₀
  iintro Hu
  ihave H := (ownU_pair _ _) $$ Hu
  icases H with ⟨HP, HX⟩
  isplitl [HP]; · iexact HP
  ihave H := (own_pair_emb (embR : Emb (UB × Counters) 𝕄) (initOf ringCells ringToks) (1 : Counters)) $$ HX
  icases H with ⟨HX, -⟩
  iexact HX

/-- One device's cells put under their invariants, its local semaphores kept. -/
theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k : CK => iprop(∃ κ : ℕ, cellInv ER (sched m) κ (kcell (c, k))))
          ∗ (bigSep Finset.univ fun k : CK => iprop(atPos ER (kcell (c, k)) 0 ∅ 0 ∗ reached ER (kcell (c, k)) 0)) ∗ toks c ∗ loads c ∗ stores c) := by
  rw [ownSems0_eq, unscopedSems0_eq]
  unfold G
  iintro ⟨⟨⟨Hl, Hs⟩, HS, HR⟩, HB, Hst, Hat, Htok⟩
  ihave Hv := (cellSems_intro (F := F) c) $$ [HB HS HR]
  · isplitl [HB]; · iexact HB
    isplitl [HS]; · iexact HS
    iexact HR
  imod (show iprop((bigSep Finset.univ fun k : CK => semVal (kcell (c, k)) 0) ∗ bigSep Finset.univ fun k : CK => roundState ER (sched m) (kcell (c, k)) 0)
      ⊢ (|={Set.univ}=> bigSep Finset.univ fun k : CK => iprop(∃ κ : ℕ, cellInv ER (sched m) κ (kcell (c, k))) : sProp 𝕄) from by
        rw [← bigSep_sep']
        exact (bigSep_mono fun k _ => (Rounds.body_intro ER (sched m) (kcell (c, k))).trans inv_alloc).trans (bigSep_fupd _ _)) $$ [Hv Hst] with Hinv
  · isplitl [Hv]; · iexact Hv
    iexact Hst
  imodintro
  isplitl [Hinv]; · iexact Hinv
  isplitl [Hat]; · iexact Hat
  isplitl [Htok]; · iexact Htok
  isplitl [Hl]; · iexact Hl
  iexact Hs

/-! ## The tokens dealt around the ring -/

/-- The tokens of the duties device `c` pays. -/
def payToks (c : Dev nD) : sProp 𝕄 :=
  iprop(dutyTok ER (barCell (prv c)) 0 false ∗ dutyTok ER (barCell (nxt c)) 0 true
    ∗ (bigSep Finset.univ fun p : Fin 18 => dutyTok ER (sendCell c p) 0 false) ∗ bigSep Finset.univ fun p : Fin 18 => dutyTok ER (recvCell (peer p c) p) 0 false)
/-- Those of its own cells that somebody pays. -/
def ownToks (c : Dev nD) : sProp 𝕄 :=
  iprop(dutyTok ER (barCell c) 0 false ∗ dutyTok ER (barCell c) 0 true
    ∗ (bigSep Finset.univ fun p : Fin 18 => dutyTok ER (sendCell c p) 0 false) ∗ bigSep Finset.univ fun p : Fin 18 => dutyTok ER (recvCell c p) 0 false)

theorem toks_own (c : Dev nD) : (toks c : sProp 𝕄) ⊢ ownToks c := by
  have hb (Φ : Bool → sProp 𝕄) : bigSep Finset.univ Φ = iprop(Φ false ∗ Φ true) := bigSep_univ_eq_bigSepL [false, true] (by decide) (by decide) Φ
  have hd (k : CK) : (bigSep Finset.univ fun d : Bool => (dutyTok ER (kcell (c, k)) 0 d : sProp 𝕄)) ⊢ dutyTok ER (kcell (c, k)) 0 false :=
    bigSep_elim (Finset.mem_univ false)
  have hp (b : Bool) : (bigSep Finset.univ fun p : Fin 18 => bigSep Finset.univ fun d : Bool => (dutyTok ER (kcell (c, some (b, p))) 0 d : sProp 𝕄))
      ⊢ bigSep Finset.univ fun p : Fin 18 => dutyTok ER (kcell (c, some (b, p))) 0 false := bigSep_mono fun p _ => hd (some (b, p))
  unfold toks ownToks
  rw [bigSep_CK]
  iintro ⟨HB, HS, HR⟩
  ihave HB := (Entails.of_eq (hb fun d => dutyTok ER (kcell (c, none)) 0 d)) $$ HB
  icases HB with ⟨HB0, HB1⟩
  isplitl [HB0]; · iexact HB0
  isplitl [HB1]; · iexact HB1
  isplitl [HS]
  · iapply (hp false); iexact HS
  iapply (hp true); iexact HR

theorem toks_around : (bigSep Finset.univ fun c : Dev nD => (toks c : sProp 𝕄)) ⊢ bigSep Finset.univ fun c : Dev nD => payToks c := by
  refine (bigSep_mono fun c _ => toks_own c).trans ?_
  unfold ownToks payToks
  rw [bigSep_sep', bigSep_sep', bigSep_sep', bigSep_sep', bigSep_sep', bigSep_sep',
    bigSep_univ_equiv ring.symm (fun c : Dev nD => (dutyTok ER (barCell c) 0 false : sProp 𝕄)),
    bigSep_univ_equiv ring (fun c : Dev nD => (dutyTok ER (barCell c) 0 true : sProp 𝕄)),
    bigSep_univ_comm (fun (c : Dev nD) (p : Fin 18) => (dutyTok ER (recvCell c p) 0 false : sProp 𝕄)),
    bigSep_univ_comm (fun (c : Dev nD) (p : Fin 18) => (dutyTok ER (recvCell (peer p c) p) 0 false : sProp 𝕄)),
    bigSep_congr (s := Finset.univ) (fun (p : Fin 18) _ => bigSep_univ_equiv (peerEquiv p) (fun c : Dev nD => (dutyTok ER (recvCell c p) 0 false : sProp 𝕄)))]
  exact Entails.refl _

/-! ## The global step -/

/-- What stays with device `c`: its positions, the tokens it pays with, its local semaphores. -/
def linear (c : Dev nD) : sProp 𝕄 :=
  iprop((bigSep Finset.univ fun k : CK => atPos ER (kcell (c, k)) 0 ∅ 0) ∗ payToks c ∗ loads c ∗ stores c)

/-- What the global step makes of what was dealt. -/
def G' (c : Dev nD) : sProp 𝕄 := iprop(∃ N, records m N ∗ linear c)

theorem ghost_intro (N : Dev nD × CK → ℕ) (c : Dev nD) : iprop(records m N ∗ linear c) ⊢ G' m c := by
  unfold G'; iintro H; iexists N; iexact H

theorem with_persistent {I : Type} [DecidableEq I] {S : Finset I} {R : sProp (MT nD τ sig Unit (Elt F) ℕ UU ℕ)} [BI.Persistent R] {Φ Ψ : I → sProp (MT nD τ sig Unit (Elt F) ℕ UU ℕ)}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem linear_intro : iprop((bigSep Finset.univ fun c : Dev nD => bigSep Finset.univ fun k : CK => atPos ER (kcell (c, k)) 0 ∅ 0)
      ∗ (bigSep Finset.univ fun c : Dev nD => payToks c) ∗ (bigSep Finset.univ fun c : Dev nD => loads c) ∗ bigSep Finset.univ fun c : Dev nD => stores c)
    ⊢ (bigSep Finset.univ fun c : Dev nD => linear c : sProp 𝕄) := by
  unfold linear; rw [bigSep_sep', bigSep_sep', bigSep_sep']

theorem regroup :
    (bigSep Finset.univ fun c : Dev nD => iprop((bigSep Finset.univ fun k : CK => iprop(∃ κ : ℕ, cellInv ER (sched m) κ (kcell (c, k))))
          ∗ (bigSep Finset.univ fun k : CK => iprop(atPos ER (kcell (c, k)) 0 ∅ 0 ∗ reached ER (kcell (c, k)) 0)) ∗ toks c ∗ loads c ∗ stores c) : sProp 𝕄)
      ⊢ bigSep Finset.univ (G' m) := by
  rw [bigSep_sep', bigSep_sep', bigSep_sep', bigSep_sep', ← bigSep_univ_prod (fun x : Dev nD × CK => iprop(∃ κ : ℕ, cellInv ER (sched m) κ (kcell x))),
    bigSep_congr (s := Finset.univ) (fun (c : Dev nD) _ => bigSep_sep' Finset.univ (fun k : CK => (atPos ER (kcell (c, k)) 0 ∅ 0 : sProp 𝕄)) (fun k => reached ER (kcell (c, k)) 0)),
    bigSep_sep', ← bigSep_univ_prod (fun x : Dev nD × CK => (reached ER (kcell x) 0 : sProp 𝕄))]
  iintro ⟨HI, ⟨Hat, #HR⟩, Htok, Hl, Hs⟩
  ihave HK := (BI.bigSep_exists_pi Finset.univ (fun (x : Dev nD × CK) (κ : ℕ) => (cellInv ER (sched m) κ (kcell x) : sProp 𝕄))) $$ HI
  icases HK with ⟨%N, #HI⟩
  ihave Htk := (toks_around (F := F)) $$ Htok
  iapply (with_persistent (R := records m N) fun c _ => ghost_intro m N c)
  isplitr
  · unfold records; isplitl; · iexact HI
    iexact HR
  · iapply (linear_intro (F := F))
    isplitl [Hat]; · iexact Hat
    isplitl [Htk]; · iexact Htk
    isplitl [Hl]; · iexact Hl
    iexact Hs

/-- The semaphores of every device at once, put under the cells' invariants. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

end Cert.KernelIdealProof

end
-- ==== Proof.KernelIdeal.Device.lean ====
/-
The body on one device, from what the launch gives it to what it leaves.
-/
module

public import proofs.«01_k».proof.Proof.KernelIdeal.Exit
public import proofs.«01_k».proof.Proof.KernelIdeal.Ghost

@[expose] public section

noncomputable section

namespace Cert.KernelIdealProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

variable (N : Dev nD × CK → ℕ)

/-! ## What a device starts with and ends with -/

/-- The scratch buffers, at any contents. -/
def scratch (c : Dev nD) : sProp 𝕄 :=
  iprop((∃ f : S1024x4096.Idx → Elt F .f32, ((c : Thread nD τ).loc cc0_scratch0) ↦{fullShare} f) ∗ (∃ f : S4096x512.Idx → Elt F .f32, ((c : Thread nD τ).loc cc0_scratch1) ↦{fullShare} f) ∗ (∃ f : S4096x512.Idx → Elt F .f32, ((c : Thread nD τ).loc cc0_scratch2) ↦{fullShare} f) ∗ (∃ f : S1024x4096.Idx → Elt F .fp8e4m3, ((c : Thread nD τ).loc cc0_scratch3) ↦{fullShare} f) ∗ (∃ f : S1024x4096.Idx → Elt F .fp8e4m3, ((c : Thread nD τ).loc cc0_scratch4) ↦{fullShare} f) ∗ (∃ f : S1024x4096.Idx → Elt F .fp8e4m3, ((c : Thread nD τ).loc cc0_scratch5) ↦{fullShare} f) ∗ (∃ f : S1024x4096.Idx → Elt F .fp8e4m3, ((c : Thread nD τ).loc cc0_scratch6) ↦{fullShare} f) ∗ (∃ f : S4096x512.Idx → Elt F .fp8e5m2, ((c : Thread nD τ).loc cc0_scratch7) ↦{fullShare} f))

/-- The ghost state, the launch credit, the levels, and the arrays that stay in HBM. -/
def start (c : Dev nD) : sProp 𝕄 :=
  iprop(G' m c ∗ cred (tallyAt (barCell c) () 2) ∗ (bigSep Finset.univ fun p : Fin 18 => cred (tallyAt (recvCell c p) () (credit p))) ∗ levAts L lv
    ∗ (((c : Thread nD τ).loc main_arg0) ↦{fullShare} xC m c) ∗ (((c : Thread nD τ).loc main_arg1) ↦{fullShare} wC m c)
    ∗ (((c : Thread nD τ).loc main_v1) ↦{fullShare} m ((c : Thread nD τ).loc main_v1)))

def Φ₀ (c : Dev nD) : sProp 𝕄 := iprop(start m c ∗ scratch (F := F) c)

/-- The arguments unchanged, the result computed. -/
def ends (c : Dev nD) : sProp 𝕄 :=
  iprop((((c : Thread nD τ).loc main_arg0) ↦{fullShare} xC m c) ∗ (((c : Thread nD τ).loc main_arg1) ↦{fullShare} wC m c)
    ∗ (((c : Thread nD τ).loc main_v1) ↦{fullShare} outC m ρ c))

/-- After the body: that, every semaphore at zero, and the scratch buffers. -/
def Φ₁ (c : Dev nD) : sProp 𝕄 :=
  iprop(ends m ρ c ∗ semVal (barCell c) 0 ∗ ((loads (F := F) c ∗ stores (F := F) c) ∗ sends (F := F) c ∗ recvs (F := F) c) ∗ scratch (F := F) c)

/-! ## The ghost state in the order the body uses it -/

theorem sends_intro (c : Dev nD) : iprop((bigSep Finset.univ fun p : Fin 18 => dutyTok ER (sendCell c p) 0 false)
      ∗ (bigSep Finset.univ fun p : Fin 18 => dutyTok ER (recvCell (peer p c) p) 0 false) ∗ bigSep Finset.univ fun p : Fin 18 => atPos ER (sendCell c p) 0 ∅ 0)
    ⊢ (seqL (sendTok (F := F) c) order : sProp 𝕄) := by
  rw [seqL_eq _ _ (by decide), show (order : List (Fin 18)).toFinset = Finset.univ by decide]
  show _ ⊢ (bigSep Finset.univ fun p : Fin 18 => iprop(dutyTok ER (sendCell c p) 0 false ∗ dutyTok ER (recvCell (peer p c) p) 0 false ∗ atPos ER (sendCell c p) 0 ∅ 0))
  rw [bigSep_sep', bigSep_sep']

theorem recvs_intro (c : Dev nD) : iprop((bigSep Finset.univ fun p : Fin 18 => atPos ER (recvCell c p) 0 ∅ 0)
      ∗ bigSep Finset.univ fun p : Fin 18 => cred (tallyAt (recvCell c p) () (credit p)))
    ⊢ (seqL (recvRes (F := F) c) rorder : sProp 𝕄) := by
  rw [seqL_eq _ _ (by decide), show (rorder : List (Fin 18)).toFinset = Finset.univ by decide]
  show _ ⊢ (bigSep Finset.univ fun p : Fin 18 => iprop(atPos ER (recvCell c p) 0 ∅ 0 ∗ cred (tallyAt (recvCell c p) () (credit p))))
  rw [bigSep_sep']

/-! ## What the body leaves -/

theorem exit_mid (c : Dev nD) : mid m c [] [] [] [17, 8, 12, 11, 10, 9, 7, 6, 5, 4, 16, 15, 14, 13, 3, 2, 1, 0] [17, 8, 12, 11, 10, 9, 7, 6, 5, 4, 16, 3, 15, 2, 14, 1, 13, 0]
    ⊢ iprop(owesE (F := F) c 0 ∗ sends (F := F) c ∗ recvs (F := F) c ∗ sendPay m c 0 ∗ sendPay m c 1 ∗ sendPay m c 2 ∗ sendPay m c 3 ∗ sendPay m c 4 ∗ sendPay m c 5 ∗ sendPay m c 6 ∗ sendPay m c 7 ∗ sendPay m c 8 ∗ sendPay m c 9 ∗ sendPay m c 10 ∗ sendPay m c 11 ∗ sendPay m c 12 ∗ sendPay m c 13 ∗ sendPay m c 14 ∗ sendPay m c 15 ∗ sendPay m c 16 ∗ sendPay m c 17) := by
  unfold mid
  iintro ⟨HO, -, -, -, Hz, Hs⟩
  ihave Hz := (exit_recv (F := F) c) $$ Hz
  ihave Hs := (exit_send m c) $$ Hs
  icases Hs with ⟨Hs, Hp⟩
  ihave Hp := (Entails.of_eq (sendPays m c)) $$ Hp
  isplitl [HO]; · iexact HO
  isplitl [Hs]; · iexact Hs
  isplitl [Hz]; · iexact Hz
  iexact Hp

/-- The scratch buffers, from what they hold. -/
theorem scratch_intro (c : Dev nD) :
    iprop((((c : Thread nD τ).loc cc0_scratch0) ↦{fullShare} xC m c) ∗ wstPts c (wC m c) ∗ (((c : Thread nD τ).loc cc0_scratch2) ↦{fullShare} outC m ρ c)
      ∗ (((c : Thread nD τ).loc cc0_scratch3) ↦{fullShare} ownC m c) ∗ (((c : Thread nD τ).loc cc0_scratch4) ↦{fullShare} ownC m (prv c))
      ∗ (((c : Thread nD τ).loc cc0_scratch5) ↦{fullShare} ownC m (nxt c)) ∗ (((c : Thread nD τ).loc cc0_scratch6) ↦{fullShare} ownC m (opp c)) ∗ w8Pts c (w8C m c))
    ⊢ scratch (F := F) c := by
  unfold scratch
  iintro ⟨H0, H1, H2, H3, H4, H5, H6, H7⟩
  isplitl [H0]; · iexists _; iexact H0
  isplitl [H1]; · iexists _; iexact H1
  isplitl [H2]; · iexists _; iexact H2
  isplitl [H3]; · iexists _; iexact H3
  isplitl [H4]; · iexists _; iexact H4
  isplitl [H5]; · iexists _; iexact H5
  isplitl [H6]; · iexists _; iexact H6
  iexists _; iexact H7

/-- The local semaphores put together again. -/
theorem local_intro (c : Dev nD) : iprop((semVal ((c : Thread nD τ), .dma (loadS 0)) 0 ∗ semVal ((c : Thread nD τ), .dma (loadS 1)) 0 ∗ semVal ((c : Thread nD τ), .dma (loadS 2)) 0 ∗ semVal ((c : Thread nD τ), .dma (loadS 3)) 0 ∗ semVal ((c : Thread nD τ), .dma (loadS 4)) 0 ∗ semVal ((c : Thread nD τ), .dma (loadS 5)) 0 ∗ semVal ((c : Thread nD τ), .dma (loadS 6)) 0 ∗ semVal ((c : Thread nD τ), .dma (loadS 7)) 0 ∗ semVal ((c : Thread nD τ), .dma (loadS 8)) 0)
      ∗ semVal ((c : Thread nD τ), .dma (storeS 0)) 0 ∗ semVal ((c : Thread nD τ), .dma (storeS 1)) 0 ∗ semVal ((c : Thread nD τ), .dma (storeS 2)) 0 ∗ semVal ((c : Thread nD τ), .dma (storeS 3)) 0 ∗ semVal ((c : Thread nD τ), .dma (storeS 4)) 0)
    ⊢ (iprop(loads c ∗ stores c) : sProp 𝕄) := by
  unfold loads stores
  rw [loads_eq, stores_eq]

/-- What the body leaves, put together. -/
theorem leave (c : Dev nD) :
    iprop(mid m c [] [] [] [17, 8, 12, 11, 10, 9, 7, 6, 5, 4, 16, 15, 14, 13, 3, 2, 1, 0] [17, 8, 12, 11, 10, 9, 7, 6, 5, 4, 16, 3, 15, 2, 14, 1, 13, 0] ∗ semVal (barCell c) 0 ∗ ldD m c 0 ∗ ldD m c 4 ∗ ldD m c 1 ∗ ldD m c 5 ∗ ldD m c 2 ∗ ldD m c 6 ∗ ldD m c 3 ∗ ldD m c 7 ∗ ldwD m c ∗ sxPts m ρ c ∗ swPts m ρ c ∗ ownPts c 0 1024 shK (ownC m c) ∗ flPts c 512 1024 fullShare.left (ownC m (prv c)) ∗ flPts c 0 1024 fullShare.right (ownC m (prv c)) ∗ frPts c 0 512 fullShare.left (ownC m (nxt c)) ∗ frPts c 0 1024 fullShare.right (ownC m (nxt c)) ∗ opPts c 0 512 fullShare (ownC m (opp c)) ∗ opPts c 512 1024 fullShare (ownC m (opp c)) ∗ w8Pts c (w8C m c) ∗ outD1024 m ρ c 0 (1024 * c.val) ∗ outD1024 m ρ c 1 (1024 * (prv c).val) ∗ outD1024 m ρ c 2 (1024 * (nxt c).val) ∗ outD512 m ρ c 3 (1024 * (opp c).val) ∗ outD512 m ρ c 4 (1024 * (opp c).val + 512))
      ⊢ iprop(Φ₁ m ρ c ∗ owesE (F := F) c 0 ∗ sxPts m ρ c ∗ swPts m ρ c) := by
  iintro ⟨Hm, Hbar, L0, L4, L1, L5, L2, L6, L3, L7, Hw, Hsx, Hsw, Hown, Hfl1, Hflr, Hfr0, Hfrr, Hop0, Hop1, Hw8, O0, O1, O2, O3, O4⟩
  ihave Hm := (exit_mid m c) $$ Hm
  icases Hm with ⟨HO, Hsends, Hrecvs, P0, P1, P2, P3, P4, P5, P6, P7, P8, P9, P10, P11, P12, P13, P14, P15, P16, P17⟩
  ihave Hown := (exit_own m c) $$ [P0 P1 P2 P3 P4 P5 P6 P7 P9 P10 P11 P12 P13 P14 P15 P16 Hown]
  · isplitl [P0]; · iexact P0
    isplitl [P1]; · iexact P1
    isplitl [P2]; · iexact P2
    isplitl [P3]; · iexact P3
    isplitl [P4]; · iexact P4
    isplitl [P5]; · iexact P5
    isplitl [P6]; · iexact P6
    isplitl [P7]; · iexact P7
    isplitl [P9]; · iexact P9
    isplitl [P10]; · iexact P10
    isplitl [P11]; · iexact P11
    isplitl [P12]; · iexact P12
    isplitl [P13]; · iexact P13
    isplitl [P14]; · iexact P14
    isplitl [P15]; · iexact P15
    isplitl [P16]; · iexact P16
    iexact Hown
  ihave Hfl := (exit_fl m c) $$ [P8 Hfl1 Hflr]
  · isplitl [P8]; · iexact P8
    isplitl [Hfl1]; · iexact Hfl1
    iexact Hflr
  ihave Hfr := (exit_fr m c) $$ [P17 Hfr0 Hfrr]
  · isplitl [P17]; · iexact P17
    isplitl [Hfr0]; · iexact Hfr0
    iexact Hfrr
  ihave Hop := (exit_op m c) $$ [Hop0 Hop1]
  · isplitl [Hop0]; · iexact Hop0
    iexact Hop1
  ihave Hx := (exit_x m c) $$ [L0 L1 L2 L3 L4 L5 L6 L7]
  · isplitl [L0]; · iexact L0
    isplitl [L1]; · iexact L1
    isplitl [L2]; · iexact L2
    isplitl [L3]; · iexact L3
    isplitl [L4]; · iexact L4
    isplitl [L5]; · iexact L5
    isplitl [L6]; · iexact L6
    iexact L7
  icases Hx with ⟨Hx, Hxst, S0, S1, S2, S3, S4, S5, S6, S7⟩
  ihave Ho := (exit_out m ρ c) $$ [O0 O1 O2 O3 O4]
  · isplitl [O0]; · iexact O0
    isplitl [O1]; · iexact O1
    isplitl [O2]; · iexact O2
    isplitl [O3]; · iexact O3
    iexact O4
  icases Ho with ⟨Ho, Host, T0, T1, T2, T3, T4⟩
  ihave Hw := (Entails.of_eq (show ldwD m c = iprop(wPts c (wC m c) ∗ wstPts c (wC m c) ∗ semVal ((c : Thread nD τ), .dma (loadS 8)) 0) from by unfold ldwD; rfl)) $$ Hw
  icases Hw with ⟨Hw, Hwst, S8⟩
  ihave Hloc := (local_intro (F := F) c) $$ [S0 S1 S2 S3 S4 S5 S6 S7 S8 T0 T1 T2 T3 T4]
  · isplitl [S0 S1 S2 S3 S4 S5 S6 S7 S8]
    · isplitl [S0]; · iexact S0
      isplitl [S1]; · iexact S1
      isplitl [S2]; · iexact S2
      isplitl [S3]; · iexact S3
      isplitl [S4]; · iexact S4
      isplitl [S5]; · iexact S5
      isplitl [S6]; · iexact S6
      isplitl [S7]; · iexact S7
      iexact S8
    isplitl [T0]; · iexact T0
    isplitl [T1]; · iexact T1
    isplitl [T2]; · iexact T2
    isplitl [T3]; · iexact T3
    iexact T4
  ihave Hscr := (scratch_intro m ρ c) $$ [Hxst Hwst Host Hown Hfl Hfr Hop Hw8]
  · isplitl [Hxst]; · iexact Hxst
    isplitl [Hwst]; · iexact Hwst
    isplitl [Host]; · iexact Host
    isplitl [Hown]; · iexact Hown
    isplitl [Hfl]; · iexact Hfl
    isplitl [Hfr]; · iexact Hfr
    isplitl [Hop]; · iexact Hop
    iexact Hw8
  unfold Φ₁ ends
  isplitl [Hx Hw Ho Hbar Hloc Hsends Hrecvs Hscr]
  · isplitl [Hx Hw Ho]
    · isplitl [Hx]; · iexact Hx
      isplitl [Hw]; · iexact Hw
      iexact Ho
    isplitl [Hbar]; · iexact Hbar
    isplitl [Hloc Hsends Hrecvs]
    · isplitl [Hloc]; · iexact Hloc
      isplitl [Hsends]; · iexact Hsends
      iexact Hrecvs
    iexact Hscr
  isplitl [HO]; · iexact HO
  isplitl [Hsx]; · iexact Hsx
  iexact Hsw

/-! ## The body on one device, from its start to its end -/

set_option maxHeartbeats 800000 in
theorem device (c : Dev nD) (h0 : xM.IsWhole) (h1 : wM.IsWhole) (h2 : sxM.IsWhole) (h3 : swM.IsWhole) (h4 : outM.IsWhole) (h5 : xstM.IsWhole) (h6 : wstM.IsWhole) (h7 : ostM.IsWhole) (h8 : ownM.IsWhole) (h9 : flM.IsWhole) (h10 : frM.IsWhole) (h11 : opM.IsWhole) (h12 : w8M.IsWhole)
    {Kt : PUnit → sProp 𝕄} :
    iprop(Φ₀ m c ∗ owesE (F := F) c (O₀ c) ∗ sxPts m ρ c ∗ swPts m ρ c)
      ⊢ iprop(((Φ₁ m ρ c ∗ owesE (F := F) c 0 ∗ sxPts m ρ c ∗ swPts m ρ c) -∗ Kt ⟨⟩)
        -∗ wp frame (wpE (defs₀ (F := F)) 𝒱₀ (c : Thread nD τ) none) Set.univ (cc0_body xM h0 wM h1 sxM h2 swM h3 outM h4 xstM h5 wstM h6 ostM h7 ownM h8 flM h9 frM h10 opM h11 w8M h12 cc0_scratch8 cc0_scratch9 cc0_scratch10 cc0_scratch11) Kt) := by
  unfold Φ₀ start G' linear payToks scratch
  rw [bigSep_CK]
  iintro ⟨⟨⟨⟨%N, #HR, ⟨Hbarat, Hats, Hatr⟩, ⟨HtokP, HtokN, Htsend, Htrecv⟩, Hloads, Hstores⟩, Hbarcred, Hcr, #Hlev, Hx, Hw, Hout⟩, C0, C1, C2, C3, C4, C5, C6, C7⟩, Howes, Hsx, Hsw⟩ Hk
  ihave Hl := (Entails.of_eq (loads_eq (F := F) c)) $$ Hloads
  icases Hl with ⟨S0, S1, S2, S3, S4, S5, S6, S7, S8⟩
  ihave Hs := (Entails.of_eq (stores_eq (F := F) c)) $$ Hstores
  icases Hs with ⟨T0, T1, T2, T3, T4⟩
  ihave Hsends := (sends_intro (F := F) c) $$ [Htsend Htrecv Hats]
  · isplitl [Htsend]; · iexact Htsend
    isplitl [Htrecv]; · iexact Htrecv
    iexact Hats
  ihave Hrecvs := (recvs_intro (F := F) c) $$ [Hatr Hcr]
  · isplitl [Hatr]; · iexact Hatr
    iexact Hcr
  ihave HL := (enter_x m c) $$ [Hx C0 S0 S1 S2 S3 S4 S5 S6 S7]
  · isplitl [Hx]; · iexact Hx
    isplitl [C0]; · iexact C0
    isplitl [S0]; · iexact S0
    isplitl [S1]; · iexact S1
    isplitl [S2]; · iexact S2
    isplitl [S3]; · iexact S3
    isplitl [S4]; · iexact S4
    isplitl [S5]; · iexact S5
    isplitl [S6]; · iexact S6
    iexact S7
  icases HL with ⟨L0, L1, L2, L3, L4, L5, L6, L7⟩
  ihave HW := (enter_own (F := F) c) $$ C3
  icases HW with ⟨W0, W1, W2, W3, W4, W5, W6, W7⟩
  ihave Hp := (enter_bar (F := F) c) $$ [C4 C5 C6]
  · isplitl [C4]; · iexact C4
    isplitl [C5]; · iexact C5
    iexact C6
  icases Hp with ⟨HpayP, HpayN⟩
  ihave HO := (enter_out (F := F) c (m ((c : Thread nD τ).loc main_v1))) $$ [Hout C2 T0 T1 T2 T3 T4]
  · isplitl [Hout]; · iexact Hout
    isplitl [C2]; · iexact C2
    isplitl [T0]; · iexact T0
    isplitl [T1]; · iexact T1
    isplitl [T2]; · iexact T2
    isplitl [T3]; · iexact T3
    iexact T4
  icases HO with ⟨O0, O1, O2, O3, O4⟩
  iapply (body m ρ N c h0 h1 h2 h3 h4 h5 h6 h7 h8 h9 h10 h11 h12) $$ [Howes HtokP HtokN HpayP HpayN Hbarat Hbarcred Hsends Hrecvs L0 L1 L2 L3 L4 L5 L6 L7 W0 W1 W2 W3 W4 W5 W6 W7 Hsx Hsw O0 O1 O2 O3 O4 Hw C1 S8 C7]
  · isplitr
    · unfold ctx
      isplitr; · iexact HR
      iexact Hlev
    isplitl [Howes]; · iexact Howes
    isplitl [HtokP]; · iexact HtokP
    isplitl [HtokN]; · iexact HtokN
    isplitl [HpayP]; · iexact HpayP
    isplitl [HpayN]; · iexact HpayN
    isplitl [Hbarat]; · iexact Hbarat
    isplitl [Hbarcred]; · iexact Hbarcred
    isplitl [Hsends]; · iexact Hsends
    isplitl [Hrecvs]; · iexact Hrecvs
    isplitl [L0]; · iexact L0
    isplitl [L1]; · iexact L1
    isplitl [L2]; · iexact L2
    isplitl [L3]; · iexact L3
    isplitl [L4]; · iexact L4
    isplitl [L5]; · iexact L5
    isplitl [L6]; · iexact L6
    isplitl [L7]; · iexact L7
    isplitl [W0]; · iexact W0
    isplitl [W1]; · iexact W1
    isplitl [W2]; · iexact W2
    isplitl [W3]; · iexact W3
    isplitl [W4]; · iexact W4
    isplitl [W5]; · iexact W5
    isplitl [W6]; · iexact W6
    isplitl [W7]; · iexact W7
    isplitl [Hw C1 S8]
    · isplitl [Hw]; · iexact Hw
      isplitl [C1]; · iexact C1
      iexact S8
    isplitl [C7]; · iexact C7
    isplitl [Hsx]; · iexact Hsx
    isplitl [Hsw]; · iexact Hsw
    isplitl [O0]; · iexact O0
    isplitl [O1]; · iexact O1
    isplitl [O2]; · iexact O2
    isplitl [O3]; · iexact O3
    iexact O4
  iintro H
  ihave H := (leave m ρ c) $$ H
  iapply Hk
  iexact H

end Cert.KernelIdealProof

end
-- ==== Proof.KernelIdeal.Run.lean ====
/-
The launch: the pipeline's data, its side conditions, and the run of the whole program.
-/
module

public import proofs.«01_k».proof.Proof.KernelIdeal.Device
public import proofs.«01_k».proof.Proof.Gen.KernelIdeal.Points
public import Idealize.ShloMosaic.Lib.Pipeline.CollectiveSegs

@[expose] public section

noncomputable section

namespace Cert.KernelIdealProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-! ## What a device owes at launch -/

theorem bar_eq_iff {a b : Dev nD} : Iff (barCell a = barCell b) (a = b) :=
  ⟨fun h => congrArg (fun g : GSem nD τ sig => g.1.1) h, fun h => h ▸ rfl⟩
theorem recv_eq_iff {a b : Dev nD} {p q : Fin 18} : Iff (recvCell a p = recvCell b q) (a = b ∧ p = q) := by
  constructor
  · intro h
    have h1 : a = b := congrArg (fun g : GSem nD τ sig => g.1.1) h
    have h2 : recvS p = recvS q := SemLoc.dma.inj (congrArg Prod.snd h)
    exact ⟨h1, by rw [← slotOf_recv p, h2, slotOf_recv]⟩
  · rintro ⟨rfl, rfl⟩; rfl
theorem recv_ne_bar (a b : Dev nD) (p : Fin 18) : recvCell a p ≠ barCell b :=
  fun h => nomatch (show SemLoc.dma (recvS p) = SemLoc.reg barS from congrArg Prod.snd h)

theorem oweL_bar (d c : Dev nD) (l : List (Fin 18)) : oweL d l (barCell c) () = 0 :=
  Nat.eq_zero_of_not_pos fun h => by
    obtain ⟨p, -, e⟩ := oweL_pos h
    exact recv_ne_bar _ _ _ e.symm

theorem peer_eq_iff (p : Fin 18) (c d : Dev nD) : Iff (c = peer p d) (d = from' p c) :=
  ⟨fun h => by rw [h, from_peer], fun h => by rw [h, peer_from]⟩

theorem oweL_recv (d c : Dev nD) (p : Fin 18) (l : List (Fin 18)) (hl : l.Nodup) :
    oweL d l (recvCell c p) () = if p ∈ l ∧ d = from' p c then credit p else 0 := by
  induction l with
  | nil => rw [if_neg (fun h => absurd h.1 List.not_mem_nil)]; rfl
  | cons q l ih =>
    rw [List.nodup_cons] at hl
    unfold oweL
    rw [Pi.add_apply, Finsupp.add_apply, tallyAt_apply, ih hl.2]
    by_cases hq : p = q
    · subst hq
      rw [if_neg (fun h => hl.1 h.1), Nat.zero_add]
      by_cases hd : d = from' p c
      · rw [if_pos ⟨recv_eq_iff.mpr ⟨(peer_eq_iff p c d).mpr hd, rfl⟩, rfl⟩, if_pos ⟨List.mem_cons_self, hd⟩]
      · rw [if_neg (fun h => hd ((peer_eq_iff p c d).mp (recv_eq_iff.mp h.1).1)), if_neg (fun h => hd h.2)]
    · rw [if_neg (show ¬ (recvCell c p = recvCell (peer q d) q ∧ () = ()) from fun h => hq (recv_eq_iff.mp h.1).2), Nat.add_zero]
      by_cases hd : p ∈ l ∧ d = from' p c
      · rw [if_pos hd, if_pos ⟨List.mem_cons_of_mem _ hd.1, hd.2⟩]
      · rw [if_neg hd, if_neg (fun h => hd ⟨(List.mem_cons.mp h.1).resolve_left hq, h.2⟩)]

theorem owed_bar (d c : Dev nD) : O₀ d (barCell c) () = (if d = prv c then 1 else 0) + (if d = nxt c then 1 else 0) := by
  unfold O₀ O₁
  rw [Pi.add_apply, Finsupp.add_apply, Pi.add_apply, Finsupp.add_apply, oweL_bar, tallyAt_apply, tallyAt_apply, Nat.zero_add]
  congr 1
  · by_cases h : d = prv c
    · subst h; rw [nxt_prv, if_pos ⟨rfl, rfl⟩, if_pos rfl]
    · rw [if_neg (fun ⟨h1, _⟩ => h (by rw [bar_eq_iff.mp h1, prv_nxt])), if_neg h]
  · by_cases h : d = nxt c
    · subst h; rw [prv_nxt, if_pos ⟨rfl, rfl⟩, if_pos rfl]
    · rw [if_neg (fun ⟨h1, _⟩ => h (by rw [bar_eq_iff.mp h1, nxt_prv])), if_neg h]

theorem mem_order (p : Fin 18) : p ∈ order := by revert p; decide

theorem owed_recv (d c : Dev nD) (p : Fin 18) : O₀ d (recvCell c p) () = if d = from' p c then credit p else 0 := by
  unfold O₀ O₁
  rw [Pi.add_apply, Finsupp.add_apply, Pi.add_apply, Finsupp.add_apply, tallyAt_apply, tallyAt_apply,
    if_neg (fun h => recv_ne_bar _ _ _ h.1), if_neg (fun h => recv_ne_bar _ _ _ h.1), Nat.add_zero,
    oweL_recv d c p order (by decide)]
  by_cases h : d = from' p c
  · rw [if_pos ⟨mem_order p, h⟩, if_pos h]
  · rw [if_neg (fun h' => h h'.2), if_neg h]

/-! ## The launch credit -/

theorem launch_bar (c : Dev nD) :
    tallyOn (barCell c) (launchCredit (Pipeline.owing O₀) 0 (barCell c)) = (tallyAt (barCell c) () 2 : CellTallies nD τ sig Unit) := by
  unfold tallyAt; refine congrArg _ (Finsupp.ext fun u => ?_); cases u
  rw [Pipeline.launchCredit_owing, Finsupp.single_eq_same, Finset.sum_congr rfl fun d _ => owed_bar d c, Finset.sum_add_distrib,
    Finset.sum_ite_eq' Finset.univ (prv c) fun _ => 1, Finset.sum_ite_eq' Finset.univ (nxt c) fun _ => 1, if_pos (Finset.mem_univ _), if_pos (Finset.mem_univ _)]

theorem launch_recv (c : Dev nD) (p : Fin 18) :
    tallyOn (recvCell c p) (launchCredit (Pipeline.owing O₀) 0 (recvCell c p)) = (tallyAt (recvCell c p) () (credit p) : CellTallies nD τ sig Unit) := by
  unfold tallyAt; refine congrArg _ (Finsupp.ext fun u => ?_); cases u
  rw [Pipeline.launchCredit_owing, Finsupp.single_eq_same, Finset.sum_congr rfl fun d _ => owed_recv d c p, Finset.sum_ite_eq' Finset.univ (from' p c) fun _ => credit p,
    if_pos (Finset.mem_univ _)]

def recvLoc : Fin 18 ↪ SemLoc sig := ⟨fun p => .dma (recvS p), fun p q h => by
  have h : recvS p = recvS q := SemLoc.dma.inj h
  rw [← slotOf_recv p, h, slotOf_recv]⟩

theorem creds (c : Dev nD) :
    (Pipeline.launchCred O₀ c : sProp 𝕄) ⊢ iprop(cred (tallyAt (barCell c) () 2) ∗ bigSep Finset.univ fun p : Fin 18 => cred (tallyAt (recvCell c p) () (credit p))) := by
  unfold Pipeline.launchCred
  rw [bigSep_univ_at _ (SemLoc.reg barS), launch_bar]
  refine sep_mono_right ?_
  rw [bigSep_congr (s := Finset.univ) (fun (p : Fin 18) _ => congrArg (fun X => (cred X : sProp 𝕄)) (launch_recv c p).symm)]
  refine (bigSep_subset (t := Finset.univ.map recvLoc) ?_).trans (Entails.of_eq (bigSep_map _))
  intro s hs
  obtain ⟨p, -, rfl⟩ := Finset.mem_map.mp hs
  exact Finset.mem_erase.mpr ⟨fun h => (nomatch (h : SemLoc.dma (recvS p) = SemLoc.reg barS)), Finset.mem_univ _⟩

/-! ## The pipeline's data: one point, the two scales fetched -/

def dats (_ : Fin 1) (c : Dev nD) : Pipeline.Dat τ (Elt F) Unit ℕ UU ℕ cfg0 c where
  A w := (s₀ m ρ).mem ((cfg0.win w).arr.view.loc (c : Thread nD τ))
  after w _ := match w with
    | ⟨0, _⟩ => sxC m ρ c
    | ⟨1, _⟩ => swC m ρ c
  Φ t := match t with
    | ⟨0, _⟩ => Φ₀ m c
    | ⟨_ + 1, _⟩ => Φ₁ m ρ c
  q _ := fullShare
  owed t := match t with
    | ⟨0, _⟩ => O₀ c
    | ⟨_ + 1, _⟩ => 0

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop(Φ₀ m c ∗ (dats m ρ 0 c).owesAt () t0_0.castSucc
    ∗ (∃ d, stg c cc0_stg0_0 ((dats m ρ 0 c).before (0 : Fin 2) t0_0 d))
    ∗ (∃ d, stg c cc0_stg1_0 ((dats m ρ 0 c).before (1 : Fin 2) t0_0 d)))
def bodyPost (c : Dev nD) : sProp 𝕄 :=
  iprop(Φ₁ m ρ c ∗ (dats m ρ 0 c).owesAt () t0_0.succ ∗ stg c cc0_stg0_0 (sxC m ρ c) ∗ stg c cc0_stg1_0 (swC m ρ c))

/-- The body between the pipeline's staging of the scales before and after it. -/
theorem sound_body (c : Dev nD) (h0 : xM.IsWhole) (h1 : wM.IsWhole) (h2 : sxM.IsWhole) (h3 : swM.IsWhole) (h4 : outM.IsWhole) (h5 : xstM.IsWhole) (h6 : wstM.IsWhole) (h7 : ostM.IsWhole) (h8 : ownM.IsWhole) (h9 : flM.IsWhole) (h10 : frM.IsWhole) (h11 : opM.IsWhole) (h12 : w8M.IsWhole) :
    bodyPre m ρ c ⊢ wp frame (wpE (defs₀ (F := F)) 𝒱₀ (c : Thread nD τ) none) Set.univ
      (cc0_body xM h0 wM h1 sxM h2 swM h3 outM h4 xstM h5 wstM h6 ostM h7 ownM h8 flM h9 frM h10 opM h11 w8M h12 cc0_scratch8 cc0_scratch9 cc0_scratch10 cc0_scratch11) (fun _ => bodyPost m ρ c) := by
  unfold bodyPre
  iintro ⟨Hst, Ho, ⟨%d0, %g0, %hg0, Hx⟩, ⟨%d1, %g1, %hg1, Hw⟩⟩
  have hx : g0 = sxC m ρ c := by rw [hg0]; unfold Pipeline.Dat.before; rw [if_pos (fetch0_0 t0_0)]; rfl
  have hw : g1 = swC m ρ c := by rw [hg1]; unfold Pipeline.Dat.before; rw [if_pos (fetch0_1 t0_0)]; rfl
  subst hx hw
  unfold Pipeline.Dat.owesAt Pipeline.owesWithin
  icases Ho with ⟨%W, %hW, HO⟩
  rw [show (dats m ρ 0 c).owed t0_0.castSucc = O₀ c from rfl]
  ihave HO := (owesE_intro c (O₀ c) W) $$ HO
  iapply (device m ρ c h0 h1 h2 h3 h4 h5 h6 h7 h8 h9 h10 h11 h12) $$ [Hst HO Hx Hw]
  · isplitl [Hst]; · iexact Hst
    isplitl [HO]; · iexact HO
    isplitl [Hx]; · iexact Hx
    iexact Hw
  iintro ⟨HP, HO, Hx, Hw⟩
  ihave HO := (Entails.of_eq (owesE_eq c 0)) $$ HO
  icases HO with ⟨%W', HO⟩
  unfold bodyPost Pipeline.Dat.owesAt Pipeline.owesWithin
  rw [show (dats m ρ 0 c).owed t0_0.succ = 0 from rfl]
  isplitl [HP]; · iexact HP
  isplitl [HO]
  · iexists W'
    isplitr; · ipureintro; exact fun _ _ => Or.inl trivial
    iexact HO
  isplitl [Hx]
  · iexists _; isplitr; · (ipureintro; rfl)
    iexact Hx
  iexists _; isplitr; · (ipureintro; rfl)
  iexact Hw

set_option maxRecDepth 8000 in
/-- The pipeline's obligation on the body of core `c`. -/
theorem body_obligation (c : Dev nD) : Pipeline.BodyObligation (dats (F := F) m ρ 0 c) (defs₀ (F := F)) 𝒱₀ () Set.univ := fun t => by
  rw [fin_N0 t]
  rw [bigSep_W0, bigSep_W0]
  simp only [owns_whole_eq]
  exact sound_body m ρ c (Memref.isWhole_whole _) (Memref.isWhole_whole _) (Memref.isWhole_whole _) (Memref.isWhole_whole _) (Memref.isWhole_whole _) (Memref.isWhole_whole _) (Memref.isWhole_whole _)
    (Memref.isWhole_whole _) (Memref.isWhole_whole _) (Memref.isWhole_whole _) (Memref.isWhole_whole _) (Memref.isWhole_whole _) (Memref.isWhole_whole _)

/-! ## The launch theorem's side conditions -/

theorem share_eq (c : Dev nD) (w : Fin cfg0.W) : (dats m ρ 0 c).share w = fullShare := by unfold Pipeline.Dat.share; split <;> rfl

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  rw [Pipeline.unscopedRestP_none, unscopedRest0_eq]
  iintro ⟨⟨Hx, Hw, Ho⟩, Hlev, Hcr, -, HG⟩
  ihave Hc := (creds (F := F) c) $$ Hcr
  icases Hc with ⟨H1, HN⟩
  imodintro
  unfold start
  isplitl
  · isplitl [HG]; · iexact HG
    isplitl [H1]; · iexact H1
    isplitl [HN]; · iexact HN
    isplitl [Hlev]; · iexact Hlev
    isplitl [Hx]; · iexact Hx
    isplitl [Hw]; · iexact Hw
    iexact Ho
  · iempintro

theorem scopedRest_scratch (c : Dev nD) : (Pipeline.scopedRest (Ix := Unit) (Name := ℕ) (U := UU) (Lvl := ℕ) (Val := Elt F) (τ := τ) spec0 c : sProp 𝕄) = scratch (F := F) c := by
  rw [scopedRest0_eq]; rfl

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest_scratch]
  unfold Φ₀
  iintro ⟨Hs, -, Hr⟩
  isplitl [Hs]; · iexact Hs
  iexact Hr

theorem phi1_exit (c : Dev nD) :
    (dats m ρ 0 c).Φ (Fin.last cfg0.N) ⊢ iprop((unscopedSems0 c ∗ ends m ρ c) ∗ Pipeline.ownSems0 osem c ∗ Pipeline.scopedRest cfg0.spec c) := by
  rw [show (dats m ρ 0 c).Φ (Fin.last cfg0.N) = Φ₁ m ρ c from rfl, scopedRest_scratch, ownSems0_eq, unscopedSems0_eq]
  unfold Φ₁
  iintro ⟨He, HB, Hsem, Hr⟩
  isplitl [He HB]
  · isplitl [HB]; · iexact HB
    iexact He
  isplitl [Hsem]; · iexact Hsem
  iexact Hr

theorem waits (c : Dev nD) : (levAts L lv : sProp 𝕄) ⊢ Pipeline.cellsWaits cfgs (dats m ρ) () 0 c :=
  Pipeline.cellsWaits_intro cfgs (dats m ρ) () 0 c fun w s t => by
    have hs : lvS (.dma ((cfg0.win w).sem s)) = 0 := by fin_cases w <;> fin_cases s <;> decide
    rcases t with ⟨_ | _, ht⟩
    · exact mayWait_O₀ c _ hs
    · exact mayWait_none c _

/-! ## The run -/

/-- What device `c`'s arrays hold at the end. -/
def QC : PUnit × MemSt nD τ sig (Elt F) → Prop := fun r => ∀ c : Dev nD,
  r.2.mem ((c : Thread nD τ).loc main_v1) = outC m ρ c
  ∧ r.2.mem ((c : Thread nD τ).loc main_arg0) = m ((c : Thread nD τ).loc main_arg0)
  ∧ r.2.mem ((c : Thread nD τ).loc main_arg1) = m ((c : Thread nD τ).loc main_arg1)
  ∧ r.2.mem ((c : Thread nD τ).loc main_arg2) = m ((c : Thread nD τ).loc main_arg2)
  ∧ r.2.mem ((c : Thread nD τ).loc main_arg3) = m ((c : Thread nD τ).loc main_arg3)

/-- A whole buffer held tells what the memory holds. -/
theorem read_one (ℓ : Loc nD τ sig) (f : Buf (Elt F) ℓ) (s' : Phys nD τ sig (Elt F)) :
    iprop((ℓ ↦{fullShare} f) ∗ SI s') ⊢ (iprop(⌜s'.mem.mem ℓ = f⌝ ∗ SI s') : sProp 𝕄) := by
  iintro ⟨H, HSI⟩
  ihave H := (pointsTo_read_all (Finset.univ : Finset Unit) (fun _ => ℓ) (fun _ => f) s') $$ [H HSI]
  · isplitl [H]
    · iapply (Entails.of_eq (show (ℓ ↦{fullShare} f : sProp 𝕄) = bigSep (Finset.univ : Finset Unit) fun _ => (ℓ ↦{fullShare} f : sProp 𝕄) from
        (bigSep_univ_eq_bigSepL [()] (by decide) (by decide) (fun _ : Unit => (ℓ ↦{fullShare} f : sProp 𝕄))).symm))
      iexact H
    iexact HSI
  icases H with ⟨%h, HSI⟩
  isplitr
  · ipureintro; exact h () (Finset.mem_univ _)
  iexact HSI

def QY (c : Dev nD) (s : MemSt nD τ sig (Elt F)) : Prop :=
  (∀ sm : SemLoc sig, sm.isScoped .tc = false → s.sem ((c.tc : Thread nD τ), sm) = 0)
  ∧ s.mem ((c : Thread nD τ).loc main_arg0) = m ((c : Thread nD τ).loc main_arg0)
  ∧ s.mem ((c : Thread nD τ).loc main_arg1) = m ((c : Thread nD τ).loc main_arg1)
  ∧ s.mem ((c : Thread nD τ).loc main_v1) = outC m ρ c

theorem final_read (c : Dev nD) (s' : Phys nD τ sig (Elt F)) :
    iprop((unscopedSems0 c ∗ ends m ρ c) ∗ emp ∗ SI s') ⊢ (|={Set.univ}=> iprop(⌜QY m ρ c s'.mem⌝ ∗ SI s') : sProp 𝕄) := by
  unfold ends
  iintro ⟨⟨Hu, H0, H1, H2⟩, -, HSI⟩
  ihave H := (read_one _ _ s') $$ [H0 HSI]
  · isplitl [H0]; · iexact H0
    iexact HSI
  icases H with ⟨%e0, HSI⟩
  ihave H := (read_one _ _ s') $$ [H1 HSI]
  · isplitl [H1]; · iexact H1
    iexact HSI
  icases H with ⟨%e1, HSI⟩
  ihave H := (read_one _ _ s') $$ [H2 HSI]
  · isplitl [H2]; · iexact H2
    iexact HSI
  icases H with ⟨%e2, HSI⟩
  imod (Pipeline.unscopedSems0_read (X := unscopedSems0 c) (c := c) fupd_intro s') $$ [Hu HSI] with ⟨%hu, HSI⟩
  · isplitl [Hu]; · iexact Hu
    iexact HSI
  imodintro
  isplitr
  · ipureintro; exact ⟨hu, e0, e1, e2⟩
  iexact HSI

def finalA (c : Dev nD) (w : Fin cfg0.W) : Buf (Elt F) ((cfg0.win w).arr.view.loc (c : Thread nD τ)) := (dats m ρ 0 c).arrAt w cfg0.N
theorem finalA_0 (c : Dev nD) : finalA m ρ c (0 : Fin 2) = (s₀ m ρ).mem (win0_0.arr.view.loc (c : Thread nD τ)) :=
  (dats (F := F) m ρ 0 c).arrAt_in (0 : Fin 2) rfl _
theorem finalA_1 (c : Dev nD) : finalA m ρ c (1 : Fin 2) = (s₀ m ρ).mem (win0_1.arr.view.loc (c : Thread nD τ)) :=
  (dats (F := F) m ρ 0 c).arrAt_in (1 : Fin 2) rfl _

set_option maxRecDepth 8000 in
/-- On the mesh of four devices, for any float values, from any memory with zero counters: every weakly fair execution of
    @main terminates, and every final state has each device's result array at the computed contents, the arguments unchanged and
    every semaphore counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      iintro Hu
      ihave H := (u₀_split (F := F)) $$ Hu
      icases H with ⟨HP, HX⟩
      imod (fund_ring m) $$ HX with HG
      imodintro
      isplitl [HP]; · iexact HP
      iexact HG)
    (hglob := glob m)
    (hA := fun _ _ => rfl) (hpf := fun _ k => k.elim0)
    (X := start m) (Y := fun c => iprop(unscopedSems0 c ∗ ends m ρ c)) (Z := fun _ => iprop(emp))
    (hX := start_intro m ρ) (hin := phi0_intro m ρ) (hout := phi1_exit m ρ)
    (QY := QY m ρ)
    (hY := final_read m ρ)
    (hQ := fun s h hs => ⟨fun c => ⟨(h c).2.2.2.2.2, (h c).2.2.2.1, (h c).2.2.2.2.1,
        ((h c).1 (0 : Fin 2)).trans (finalA_0 m ρ c), ((h c).1 (1 : Fin 2)).trans (finalA_1 m ρ c)⟩, sem_eq_zero hs fun c => (h c).2.2.1⟩)

end Cert.KernelIdealProof

end
-- ==== Proof.KernelIdeal.Value.lean ====
/-
Over the reals each device's result is its block of columns of the reference's: both are the product of `x` and `w`
scaled by the product of the two scales, and each device's result has its block rows from the devices' blocks of `x`.
-/
module

public import proofs.«01_k».proof.Proof.KernelIdeal.Result
public import proofs.«01_k».proof.Proof.Gen.ReferenceIdeal.Run
public import Idealize.ShloMosaic.Lib.Layout
public import Idealize.ShloMosaic.Lib.MatmulPlain
public import Idealize.ShloMosaic.Lib.StackMember

@[expose] public section

noncomputable section

namespace Cert.KernelIdealProof

open Cert.KernelIdeal Cert.KernelIdeal.Gen
open Idealize.ShloMosaic
open Idealize.ShloMosaic.TcCoe
open Idealize.SL.Sem
open scoped BigOperators

/-! ## The kernel's products at an index -/

/-- A product of a whole block with the device's columns, scaled, at row `r` and column `j`. -/
theorem pay12_apply (s : Ideal .f32) (x : S1024x4096.Idx → Elt Ideal .fp8e4m3) (w : S4096x512.Idx → Elt Ideal .fp8e5m2) (r : Fin 1024) (j : Fin 512) :
    k0_pay12 (F := Ideal) s x w (ix2 r j) = ((∑ k : Fin 4096, (x (ix2 r k) : EReal) * (w (ix2 k j) : EReal)) * s : EReal) := by
  have h := Ideal.matmul_plain_apply (M := 1024) (K := 4096) (N := 512) (φ₁ := .fp8e4m3) (φ₂ := .fp8e5m2) none x w (constant S1024x512 .f32 0x00000000#32) r j
  have hz : (constant (F := Ideal) S1024x512 .f32 0x00000000#32 : FVec Ideal S1024x512 .f32) (ValueIdx.ix2 r j) = (0 : EReal) := Ideal.ofBits_zero_f32
  rw [hz, zero_add] at h
  unfold k0_pay12
  rw [shapeCast_self]
  exact congrArg (fun z : EReal => z * (s : EReal)) h

/-- The same of half a block. -/
theorem pay16_apply (s : Ideal .f32) (x : S512x4096.Idx → Elt Ideal .fp8e4m3) (w : S4096x512.Idx → Elt Ideal .fp8e5m2) (r : Fin 512) (j : Fin 512) :
    k0_pay16 (F := Ideal) s x w (ix2 r j) = ((∑ k : Fin 4096, (x (ix2 r k) : EReal) * (w (ix2 k j) : EReal)) * s : EReal) := by
  have h := Ideal.matmul_plain_apply (M := 512) (K := 4096) (N := 512) (φ₁ := .fp8e4m3) (φ₂ := .fp8e5m2) none x w (constant S512x512 .f32 0x00000000#32) r j
  have hz : (constant (F := Ideal) S512x512 .f32 0x00000000#32 : FVec Ideal S512x512 .f32) (ValueIdx.ix2 r j) = (0 : EReal) := Ideal.ofBits_zero_f32
  rw [hz, zero_add] at h
  unfold k0_pay16
  rw [shapeCast_self]
  exact congrArg (fun z : EReal => z * (s : EReal)) h

variable (m : (ℓ : Loc nD τ sig) → Buf (Elt Ideal) ℓ) (ρ : Dev nD → PrngReg)

/-- A load of rows `a` and on of a block reads row `a + r` at row `r`. -/
theorem half_apply (d : Dev nD) (a : ℕ) (inb : ∀ x, (![a, 0] : Fin 2 → ℕ) x + S512x4096.size x ≤ S1024x4096.size x) (r : Fin 512) (k : Fin 4096) (h : a + r.val < 1024) :
    opM.view.readAt (Elt Ideal) (Rect.unit (s := S1024x4096) ![a, 0] S512x4096.size inb).toLoadRect (ownC m d) (ix2 r k) = ownC m d (ix2 ⟨a + r.val, h⟩ k) := by
  have h0 : ((Rect.unit (s := S1024x4096) ![a, 0] S512x4096.size inb).emb (ix2 r k) (0 : Fin 2)).val = a + r.val :=
    ValueKit.rect_emb_unit_val (s := S1024x4096) ![a, 0] S512x4096.size inb (ix2 r k) 0
  have h1 : ((Rect.unit (s := S1024x4096) ![a, 0] S512x4096.size inb).emb (ix2 r k) (1 : Fin 2)).val = 0 + k.val :=
    ValueKit.rect_emb_unit_val (s := S1024x4096) ![a, 0] S512x4096.size inb (ix2 r k) 1
  show ownC m d ((Rect.unit (s := S1024x4096) ![a, 0] S512x4096.size inb).emb (ix2 r k)) = _
  exact congrArg (ownC m d) (ix2_of_val _ _ _ h0.symm (by rw [h1, Nat.zero_add])).symm

/-- The scales device `c` is given. -/
def sxA (c : Dev nD) : S1.Idx → Elt Ideal .f32 := m ((c : Thread nD τ).loc main_arg2)
def swA (c : Dev nD) : S1.Idx → Elt Ideal .f32 := m ((c : Thread nD τ).loc main_arg3)

/-- The scales read through their windows are the scales. -/
theorem sv_eq (c : Dev nD) : sv m ρ c
    = ((sxA m c (ix1 (n0 := 1) 0) : EReal) * (swA m c (ix1 (n0 := 1) 0) : EReal) : EReal) := by
  have e : ∀ i j : S1.Idx, i = j := fun i j => funext fun a => Fin.ext (by
    have hi := (i a).isLt; have hj := (j a).isLt
    have hs : S1.size a = 1 := by fin_cases a; rfl
    omega)
  unfold sv sxC swC
  exact congrArg₂ (fun a b : EReal => a * b) (congrArg (sxA m c) (e _ _)) (congrArg (swA m c) (e _ _))

/-- Device `c`'s result at row `1024 d + r` and column `j`: row `r` of device `d`'s block of `x` against column `j` of the
    device's own block of `w`, scaled. -/
theorem outC_apply (c d : Dev nD) (r : Fin 1024) (j : Fin 512) (i : S4096x512.Idx) (h0 : (i (0 : Fin 2)).val = 1024 * d.val + r.val) (h1 : (i (1 : Fin 2)).val = j.val) :
    outC m ρ c i = ((∑ k : Fin 4096, (xC m d (ix2 r k) : EReal) * (wC m c (ix2 k j) : EReal)) * sv m ρ c : EReal) := by
  have hr := r.isLt
  have hq : (i (0 : Fin 2)).val / 1024 = d.val := by omega
  have hm : (i (0 : Fin 2)).val % 1024 = r.val := by omega
  have hj : i (1 : Fin 2) = j := Fin.ext h1
  unfold outC
  by_cases hd : d = opp c
  · subst hd
    rw [if_pos hq, hm]
    by_cases hl : r.val < 512
    · rw [if_pos hl]
      have hrow : (⟨(i (0 : Fin 2)).val % 512, Nat.mod_lt _ (by decide)⟩ : Fin 512) = ⟨r.val, hl⟩ := Fin.ext (show (i (0 : Fin 2)).val % 512 = r.val by omega)
      rw [hrow, hj]
      refine (pay16_apply _ _ _ _ _).trans (congrArg (fun z : EReal => z * (sv m ρ c : EReal)) (Finset.sum_congr rfl fun k _ => ?_))
      refine congrArg (fun z : EReal => z * (w8C m c (ix2 k j) : EReal)) ?_
      refine (half_apply m (opp c) 0 _ ⟨r.val, hl⟩ k (by show 0 + r.val < 1024; omega)).trans ?_
      exact congrArg (fun q : Fin 1024 => ownC m (opp c) (ix2 q k)) (Fin.ext (Nat.zero_add _))
    · rw [if_neg hl]
      have hrow : (⟨(i (0 : Fin 2)).val % 512, Nat.mod_lt _ (by decide)⟩ : Fin 512) = ⟨r.val - 512, by omega⟩ := Fin.ext (show (i (0 : Fin 2)).val % 512 = r.val - 512 by omega)
      rw [hrow, hj]
      refine (pay16_apply _ _ _ _ _).trans (congrArg (fun z : EReal => z * (sv m ρ c : EReal)) (Finset.sum_congr rfl fun k _ => ?_))
      refine congrArg (fun z : EReal => z * (w8C m c (ix2 k j) : EReal)) ?_
      refine (half_apply m (opp c) 512 _ ⟨r.val - 512, by omega⟩ k (by show 512 + (r.val - 512) < 1024; omega)).trans ?_
      exact congrArg (fun q : Fin 1024 => ownC m (opp c) (ix2 q k)) (Fin.ext (by show 512 + (r.val - 512) = r.val; omega))
  · rw [if_neg (fun h => hd (Fin.ext (hq.symm.trans h)))]
    have hdev : (⟨(i (0 : Fin 2)).val / 1024, Nat.div_lt_of_lt_mul (i (0 : Fin 2)).isLt⟩ : Dev nD) = d := Fin.ext hq
    have hrow : (⟨(i (0 : Fin 2)).val % 1024, Nat.mod_lt _ (by decide)⟩ : Fin 1024) = r := Fin.ext hm
    rw [hdev, hrow, hj]
    exact pay12_apply _ _ _ _ _

/-! ## The reference's result -/

/-- The reference's result from its arguments. -/
def refOut (x : FVec Ideal Cert.ReferenceIdeal.S4096x4096 .f32) (w : FVec Ideal Cert.ReferenceIdeal.S4096x2048 .f32) (sx sw : FVec Ideal Cert.ReferenceIdeal.S1 .f32) :
    FVec Ideal Cert.ReferenceIdeal.S4096x2048 .f32 :=
  mulf (Host.dotGeneral Cert.ReferenceIdeal.dot_S4096x4096_S4096x2048_S4096x2048_1_0_0_1_n_n none x w)
    (broadcastInDim Cert.ReferenceIdeal.S4096x2048 ![0, 1] Cert.ReferenceIdeal.Gen.bcast_S1x1_S4096x2048_0_1
      (broadcastInDim Cert.ReferenceIdeal.S1x1 ![1] Cert.ReferenceIdeal.Gen.bcast_S1_S1x1_1 (mulf sx sw)))

/-- The reference's result at an index: the row of `x` against the column of `w`, scaled. -/
theorem refOut_apply (x : FVec Ideal Cert.ReferenceIdeal.S4096x4096 .f32) (w : FVec Ideal Cert.ReferenceIdeal.S4096x2048 .f32) (sx sw : FVec Ideal Cert.ReferenceIdeal.S1 .f32)
    (R : Fin 4096) (J : Fin 2048) : refOut x w sx sw (ix2 R J)
      = ((∑ k : Fin 4096, (x (ix2 R k) : EReal) * (w (ix2 k J) : EReal)) * ((sx (ix1 (n0 := 1) 0) : EReal) * (sw (ix1 (n0 := 1) 0) : EReal)) : EReal) := by
  have h := StackMember.dotGeneral_plain_apply (m := 4096) (k := 4096) (n := 2048) (φ₁ := .f32) (φ₂ := .f32) none x w R J
  have hb : broadcastInDim Cert.ReferenceIdeal.S4096x2048 ![0, 1] Cert.ReferenceIdeal.Gen.bcast_S1x1_S4096x2048_0_1
      (broadcastInDim Cert.ReferenceIdeal.S1x1 ![1] Cert.ReferenceIdeal.Gen.bcast_S1_S1x1_1 (mulf sx sw)) (ix2 R J) = mulf sx sw (ix1 (n0 := 1) 0) := by
    rw [broadcastInDim_apply _ _ _ _ (ix2 (n0 := 1) (n1 := 1) 0 0) (fun a => by fin_cases a <;> rfl),
      broadcastInDim_apply _ _ _ _ (ix1 (n0 := 1) 0) (fun a => by fin_cases a; rfl)]
  exact congrArg₂ (fun a b : EReal => a * b) h hb

/-! ## The equation -/

/-- Device `c`'s result is its block of columns of the reference's. -/
theorem outC_eq (c : Dev nD) (x : FVec Ideal Cert.ReferenceIdeal.S4096x4096 .f32) (w : FVec Ideal Cert.ReferenceIdeal.S4096x2048 .f32) (sx sw : FVec Ideal Cert.ReferenceIdeal.S1 .f32)
    (hx : ∀ d : Dev nD, m ((d : Thread nD τ).loc main_arg0) = Layout.block ⟨2, ![1024, 4096]⟩ ⟨2, ![4096, 4096]⟩ 0 4 d x)
    (hw : m ((c : Thread nD τ).loc main_arg1) = Layout.block ⟨2, ![4096, 512]⟩ ⟨2, ![4096, 2048]⟩ 1 4 c w)
    (hsx : m ((c : Thread nD τ).loc main_arg2) = sx) (hsw : m ((c : Thread nD τ).loc main_arg3) = sw) :
    outC m ρ c = Layout.block ⟨2, ![4096, 512]⟩ ⟨2, ![4096, 2048]⟩ 1 4 c (refOut x w sx sw) := by
  funext i
  have hi0 : (i (0 : Fin 2)).val < 4096 := (i (0 : Fin 2)).isLt
  have hi1 : (i (1 : Fin 2)).val < 512 := (i (1 : Fin 2)).isLt
  have hc : c.val < 4 := c.isLt
  have hR : (Layout.block ⟨2, ![4096, 512]⟩ ⟨2, ![4096, 2048]⟩ 1 4 c (refOut x w sx sw)) i
      = refOut x w sx sw (ix2 ⟨(i (0 : Fin 2)).val, hi0⟩ ⟨c.val * 512 + (i (1 : Fin 2)).val, by omega⟩) :=
    congrArg (refOut x w sx sw) (ix2_of_val _ _ _ rfl rfl).symm
  rw [hR, refOut_apply, outC_apply m ρ c ⟨(i (0 : Fin 2)).val / 1024, by show _ < 4; omega⟩ ⟨(i (0 : Fin 2)).val % 1024, Nat.mod_lt _ (by decide)⟩ ⟨(i (1 : Fin 2)).val, hi1⟩ i
    (by show _ = 1024 * ((i (0 : Fin 2)).val / 1024) + (i (0 : Fin 2)).val % 1024; omega) rfl, sv_eq,
    show sxA m c = sx from hsx, show swA m c = sw from hsw]
  refine congrArg (fun z : EReal => z * ((sx (ix1 (n0 := 1) 0) : EReal) * (sw (ix1 (n0 := 1) 0) : EReal))) (Finset.sum_congr rfl fun k _ => ?_)
  refine congrArg₂ (fun a b : EReal => a * b) ((congrFun (hx _) _).trans (congrArg x ?_)) ((congrFun hw _).trans (congrArg w ?_))
  · exact (ix2_of_val _ _ _ (show (i (0 : Fin 2)).val = (i (0 : Fin 2)).val / 1024 * 1024 + (i (0 : Fin 2)).val % 1024 by omega) rfl).symm
  · exact (ix2_of_val _ _ _ rfl rfl).symm

end Cert.KernelIdealProof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Kernel.Run
public import proofs.«01_k».proof.Proof.KernelIdeal.Run
public import proofs.«01_k».proof.Proof.KernelIdeal.Value
public import Idealize.ShloMosaic.Adequacy
public import Idealize.ShloMosaic.Init

@[expose] public section

noncomputable section

namespace Cert.Proof

open Idealize.ShloMosaic Idealize.SL.Sem Cert.Kernel

/-- The kernel runs from any memory with its counters at zero, ends with its arguments as given and with its counters at
    zero again. -/
theorem quiescent_kernel : quiescent_Kernel (hKernel := Cert.Kernel.Gen.facts) := fun m g _ =>
  (θ_run _ _ _).mono (fun _ h => ⟨fun c => (h.1 c).2, h.2⟩) (Cert.KernelProof.run_main m g)

/-- The same over the reals. -/
theorem quiescent_kernelIdeal : quiescent_KernelIdeal (hKernelIdeal := Cert.KernelIdeal.Gen.facts) := fun m g _ =>
  (θ_run _ _ _).mono (fun _ h => ⟨fun c => (h.1 c).2, h.2⟩) (Cert.KernelIdealProof.run_main m g)

/-- The reference has no counter, so its run's end has every counter at zero. -/
theorem quiescent_referenceIdeal : quiescent_ReferenceIdeal (hReferenceIdeal := Cert.ReferenceIdeal.Gen.facts) := fun m g _ =>
  (θ_run _ _ _).mono (fun r h => ⟨fun c => (h c).2, Idealize.ShloMosaic.sem_eq_zero_of_no_sems (by decide) r.2⟩)
    (Cert.ReferenceIdeal.Value.run m g)

/-- Every device's result is its block of columns of the reference's result. -/
theorem algebraic : algebraic_KernelIdeal_ReferenceIdeal (hKernelIdeal := Cert.KernelIdeal.Gen.facts) (hReferenceIdeal := Cert.ReferenceIdeal.Gen.facts) :=
  fun m g m' g' _ hm =>
    ⟨_, (θ_run _ _ _).mono
        (fun _ h c => ⟨((h.1 c).1).trans (Cert.KernelIdealProof.outC_eq m g c _ _ _ _ (fun d => (hm d).1) (hm c).2.1 (hm c).2.2.1 (hm c).2.2.2), (h.1 c).2⟩)
        (Cert.KernelIdealProof.run_main m g),
      (θ_run _ _ _).mono (fun _ h => h 0) (Cert.ReferenceIdeal.Value.run m' g')⟩

theorem claim : Cert.Claim := ⟨Cert.Kernel.Gen.facts, Cert.KernelIdeal.Gen.facts, Cert.ReferenceIdeal.Gen.facts,
  quiescent_kernel, quiescent_kernelIdeal, quiescent_referenceIdeal, trivial, algebraic⟩

end Cert.Proof

end
